-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x2048 : Shape := ⟨2, ![1024, 2048]⟩
abbrev S2048x16384 : Shape := ⟨2, ![2048, 16384]⟩
abbrev S_ : Shape := ⟨0, ![]⟩

class Facts : Prop where
  bcast_S_S1024x2048 : S_.BroadcastsInDim S1024x2048 (![] : Fin 0 → Fin S1024x2048.rank)
  bcast_S_S2048x16384 : S_.BroadcastsInDim S2048x16384 (![] : Fin 0 → Fin S2048x16384.rank)

variable [Facts]

def fn {F : FTy → Type} [FloatOps F] (main_arg0 : FVec F S1024x2048 .f32) (main_arg1 : FVec F S2048x16384 .f32) : IVec S1024x2048 1 × IVec S2048x16384 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x16384 .f32 := Host.absf main_arg1
  let main_cst_0 : FVec F S_ .f32 := constant S_ .f32 0x7F800000#32
  let main_v4 : FVec F S2048x16384 .f32 := broadcastInDim S2048x16384 ![] bcast_S_S2048x16384 main_cst_0
  let main_v5 : IVec S2048x16384 1 := cmpf .olt main_v3 main_v4
  (main_v2, main_v5)
-- ==== Pre_finite_ReferenceIdeal.lean ====
abbrev S1024x2048 : Shape := ⟨2, ![1024, 2048]⟩
abbrev S2048x32768 : Shape := ⟨2, ![2048, 32768]⟩
abbrev S_ : Shape := ⟨0, ![]⟩

class Facts : Prop where
  bcast_S_S1024x2048 : S_.BroadcastsInDim S1024x2048 (![] : Fin 0 → Fin S1024x2048.rank)
  bcast_S_S2048x32768 : S_.BroadcastsInDim S2048x32768 (![] : Fin 0 → Fin S2048x32768.rank)

variable [Facts]

def fn {F : FTy → Type} [FloatOps F] (main_arg0 : FVec F S1024x2048 .f32) (main_arg1 : FVec F S2048x32768 .f32) : IVec S1024x2048 1 × IVec S2048x32768 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x32768 .f32 := Host.absf main_arg1
  let main_cst_0 : FVec F S_ .f32 := constant S_ .f32 0x7F800000#32
  let main_v4 : FVec F S2048x32768 .f32 := broadcastInDim S2048x32768 ![] bcast_S_S2048x32768 main_cst_0
  let main_v5 : IVec S2048x32768 1 := cmpf .olt main_v3 main_v4
  (main_v2, main_v5)
-- ==== Kernel.lean ====
abbrev S1024x2048 : Shape := ⟨2, ![1024, 2048]⟩
abbrev S2048x16384 : Shape := ⟨2, ![2048, 16384]⟩
abbrev S1024x32768 : Shape := ⟨2, ![1024, 32768]⟩
abbrev S1024x16384 : Shape := ⟨2, ![1024, 16384]⟩
abbrev S2x2048x1024 : Shape := ⟨3, ![2, 2048, 1024]⟩
abbrev S2x1024x1024 : Shape := ⟨3, ![2, 1024, 1024]⟩
abbrev S128x16384 : Shape := ⟨2, ![128, 16384]⟩
abbrev S32x16384 : Shape := ⟨2, ![32, 16384]⟩
abbrev S2 : Shape := ⟨1, ![2]⟩
abbrev S3 : Shape := ⟨1, ![3]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S1024x1024 : Shape := ⟨2, ![1024, 1024]⟩
abbrev S1x1024x1024 : Shape := ⟨3, ![1, 1024, 1024]⟩
abbrev S32 : Shape := ⟨1, ![32]⟩
abbrev S32x1 : Shape := ⟨2, ![32, 1]⟩

abbrev nBuf : Space → Nat
  | .hbm => 5
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024x32768, .f32⟩
  | .hbm, ⟨3, _⟩ => ⟨S1024x16384, .bf16⟩
  | .hbm, ⟨4, _⟩ => ⟨S1024x16384, .bf16⟩
  | .local _ .vmem, ⟨0, _⟩ => ⟨S1024x2048, .f32⟩
  | .local _ .vmem, ⟨1, _⟩ => ⟨S1024x2048, .bf16⟩
  | .local _ .vmem, ⟨2, _⟩ => ⟨S2x2048x1024, .f32⟩
  | .local _ .vmem, ⟨3, _⟩ => ⟨S2x1024x1024, .bf16⟩
  | .local _ .vmem, ⟨4, _⟩ => ⟨S128x16384, .bf16⟩
  | .local _ .vmem, ⟨5, _⟩ => ⟨S128x16384, .bf16⟩
  | .local _ .vmem, ⟨6, _⟩ => ⟨S32x16384, .f32⟩
  | .local _ .vmem, ⟨7, _⟩ => ⟨S32x16384, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_31 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_30 : BitVec 32 := 8#32
  let v49 : BitVec 32 := Scalar.muli v44 c8_i32_30
  let v50 : BitVec 32 := Scalar.addi c0_i32_31 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v51 : BitVec 32 := Scalar.muli v5 c4_i32_32
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v53 : BitVec 32 := Scalar.muli v8 c1_i32_33
  let v54 : BitVec 32 := Scalar.addi v52 v53
  v54.toNat
def k0_dev2 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v55 : BitVec 32 := Scalar.muli v2 c8_i32_35
  let v56 : BitVec 32 := Scalar.addi c0_i32_36 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_37 : BitVec 32 := 4#32
  let v57 : BitVec 32 := Scalar.muli v24 c4_i32_37
  let v58 : BitVec 32 := Scalar.addi v56 v57
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_38 : BitVec 32 := 1#32
  let v59 : BitVec 32 := Scalar.muli v27 c1_i32_38
  let v60 : BitVec 32 := Scalar.addi v58 v59
  v60.toNat
def k0_dev3 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v61 : BitVec 32 := Scalar.muli v2 c8_i32_40
  let v62 : BitVec 32 := Scalar.addi c0_i32_41 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_42 : BitVec 32 := 4#32
  let v63 : BitVec 32 := Scalar.muli v40 c4_i32_42
  let v64 : BitVec 32 := Scalar.addi v62 v63
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_43 : BitVec 32 := 1#32
  let v65 : BitVec 32 := Scalar.muli v43 c1_i32_43
  let v66 : BitVec 32 := Scalar.addi v64 v65
  v66.toNat
@[reducible] def k0_t1_loop : Scf.Loop 32 :=
  let c0_i32_53 : BitVec 32 := 0#32
  let c16_i32 : BitVec 32 := 16#32
  let v78 : BitVec 32 := Scalar.addi c0_i32_53 c16_i32
  let c1_i32_54 : BitVec 32 := 1#32
  ⟨c0_i32_53, v78, c1_i32_54⟩
def k0_cond1 (k0_t1 : Fin k0_t1_loop.trips) : BitVec 1 :=
  let c0_i32_53 : BitVec 32 := 0#32
  let c1_i32_54 : BitVec 32 := 1#32
  let arg22 : BitVec 32 := Scf.iv c0_i32_53 c1_i32_54 k0_t1
  let c1_i32_547 : BitVec 32 := 1#32
  let v707 : BitVec 32 := Scalar.addi arg22 c1_i32_547
  let c16_i32_548 : BitVec 32 := 16#32
  let v708 : BitVec 1 := Scalar.cmpi .slt v707 c16_i32_548
  let v709 : BitVec 32 := Scalar.extui v708
  let c0_i32_549 : BitVec 32 := 0#32
  let v710 : BitVec 1 := Scalar.cmpi .ne v709 c0_i32_549
  v710

def k0_off1 (k0_t1 : Fin k0_t1_loop.trips) : Fin 1 → Nat :=
  let c0_i32_53 : BitVec 32 := 0#32
  let c1_i32_54 : BitVec 32 := 1#32
  let arg22 : BitVec 32 := Scf.iv c0_i32_53 c1_i32_54 k0_t1
  let c1_i32_610 : BitVec 32 := 1#32
  let v810 : BitVec 32 := Scalar.addi arg22 c1_i32_610
  let c2_i32_611 : BitVec 32 := 2#32
  let c0_i32_612 : BitVec 32 := 0#32
  let v811 : BitVec 1 := Scalar.cmpi .eq c2_i32_611 c0_i32_612
  let c1_i32_613 : BitVec 32 := 1#32
  let v812 : BitVec 32 := Scalar.select v811 c1_i32_613 c2_i32_611
  let v813 : BitVec 32 := Scalar.remsi v810 v812
  let c0_i32_615 : BitVec 32 := 0#32
  let v815 : BitVec 1 := Scalar.cmpi .slt v813 c0_i32_615
  let c0_i32_616 : BitVec 32 := 0#32
  let v816 : BitVec 1 := Scalar.cmpi .slt v812 c0_i32_616
  let v817 : BitVec 1 := Scalar.xori v815 v816
  let c0_i32_614 : BitVec 32 := 0#32
  let v814 : BitVec 1 := Scalar.cmpi .ne v813 c0_i32_614
  let v818 : BitVec 1 := Scalar.andi v817 v814
  let v819 : BitVec 32 := Scalar.addi v813 v812
  let v820 : BitVec 32 := Scalar.select v818 v819 v813
  ![v820.toNat]
def k0_off2 (k0_t1 : Fin k0_t1_loop.trips) : Fin 3 → Nat :=
  let c0_i32_53 : BitVec 32 := 0#32
  let c1_i32_54 : BitVec 32 := 1#32
  let arg22 : BitVec 32 := Scf.iv c0_i32_53 c1_i32_54 k0_t1
  let c1_i32_603 : BitVec 32 := 1#32
  let v799 : BitVec 32 := Scalar.addi arg22 c1_i32_603
  let c2_i32_604 : BitVec 32 := 2#32
  let c0_i32_605 : BitVec 32 := 0#32
  let v800 : BitVec 1 := Scalar.cmpi .eq c2_i32_604 c0_i32_605
  let c1_i32_606 : BitVec 32 := 1#32
  let v801 : BitVec 32 := Scalar.select v800 c1_i32_606 c2_i32_604
  let v802 : BitVec 32 := Scalar.remsi v799 v801
  let c0_i32_608 : BitVec 32 := 0#32
  let v804 : BitVec 1 := Scalar.cmpi .slt v802 c0_i32_608
  let c0_i32_609 : BitVec 32 := 0#32
  let v805 : BitVec 1 := Scalar.cmpi .slt v801 c0_i32_609
  let v806 : BitVec 1 := Scalar.xori v804 v805
  let c0_i32_607 : BitVec 32 := 0#32
  let v803 : BitVec 1 := Scalar.cmpi .ne v802 c0_i32_607
  let v807 : BitVec 1 := Scalar.andi v806 v803
  let v808 : BitVec 32 := Scalar.addi v802 v801
  let v809 : BitVec 32 := Scalar.select v807 v808 v802
  let c0_i32_617 : BitVec 32 := 0#32
  let c0_i32_618 : BitVec 32 := 0#32
  ![v809.toNat, 0, 0]
def k0_off3 (k0_t1 : Fin k0_t1_loop.trips) : Fin 2 → Nat :=
  let c0_i32_619 : BitVec 32 := 0#32
  let c0_i32_53 : BitVec 32 := 0#32
  let c1_i32_54 : BitVec 32 := 1#32
  let arg22 : BitVec 32 := Scf.iv c0_i32_53 c1_i32_54 k0_t1
  let c1_i32_601 : BitVec 32 := 1#32
  let v797 : BitVec 32 := Scalar.addi arg22 c1_i32_601
  let c1024_i32_602 : BitVec 32 := 1024#32
  let v798 : BitVec 32 := Scalar.muli v797 c1024_i32_602
  ![0, v798.toNat]
def k0_off4 (k0_t1 : Fin k0_t1_loop.trips) : Fin 1 → Nat :=
  let c0_i32_53 : BitVec 32 := 0#32
  let c1_i32_54 : BitVec 32 := 1#32
  let arg22 : BitVec 32 := Scf.iv c0_i32_53 c1_i32_54 k0_t1
  let c2_i32_556 : BitVec 32 := 2#32
  let c0_i32_557 : BitVec 32 := 0#32
  let v722 : BitVec 1 := Scalar.cmpi .eq c2_i32_556 c0_i32_557
  let c1_i32_558 : BitVec 32 := 1#32
  let v723 : BitVec 32 := Scalar.select v722 c1_i32_558 c2_i32_556
  let v724 : BitVec 32 := Scalar.remsi arg22 v723
  let c0_i32_560 : BitVec 32 := 0#32
  let v726 : BitVec 1 := Scalar.cmpi .slt v724 c0_i32_560
  let c0_i32_561 : BitVec 32 := 0#32
  let v727 : BitVec 1 := Scalar.cmpi .slt v723 c0_i32_561
  let v728 : BitVec 1 := Scalar.xori v726 v727
  let c0_i32_559 : BitVec 32 := 0#32
  let v725 : BitVec 1 := Scalar.cmpi .ne v724 c0_i32_559
  let v729 : BitVec 1 := Scalar.andi v728 v725
  let v730 : BitVec 32 := Scalar.addi v724 v723
  let v731 : BitVec 32 := Scalar.select v729 v730 v724
  ![v731.toNat]
def k0_off5 (k0_t1 : Fin k0_t1_loop.trips) : Fin 3 → Nat :=
  let c0_i32_53 : BitVec 32 := 0#32
  let c1_i32_54 : BitVec 32 := 1#32
  let arg22 : BitVec 32 := Scf.iv c0_i32_53 c1_i32_54 k0_t1
  let c2_i32_550 : BitVec 32 := 2#32
  let c0_i32_551 : BitVec 32 := 0#32
  let v712 : BitVec 1 := Scalar.cmpi .eq c2_i32_550 c0_i32_551
  let c1_i32_552 : BitVec 32 := 1#32
  let v713 : BitVec 32 := Scalar.select v712 c1_i32_552 c2_i32_550
  let v714 : BitVec 32 := Scalar.remsi arg22 v713
  let c0_i32_554 : BitVec 32 := 0#32
  let v716 : BitVec 1 := Scalar.cmpi .slt v714 c0_i32_554
  let c0_i32_555 : BitVec 32 := 0#32
  let v717 : BitVec 1 := Scalar.cmpi .slt v713 c0_i32_555
  let v718 : BitVec 1 := Scalar.xori v716 v717
  let c0_i32_553 : BitVec 32 := 0#32
  let v715 : BitVec 1 := Scalar.cmpi .ne v714 c0_i32_553
  let v719 : BitVec 1 := Scalar.andi v718 v715
  let v720 : BitVec 32 := Scalar.addi v714 v713
  let v721 : BitVec 32 := Scalar.select v719 v720 v714
  let c0_i32_562 : BitVec 32 := 0#32
  let c0_i32_563 : BitVec 32 := 0#32
  ![v721.toNat, 0, 0]
def k0_off6 (k0_t1 : Fin k0_t1_loop.trips) : Fin 2 → Nat :=
  let c0_i32_564 : BitVec 32 := 0#32
  let c0_i32_53 : BitVec 32 := 0#32
  let c1_i32_54 : BitVec 32 := 1#32
  let arg22 : BitVec 32 := Scf.iv c0_i32_53 c1_i32_54 k0_t1
  let c1024_i32 : BitVec 32 := 1024#32
  let v711 : BitVec 32 := Scalar.muli arg22 c1024_i32
  ![0, v711.toNat]
def k0_off7 (k0_t1 : Fin k0_t1_loop.trips) : Fin 3 → Nat :=
  let c0_i32_53 : BitVec 32 := 0#32
  let c1_i32_54 : BitVec 32 := 1#32
  let arg22 : BitVec 32 := Scf.iv c0_i32_53 c1_i32_54 k0_t1
  let c2_i32_567 : BitVec 32 := 2#32
  let c0_i32_568 : BitVec 32 := 0#32
  let v738 : BitVec 1 := Scalar.cmpi .eq c2_i32_567 c0_i32_568
  let c1_i32_569 : BitVec 32 := 1#32
  let v739 : BitVec 32 := Scalar.select v738 c1_i32_569 c2_i32_567
  let v740 : BitVec 32 := Scalar.remsi arg22 v739
  let c0_i32_571 : BitVec 32 := 0#32
  let v742 : BitVec 1 := Scalar.cmpi .slt v740 c0_i32_571
  let c0_i32_572 : BitVec 32 := 0#32
  let v743 : BitVec 1 := Scalar.cmpi .slt v739 c0_i32_572
  let v744 : BitVec 1 := Scalar.xori v742 v743
  let c0_i32_570 : BitVec 32 := 0#32
  let v741 : BitVec 1 := Scalar.cmpi .ne v740 c0_i32_570
  let v745 : BitVec 1 := Scalar.andi v744 v741
  let v746 : BitVec 32 := Scalar.addi v740 v739
  let v747 : BitVec 32 := Scalar.select v745 v746 v740
  let v748 : Index := Scalar.indexCast v747
  let c0_573 : Index := 0#32
  let c0_574 : Index := 0#32
  ![v748.toNat, 0, 0]
def k0_cond2 (k0_t1 : Fin k0_t1_loop.trips) : BitVec 1 :=
  let c0_i32_53 : BitVec 32 := 0#32
  let c1_i32_54 : BitVec 32 := 1#32
  let arg22 : BitVec 32 := Scf.iv c0_i32_53 c1_i32_54 k0_t1
  let c2_i32_575 : BitVec 32 := 2#32
  let v753 : BitVec 1 := Scalar.cmpi .sge arg22 c2_i32_575
  let v754 : BitVec 32 := Scalar.extui v753
  let c0_i32_576 : BitVec 32 := 0#32
  let v755 : BitVec 1 := Scalar.cmpi .ne v754 c0_i32_576
  v755

def k0_off8 (k0_t1 : Fin k0_t1_loop.trips) : Fin 1 → Nat :=
  let c0_i32_53 : BitVec 32 := 0#32
  let c1_i32_54 : BitVec 32 := 1#32
  let arg22 : BitVec 32 := Scf.iv c0_i32_53 c1_i32_54 k0_t1
  let c2_i32_609 : BitVec 32 := 2#32
  let c0_i32_610 : BitVec 32 := 0#32
  let v809 : BitVec 1 := Scalar.cmpi .eq c2_i32_609 c0_i32_610
  let c1_i32_611 : BitVec 32 := 1#32
  let v810 : BitVec 32 := Scalar.select v809 c1_i32_611 c2_i32_609
  let v811 : BitVec 32 := Scalar.remsi arg22 v810
  let c0_i32_613 : BitVec 32 := 0#32
  let v813 : BitVec 1 := Scalar.cmpi .slt v811 c0_i32_613
  let c0_i32_614 : BitVec 32 := 0#32
  let v814 : BitVec 1 := Scalar.cmpi .slt v810 c0_i32_614
  let v815 : BitVec 1 := Scalar.xori v813 v814
  let c0_i32_612 : BitVec 32 := 0#32
  let v812 : BitVec 1 := Scalar.cmpi .ne v811 c0_i32_612
  let v816 : BitVec 1 := Scalar.andi v815 v812
  let v817 : BitVec 32 := Scalar.addi v811 v810
  let v818 : BitVec 32 := Scalar.select v816 v817 v811
  ![v818.toNat]
def k0_off9 (k0_t1 : Fin k0_t1_loop.trips) : Fin 2 → Nat :=
  let c0_i32_615 : BitVec 32 := 0#32
  let c0_i32_53 : BitVec 32 := 0#32
  let c1_i32_54 : BitVec 32 := 1#32
  let arg22 : BitVec 32 := Scf.iv c0_i32_53 c1_i32_54 k0_t1
  let c2_i32_607 : BitVec 32 := 2#32
  let v807 : BitVec 32 := Scalar.subi arg22 c2_i32_607
  let c1024_i32_608 : BitVec 32 := 1024#32
  let v808 : BitVec 32 := Scalar.muli v807 c1024_i32_608
  ![0, v808.toNat]
def k0_off10 (k0_t1 : Fin k0_t1_loop.trips) : Fin 3 → Nat :=
  let c0_i32_53 : BitVec 32 := 0#32
  let c1_i32_54 : BitVec 32 := 1#32
  let arg22 : BitVec 32 := Scf.iv c0_i32_53 c1_i32_54 k0_t1
  let c2_i32_601 : BitVec 32 := 2#32
  let c0_i32_602 : BitVec 32 := 0#32
  let v797 : BitVec 1 := Scalar.cmpi .eq c2_i32_601 c0_i32_602
  let c1_i32_603 : BitVec 32 := 1#32
  let v798 : BitVec 32 := Scalar.select v797 c1_i32_603 c2_i32_601
  let v799 : BitVec 32 := Scalar.remsi arg22 v798
  let c0_i32_605 : BitVec 32 := 0#32
  let v801 : BitVec 1 := Scalar.cmpi .slt v799 c0_i32_605
  let c0_i32_606 : BitVec 32 := 0#32
  let v802 : BitVec 1 := Scalar.cmpi .slt v798 c0_i32_606
  let v803 : BitVec 1 := Scalar.xori v801 v802
  let c0_i32_604 : BitVec 32 := 0#32
  let v800 : BitVec 1 := Scalar.cmpi .ne v799 c0_i32_604
  let v804 : BitVec 1 := Scalar.andi v803 v800
  let v805 : BitVec 32 := Scalar.addi v799 v798
  let v806 : BitVec 32 := Scalar.select v804 v805 v799
  let c0_i32_616 : BitVec 32 := 0#32
  let c0_i32_617 : BitVec 32 := 0#32
  ![v806.toNat, 0, 0]
def k0_off11 (k0_t1 : Fin k0_t1_loop.trips) : Fin 3 → Nat :=
  let c0_i32_53 : BitVec 32 := 0#32
  let c1_i32_54 : BitVec 32 := 1#32
  let arg22 : BitVec 32 := Scf.iv c0_i32_53 c1_i32_54 k0_t1
  let c2_i32_577 : BitVec 32 := 2#32
  let c0_i32_578 : BitVec 32 := 0#32
  let v757 : BitVec 1 := Scalar.cmpi .eq c2_i32_577 c0_i32_578
  let c1_i32_579 : BitVec 32 := 1#32
  let v758 : BitVec 32 := Scalar.select v757 c1_i32_579 c2_i32_577
  let v759 : BitVec 32 := Scalar.remsi arg22 v758
  let c0_i32_581 : BitVec 32 := 0#32
  let v761 : BitVec 1 := Scalar.cmpi .slt v759 c0_i32_581
  let c0_i32_582 : BitVec 32 := 0#32
  let v762 : BitVec 1 := Scalar.cmpi .slt v758 c0_i32_582
  let v763 : BitVec 1 := Scalar.xori v761 v762
  let c0_i32_580 : BitVec 32 := 0#32
  let v760 : BitVec 1 := Scalar.cmpi .ne v759 c0_i32_580
  let v764 : BitVec 1 := Scalar.andi v763 v760
  let v765 : BitVec 32 := Scalar.addi v759 v758
  let v766 : BitVec 32 := Scalar.select v764 v765 v759
  let v767 : Index := Scalar.indexCast v766
  let c0_583 : Index := 0#32
  let c0_584 : Index := 0#32
  ![v767.toNat, 0, 0]
def k0_off12 (k0_t1 : Fin k0_t1_loop.trips) : Fin 2 → Nat :=
  let c0_i32_598 : BitVec 32 := 0#32
  let c0_i32_53 : BitVec 32 := 0#32
  let c1_i32_54 : BitVec 32 := 1#32
  let arg22 : BitVec 32 := Scf.iv c0_i32_53 c1_i32_54 k0_t1
  let c1024_i32_591 : BitVec 32 := 1024#32
  let v781 : BitVec 32 := Scalar.muli arg22 c1024_i32_591
  ![0, v781.toNat]
def k0_off13 (k0_t1 : Fin k0_t1_loop.trips) : Fin 3 → Nat :=
  let c0_i32_53 : BitVec 32 := 0#32
  let c1_i32_54 : BitVec 32 := 1#32
  let arg22 : BitVec 32 := Scf.iv c0_i32_53 c1_i32_54 k0_t1
  let c2_i32_585 : BitVec 32 := 2#32
  let c0_i32_586 : BitVec 32 := 0#32
  let v771 : BitVec 1 := Scalar.cmpi .eq c2_i32_585 c0_i32_586
  let c1_i32_587 : BitVec 32 := 1#32
  let v772 : BitVec 32 := Scalar.select v771 c1_i32_587 c2_i32_585
  let v773 : BitVec 32 := Scalar.remsi arg22 v772
  let c0_i32_589 : BitVec 32 := 0#32
  let v775 : BitVec 1 := Scalar.cmpi .slt v773 c0_i32_589
  let c0_i32_590 : BitVec 32 := 0#32
  let v776 : BitVec 1 := Scalar.cmpi .slt v772 c0_i32_590
  let v777 : BitVec 1 := Scalar.xori v775 v776
  let c0_i32_588 : BitVec 32 := 0#32
  let v774 : BitVec 1 := Scalar.cmpi .ne v773 c0_i32_588
  let v778 : BitVec 1 := Scalar.andi v777 v774
  let v779 : BitVec 32 := Scalar.addi v773 v772
  let v780 : BitVec 32 := Scalar.select v778 v779 v773
  let c0_i32_599 : BitVec 32 := 0#32
  let c0_i32_600 : BitVec 32 := 0#32
  ![v780.toNat, 0, 0]
def k0_off14 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c128_i32_80 : BitVec 32 := 128#32
  let v112 : BitVec 32 := Scalar.muli v11 c128_i32_80
  let c0_i32_87 : BitVec 32 := 0#32
  ![v112.toNat, 0]
def k0_dev4 (d0 : Dev nD) : Nat :=
  let c0_i32_84 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_83 : BitVec 32 := 8#32
  let v113 : BitVec 32 := Scalar.muli v44 c8_i32_83
  let v114 : BitVec 32 := Scalar.addi c0_i32_84 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_85 : BitVec 32 := 4#32
  let v115 : BitVec 32 := Scalar.muli v5 c4_i32_85
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v117 : BitVec 32 := Scalar.muli v8 c1_i32_86
  let v118 : BitVec 32 := Scalar.addi v116 v117
  v118.toNat
def k0_off15 (d0 : Dev nD) (c3_i32_66 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v89 : BitVec 32 := Scalar.addi v11 c3_i32_66
  let c8_i32_67 : BitVec 32 := 8#32
  let c0_i32_68 : BitVec 32 := 0#32
  let v90 : BitVec 1 := Scalar.cmpi .eq c8_i32_67 c0_i32_68
  let c1_i32_69 : BitVec 32 := 1#32
  let v91 : BitVec 32 := Scalar.select v90 c1_i32_69 c8_i32_67
  let v92 : BitVec 32 := Scalar.remsi v89 v91
  let c0_i32_71 : BitVec 32 := 0#32
  let v94 : BitVec 1 := Scalar.cmpi .slt v92 c0_i32_71
  let c0_i32_72 : BitVec 32 := 0#32
  let v95 : BitVec 1 := Scalar.cmpi .slt v91 c0_i32_72
  let v96 : BitVec 1 := Scalar.xori v94 v95
  let c0_i32_70 : BitVec 32 := 0#32
  let v93 : BitVec 1 := Scalar.cmpi .ne v92 c0_i32_70
  let v97 : BitVec 1 := Scalar.andi v96 v93
  let v98 : BitVec 32 := Scalar.addi v92 v91
  let v99 : BitVec 32 := Scalar.select v97 v98 v92
  let c128_i32_90 : BitVec 32 := 128#32
  let v126 : BitVec 32 := Scalar.muli v99 c128_i32_90
  let c0_i32_97 : BitVec 32 := 0#32
  ![v126.toNat, 0]
def k0_dev5 (d0 : Dev nD) : Nat :=
  let c0_i32_94 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_93 : BitVec 32 := 8#32
  let v127 : BitVec 32 := Scalar.muli v44 c8_i32_93
  let v128 : BitVec 32 := Scalar.addi c0_i32_94 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v129 : BitVec 32 := Scalar.muli v5 c4_i32_95
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v131 : BitVec 32 := Scalar.muli v8 c1_i32_96
  let v132 : BitVec 32 := Scalar.addi v130 v131
  v132.toNat
def k0_dev6 (d0 : Dev nD) : Nat :=
  let c0_i32_104 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_26 v2
  let c8_i32_103 : BitVec 32 := 8#32
  let v141 : BitVec 32 := Scalar.muli v44 c8_i32_103
  let v142 : BitVec 32 := Scalar.addi c0_i32_104 v141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v143 : BitVec 32 := Scalar.muli v5 c4_i32_105
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v145 : BitVec 32 := Scalar.muli v8 c1_i32_106
  let v146 : BitVec 32 := Scalar.addi v144 v145
  v146.toNat
def k0_dev7 (d0 : Dev nD) : Nat :=
  let c0_i32_124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_123 : BitVec 32 := 8#32
  let v167 : BitVec 32 := Scalar.muli v2 c8_i32_123
  let v168 : BitVec 32 := Scalar.addi c0_i32_124 v167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_125 : BitVec 32 := 4#32
  let v169 : BitVec 32 := Scalar.muli v24 c4_i32_125
  let v170 : BitVec 32 := Scalar.addi v168 v169
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_126 : BitVec 32 := 1#32
  let v171 : BitVec 32 := Scalar.muli v27 c1_i32_126
  let v172 : BitVec 32 := Scalar.addi v170 v171
  v172.toNat
def k0_dev8 (d0 : Dev nD) : Nat :=
  let c0_i32_134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_133 : BitVec 32 := 8#32
  let v181 : BitVec 32 := Scalar.muli v2 c8_i32_133
  let v182 : BitVec 32 := Scalar.addi c0_i32_134 v181
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_135 : BitVec 32 := 4#32
  let v183 : BitVec 32 := Scalar.muli v40 c4_i32_135
  let v184 : BitVec 32 := Scalar.addi v182 v183
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_136 : BitVec 32 := 1#32
  let v185 : BitVec 32 := Scalar.muli v43 c1_i32_136
  let v186 : BitVec 32 := Scalar.addi v184 v185
  v186.toNat
@[reducible] def k0_t2_loop : Scf.Loop 32 :=
  let c0_i32_149 : BitVec 32 := 0#32
  let c4_i32_150 : BitVec 32 := 4#32
  let v207 : BitVec 32 := Scalar.addi c0_i32_149 c4_i32_150
  let c1_i32_151 : BitVec 32 := 1#32
  ⟨c0_i32_149, v207, c1_i32_151⟩
def k0_off16 (k0_t2 : Fin k0_t2_loop.trips) : Fin 2 → Nat :=
  let c0_i32_149 : BitVec 32 := 0#32
  let c1_i32_151 : BitVec 32 := 1#32
  let arg22 : BitVec 32 := Scf.iv c0_i32_149 c1_i32_151 k0_t2
  let c32_i32 : BitVec 32 := 32#32
  let v707 : BitVec 32 := Scalar.muli arg22 c32_i32
  let v708 : Index := Scalar.indexCast v707
  let c0_547 : Index := 0#32
  ![v708.toNat, 0]
def k0_off17 (d0 : Dev nD) (k0_t2 : Fin k0_t2_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c128_i32_554 : BitVec 32 := 128#32
  let v731 : BitVec 32 := Scalar.muli v11 c128_i32_554
  let c0_i32_149 : BitVec 32 := 0#32
  let c1_i32_151 : BitVec 32 := 1#32
  let arg22 : BitVec 32 := Scf.iv c0_i32_149 c1_i32_151 k0_t2
  let c32_i32_555 : BitVec 32 := 32#32
  let v732 : BitVec 32 := Scalar.muli arg22 c32_i32_555
  let v733 : BitVec 32 := Scalar.addi v731 v732
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v45 : BitVec 32 := Scalar.muli v2 c16384_i32
  ![v733.toNat, v45.toNat]
def k0_off18 (d0 : Dev nD) (k0_t2 : Fin k0_t2_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c128_i32_554 : BitVec 32 := 128#32
  let v731 : BitVec 32 := Scalar.muli v11 c128_i32_554
  let c0_i32_149 : BitVec 32 := 0#32
  let c1_i32_151 : BitVec 32 := 1#32
  let arg22 : BitVec 32 := Scf.iv c0_i32_149 c1_i32_151 k0_t2
  let c32_i32_555 : BitVec 32 := 32#32
  let v732 : BitVec 32 := Scalar.muli arg22 c32_i32_555
  let v733 : BitVec 32 := Scalar.addi v731 v732
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c16384_i32_28 : BitVec 32 := 16384#32
  let v47 : BitVec 32 := Scalar.muli v46 c16384_i32_28
  ![v733.toNat, v47.toNat]
def k0_off19 (d0 : Dev nD) (c1_i32_153 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v208 : BitVec 32 := Scalar.subi v11 c1_i32_153
  let c8_i32_154 : BitVec 32 := 8#32
  let c0_i32_155 : BitVec 32 := 0#32
  let v209 : BitVec 1 := Scalar.cmpi .eq c8_i32_154 c0_i32_155
  let c1_i32_156 : BitVec 32 := 1#32
  let v210 : BitVec 32 := Scalar.select v209 c1_i32_156 c8_i32_154
  let v211 : BitVec 32 := Scalar.remsi v208 v210
  let c0_i32_158 : BitVec 32 := 0#32
  let v213 : BitVec 1 := Scalar.cmpi .slt v211 c0_i32_158
  let c0_i32_159 : BitVec 32 := 0#32
  let v214 : BitVec 1 := Scalar.cmpi .slt v210 c0_i32_159
  let v215 : BitVec 1 := Scalar.xori v213 v214
  let c0_i32_157 : BitVec 32 := 0#32
  let v212 : BitVec 1 := Scalar.cmpi .ne v211 c0_i32_157
  let v216 : BitVec 1 := Scalar.andi v215 v212
  let v217 : BitVec 32 := Scalar.addi v211 v210
  let v218 : BitVec 32 := Scalar.select v216 v217 v211
  let c128_i32_161 : BitVec 32 := 128#32
  let v220 : BitVec 32 := Scalar.muli v218 c128_i32_161
  let c0_i32_168 : BitVec 32 := 0#32
  ![v220.toNat, 0]
def k0_dev9 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v267 : BitVec 32 := Scalar.muli v2 c8_i32_198
  let v268 : BitVec 32 := Scalar.addi c0_i32_199 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_200 : BitVec 32 := 4#32
  let v269 : BitVec 32 := Scalar.muli v24 c4_i32_200
  let v270 : BitVec 32 := Scalar.addi v268 v269
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_201 : BitVec 32 := 1#32
  let v271 : BitVec 32 := Scalar.muli v27 c1_i32_201
  let v272 : BitVec 32 := Scalar.addi v270 v271
  v272.toNat
def k0_dev10 (d0 : Dev nD) : Nat :=
  let c0_i32_216 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_215 : BitVec 32 := 8#32
  let v292 : BitVec 32 := Scalar.muli v2 c8_i32_215
  let v293 : BitVec 32 := Scalar.addi c0_i32_216 v292
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c4_i32_217 : BitVec 32 := 4#32
  let v294 : BitVec 32 := Scalar.muli v40 c4_i32_217
  let v295 : BitVec 32 := Scalar.addi v293 v294
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_218 : BitVec 32 := 1#32
  let v296 : BitVec 32 := Scalar.muli v43 c1_i32_218
  let v297 : BitVec 32 := Scalar.addi v295 v296
  v297.toNat
@[reducible] def k0_t3_loop : Scf.Loop 32 :=
  let c0_i32_238 : BitVec 32 := 0#32
  let c4_i32_239 : BitVec 32 := 4#32
  let v329 : BitVec 32 := Scalar.addi c0_i32_238 c4_i32_239
  let c1_i32_240 : BitVec 32 := 1#32
  ⟨c0_i32_238, v329, c1_i32_240⟩
def k0_off20 (k0_t3 : Fin k0_t3_loop.trips) : Fin 2 → Nat :=
  let c0_i32_238 : BitVec 32 := 0#32
  let c1_i32_240 : BitVec 32 := 1#32
  let arg22 : BitVec 32 := Scf.iv c0_i32_238 c1_i32_240 k0_t3
  let c32_i32 : BitVec 32 := 32#32
  let v707 : BitVec 32 := Scalar.muli arg22 c32_i32
  let v708 : Index := Scalar.indexCast v707
  let c0_547 : Index := 0#32
  ![v708.toNat, 0]
def k0_off21 (d0 : Dev nD) (k0_t3 : Fin k0_t3_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_221 : BitVec 32 := 1#32
  let v304 : BitVec 32 := Scalar.subi v11 c1_i32_221
  let c8_i32_222 : BitVec 32 := 8#32
  let c0_i32_223 : BitVec 32 := 0#32
  let v305 : BitVec 1 := Scalar.cmpi .eq c8_i32_222 c0_i32_223
  let c1_i32_224 : BitVec 32 := 1#32
  let v306 : BitVec 32 := Scalar.select v305 c1_i32_224 c8_i32_222
  let v307 : BitVec 32 := Scalar.remsi v304 v306
  let c0_i32_226 : BitVec 32 := 0#32
  let v309 : BitVec 1 := Scalar.cmpi .slt v307 c0_i32_226
  let c0_i32_227 : BitVec 32 := 0#32
  let v310 : BitVec 1 := Scalar.cmpi .slt v306 c0_i32_227
  let v311 : BitVec 1 := Scalar.xori v309 v310
  let c0_i32_225 : BitVec 32 := 0#32
  let v308 : BitVec 1 := Scalar.cmpi .ne v307 c0_i32_225
  let v312 : BitVec 1 := Scalar.andi v311 v308
  let v313 : BitVec 32 := Scalar.addi v307 v306
  let v314 : BitVec 32 := Scalar.select v312 v313 v307
  let c128_i32_554 : BitVec 32 := 128#32
  let v731 : BitVec 32 := Scalar.muli v314 c128_i32_554
  let c0_i32_238 : BitVec 32 := 0#32
  let c1_i32_240 : BitVec 32 := 1#32
  let arg22 : BitVec 32 := Scf.iv c0_i32_238 c1_i32_240 k0_t3
  let c32_i32_555 : BitVec 32 := 32#32
  let v732 : BitVec 32 := Scalar.muli arg22 c32_i32_555
  let v733 : BitVec 32 := Scalar.addi v731 v732
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v45 : BitVec 32 := Scalar.muli v2 c16384_i32
  ![v733.toNat, v45.toNat]
def k0_off22 (d0 : Dev nD) (k0_t3 : Fin k0_t3_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_221 : BitVec 32 := 1#32
  let v304 : BitVec 32 := Scalar.subi v11 c1_i32_221
  let c8_i32_222 : BitVec 32 := 8#32
  let c0_i32_223 : BitVec 32 := 0#32
  let v305 : BitVec 1 := Scalar.cmpi .eq c8_i32_222 c0_i32_223
  let c1_i32_224 : BitVec 32 := 1#32
  let v306 : BitVec 32 := Scalar.select v305 c1_i32_224 c8_i32_222
  let v307 : BitVec 32 := Scalar.remsi v304 v306
  let c0_i32_226 : BitVec 32 := 0#32
  let v309 : BitVec 1 := Scalar.cmpi .slt v307 c0_i32_226
  let c0_i32_227 : BitVec 32 := 0#32
  let v310 : BitVec 1 := Scalar.cmpi .slt v306 c0_i32_227
  let v311 : BitVec 1 := Scalar.xori v309 v310
  let c0_i32_225 : BitVec 32 := 0#32
  let v308 : BitVec 1 := Scalar.cmpi .ne v307 c0_i32_225
  let v312 : BitVec 1 := Scalar.andi v311 v308
  let v313 : BitVec 32 := Scalar.addi v307 v306
  let v314 : BitVec 32 := Scalar.select v312 v313 v307
  let c128_i32_554 : BitVec 32 := 128#32
  let v731 : BitVec 32 := Scalar.muli v314 c128_i32_554
  let c0_i32_238 : BitVec 32 := 0#32
  let c1_i32_240 : BitVec 32 := 1#32
  let arg22 : BitVec 32 := Scf.iv c0_i32_238 c1_i32_240 k0_t3
  let c32_i32_555 : BitVec 32 := 32#32
  let v732 : BitVec 32 := Scalar.muli arg22 c32_i32_555
  let v733 : BitVec 32 := Scalar.addi v731 v732
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c16384_i32_28 : BitVec 32 := 16384#32
  let v47 : BitVec 32 := Scalar.muli v46 c16384_i32_28
  ![v733.toNat, v47.toNat]
@[reducible] def k0_t4_loop : Scf.Loop 32 :=
  let c0_i32_259 : BitVec 32 := 0#32
  let c4_i32_260 : BitVec 32 := 4#32
  let v355 : BitVec 32 := Scalar.addi c0_i32_259 c4_i32_260
  let c1_i32_261 : BitVec 32 := 1#32
  ⟨c0_i32_259, v355, c1_i32_261⟩
def k0_off23 (k0_t4 : Fin k0_t4_loop.trips) : Fin 2 → Nat :=
  let c0_i32_259 : BitVec 32 := 0#32
  let c1_i32_261 : BitVec 32 := 1#32
  let arg22 : BitVec 32 := Scf.iv c0_i32_259 c1_i32_261 k0_t4
  let c32_i32 : BitVec 32 := 32#32
  let v707 : BitVec 32 := Scalar.muli arg22 c32_i32
  let v708 : Index := Scalar.indexCast v707
  let c0_547 : Index := 0#32
  ![v708.toNat, 0]
def k0_off24 (d0 : Dev nD) (k0_t4 : Fin k0_t4_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_242 : BitVec 32 := 1#32
  let v330 : BitVec 32 := Scalar.addi v11 c1_i32_242
  let c8_i32_243 : BitVec 32 := 8#32
  let c0_i32_244 : BitVec 32 := 0#32
  let v331 : BitVec 1 := Scalar.cmpi .eq c8_i32_243 c0_i32_244
  let c1_i32_245 : BitVec 32 := 1#32
  let v332 : BitVec 32 := Scalar.select v331 c1_i32_245 c8_i32_243
  let v333 : BitVec 32 := Scalar.remsi v330 v332
  let c0_i32_247 : BitVec 32 := 0#32
  let v335 : BitVec 1 := Scalar.cmpi .slt v333 c0_i32_247
  let c0_i32_248 : BitVec 32 := 0#32
  let v336 : BitVec 1 := Scalar.cmpi .slt v332 c0_i32_248
  let v337 : BitVec 1 := Scalar.xori v335 v336
  let c0_i32_246 : BitVec 32 := 0#32
  let v334 : BitVec 1 := Scalar.cmpi .ne v333 c0_i32_246
  let v338 : BitVec 1 := Scalar.andi v337 v334
  let v339 : BitVec 32 := Scalar.addi v333 v332
  let v340 : BitVec 32 := Scalar.select v338 v339 v333
  let c128_i32_554 : BitVec 32 := 128#32
  let v731 : BitVec 32 := Scalar.muli v340 c128_i32_554
  let c0_i32_259 : BitVec 32 := 0#32
  let c1_i32_261 : BitVec 32 := 1#32
  let arg22 : BitVec 32 := Scf.iv c0_i32_259 c1_i32_261 k0_t4
  let c32_i32_555 : BitVec 32 := 32#32
  let v732 : BitVec 32 := Scalar.muli arg22 c32_i32_555
  let v733 : BitVec 32 := Scalar.addi v731 v732
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v45 : BitVec 32 := Scalar.muli v2 c16384_i32
  ![v733.toNat, v45.toNat]
def k0_off25 (d0 : Dev nD) (k0_t4 : Fin k0_t4_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_242 : BitVec 32 := 1#32
  let v330 : BitVec 32 := Scalar.addi v11 c1_i32_242
  let c8_i32_243 : BitVec 32 := 8#32
  let c0_i32_244 : BitVec 32 := 0#32
  let v331 : BitVec 1 := Scalar.cmpi .eq c8_i32_243 c0_i32_244
  let c1_i32_245 : BitVec 32 := 1#32
  let v332 : BitVec 32 := Scalar.select v331 c1_i32_245 c8_i32_243
  let v333 : BitVec 32 := Scalar.remsi v330 v332
  let c0_i32_247 : BitVec 32 := 0#32
  let v335 : BitVec 1 := Scalar.cmpi .slt v333 c0_i32_247
  let c0_i32_248 : BitVec 32 := 0#32
  let v336 : BitVec 1 := Scalar.cmpi .slt v332 c0_i32_248
  let v337 : BitVec 1 := Scalar.xori v335 v336
  let c0_i32_246 : BitVec 32 := 0#32
  let v334 : BitVec 1 := Scalar.cmpi .ne v333 c0_i32_246
  let v338 : BitVec 1 := Scalar.andi v337 v334
  let v339 : BitVec 32 := Scalar.addi v333 v332
  let v340 : BitVec 32 := Scalar.select v338 v339 v333
  let c128_i32_554 : BitVec 32 := 128#32
  let v731 : BitVec 32 := Scalar.muli v340 c128_i32_554
  let c0_i32_259 : BitVec 32 := 0#32
  let c1_i32_261 : BitVec 32 := 1#32
  let arg22 : BitVec 32 := Scf.iv c0_i32_259 c1_i32_261 k0_t4
  let c32_i32_555 : BitVec 32 := 32#32
  let v732 : BitVec 32 := Scalar.muli arg22 c32_i32_555
  let v733 : BitVec 32 := Scalar.addi v731 v732
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c16384_i32_28 : BitVec 32 := 16384#32
  let v47 : BitVec 32 := Scalar.muli v46 c16384_i32_28
  ![v733.toNat, v47.toNat]
def k0_dev11 (d0 : Dev nD) : Nat :=
  let c0_i32_309 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_308 : BitVec 32 := 8#32
  let v415 : BitVec 32 := Scalar.muli v2 c8_i32_308
  let v416 : BitVec 32 := Scalar.addi c0_i32_309 v415
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c4_i32_310 : BitVec 32 := 4#32
  let v417 : BitVec 32 := Scalar.muli v24 c4_i32_310
  let v418 : BitVec 32 := Scalar.addi v416 v417
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_311 : BitVec 32 := 1#32
  let v419 : BitVec 32 := Scalar.muli v27 c1_i32_311
  let v420 : BitVec 32 := Scalar.addi v418 v419
  v420.toNat
@[reducible] def k0_t5_loop : Scf.Loop 32 :=
  let c0_i32_331 : BitVec 32 := 0#32
  let c4_i32_332 : BitVec 32 := 4#32
  let v452 : BitVec 32 := Scalar.addi c0_i32_331 c4_i32_332
  let c1_i32_333 : BitVec 32 := 1#32
  ⟨c0_i32_331, v452, c1_i32_333⟩
def k0_off26 (k0_t5 : Fin k0_t5_loop.trips) : Fin 2 → Nat :=
  let c0_i32_331 : BitVec 32 := 0#32
  let c1_i32_333 : BitVec 32 := 1#32
  let arg22 : BitVec 32 := Scf.iv c0_i32_331 c1_i32_333 k0_t5
  let c32_i32 : BitVec 32 := 32#32
  let v707 : BitVec 32 := Scalar.muli arg22 c32_i32
  let v708 : Index := Scalar.indexCast v707
  let c0_547 : Index := 0#32
  ![v708.toNat, 0]
def k0_off27 (d0 : Dev nD) (k0_t5 : Fin k0_t5_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c2_i32_314 : BitVec 32 := 2#32
  let v427 : BitVec 32 := Scalar.subi v11 c2_i32_314
  let c8_i32_315 : BitVec 32 := 8#32
  let c0_i32_316 : BitVec 32 := 0#32
  let v428 : BitVec 1 := Scalar.cmpi .eq c8_i32_315 c0_i32_316
  let c1_i32_317 : BitVec 32 := 1#32
  let v429 : BitVec 32 := Scalar.select v428 c1_i32_317 c8_i32_315
  let v430 : BitVec 32 := Scalar.remsi v427 v429
  let c0_i32_319 : BitVec 32 := 0#32
  let v432 : BitVec 1 := Scalar.cmpi .slt v430 c0_i32_319
  let c0_i32_320 : BitVec 32 := 0#32
  let v433 : BitVec 1 := Scalar.cmpi .slt v429 c0_i32_320
  let v434 : BitVec 1 := Scalar.xori v432 v433
  let c0_i32_318 : BitVec 32 := 0#32
  let v431 : BitVec 1 := Scalar.cmpi .ne v430 c0_i32_318
  let v435 : BitVec 1 := Scalar.andi v434 v431
  let v436 : BitVec 32 := Scalar.addi v430 v429
  let v437 : BitVec 32 := Scalar.select v435 v436 v430
  let c128_i32_554 : BitVec 32 := 128#32
  let v731 : BitVec 32 := Scalar.muli v437 c128_i32_554
  let c0_i32_331 : BitVec 32 := 0#32
  let c1_i32_333 : BitVec 32 := 1#32
  let arg22 : BitVec 32 := Scf.iv c0_i32_331 c1_i32_333 k0_t5
  let c32_i32_555 : BitVec 32 := 32#32
  let v732 : BitVec 32 := Scalar.muli arg22 c32_i32_555
  let v733 : BitVec 32 := Scalar.addi v731 v732
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v45 : BitVec 32 := Scalar.muli v2 c16384_i32
  ![v733.toNat, v45.toNat]
def k0_off28 (d0 : Dev nD) (k0_t5 : Fin k0_t5_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c2_i32_314 : BitVec 32 := 2#32
  let v427 : BitVec 32 := Scalar.subi v11 c2_i32_314
  let c8_i32_315 : BitVec 32 := 8#32
  let c0_i32_316 : BitVec 32 := 0#32
  let v428 : BitVec 1 := Scalar.cmpi .eq c8_i32_315 c0_i32_316
  let c1_i32_317 : BitVec 32 := 1#32
  let v429 : BitVec 32 := Scalar.select v428 c1_i32_317 c8_i32_315
  let v430 : BitVec 32 := Scalar.remsi v427 v429
  let c0_i32_319 : BitVec 32 := 0#32
  let v432 : BitVec 1 := Scalar.cmpi .slt v430 c0_i32_319
  let c0_i32_320 : BitVec 32 := 0#32
  let v433 : BitVec 1 := Scalar.cmpi .slt v429 c0_i32_320
  let v434 : BitVec 1 := Scalar.xori v432 v433
  let c0_i32_318 : BitVec 32 := 0#32
  let v431 : BitVec 1 := Scalar.cmpi .ne v430 c0_i32_318
  let v435 : BitVec 1 := Scalar.andi v434 v431
  let v436 : BitVec 32 := Scalar.addi v430 v429
  let v437 : BitVec 32 := Scalar.select v435 v436 v430
  let c128_i32_554 : BitVec 32 := 128#32
  let v731 : BitVec 32 := Scalar.muli v437 c128_i32_554
  let c0_i32_331 : BitVec 32 := 0#32
  let c1_i32_333 : BitVec 32 := 1#32
  let arg22 : BitVec 32 := Scf.iv c0_i32_331 c1_i32_333 k0_t5
  let c32_i32_555 : BitVec 32 := 32#32
  let v732 : BitVec 32 := Scalar.muli arg22 c32_i32_555
  let v733 : BitVec 32 := Scalar.addi v731 v732
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c16384_i32_28 : BitVec 32 := 16384#32
  let v47 : BitVec 32 := Scalar.muli v46 c16384_i32_28
  ![v733.toNat, v47.toNat]
@[reducible] def k0_t6_loop : Scf.Loop 32 :=
  let c0_i32_352 : BitVec 32 := 0#32
  let c4_i32_353 : BitVec 32 := 4#32
  let v478 : BitVec 32 := Scalar.addi c0_i32_352 c4_i32_353
  let c1_i32_354 : BitVec 32 := 1#32
  ⟨c0_i32_352, v478, c1_i32_354⟩
def k0_off29 (k0_t6 : Fin k0_t6_loop.trips) : Fin 2 → Nat :=
  let c0_i32_352 : BitVec 32 := 0#32
  let c1_i32_354 : BitVec 32 := 1#32
  let arg22 : BitVec 32 := Scf.iv c0_i32_352 c1_i32_354 k0_t6
  let c32_i32 : BitVec 32 := 32#32
  let v707 : BitVec 32 := Scalar.muli arg22 c32_i32
  let v708 : Index := Scalar.indexCast v707
  let c0_547 : Index := 0#32
  ![v708.toNat, 0]
def k0_off30 (d0 : Dev nD) (k0_t6 : Fin k0_t6_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c2_i32_335 : BitVec 32 := 2#32
  let v453 : BitVec 32 := Scalar.addi v11 c2_i32_335
  let c8_i32_336 : BitVec 32 := 8#32
  let c0_i32_337 : BitVec 32 := 0#32
  let v454 : BitVec 1 := Scalar.cmpi .eq c8_i32_336 c0_i32_337
  let c1_i32_338 : BitVec 32 := 1#32
  let v455 : BitVec 32 := Scalar.select v454 c1_i32_338 c8_i32_336
  let v456 : BitVec 32 := Scalar.remsi v453 v455
  let c0_i32_340 : BitVec 32 := 0#32
  let v458 : BitVec 1 := Scalar.cmpi .slt v456 c0_i32_340
  let c0_i32_341 : BitVec 32 := 0#32
  let v459 : BitVec 1 := Scalar.cmpi .slt v455 c0_i32_341
  let v460 : BitVec 1 := Scalar.xori v458 v459
  let c0_i32_339 : BitVec 32 := 0#32
  let v457 : BitVec 1 := Scalar.cmpi .ne v456 c0_i32_339
  let v461 : BitVec 1 := Scalar.andi v460 v457
  let v462 : BitVec 32 := Scalar.addi v456 v455
  let v463 : BitVec 32 := Scalar.select v461 v462 v456
  let c128_i32_554 : BitVec 32 := 128#32
  let v731 : BitVec 32 := Scalar.muli v463 c128_i32_554
  let c0_i32_352 : BitVec 32 := 0#32
  let c1_i32_354 : BitVec 32 := 1#32
  let arg22 : BitVec 32 := Scf.iv c0_i32_352 c1_i32_354 k0_t6
  let c32_i32_555 : BitVec 32 := 32#32
  let v732 : BitVec 32 := Scalar.muli arg22 c32_i32_555
  let v733 : BitVec 32 := Scalar.addi v731 v732
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v45 : BitVec 32 := Scalar.muli v2 c16384_i32
  ![v733.toNat, v45.toNat]
def k0_off31 (d0 : Dev nD) (k0_t6 : Fin k0_t6_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c2_i32_335 : BitVec 32 := 2#32
  let v453 : BitVec 32 := Scalar.addi v11 c2_i32_335
  let c8_i32_336 : BitVec 32 := 8#32
  let c0_i32_337 : BitVec 32 := 0#32
  let v454 : BitVec 1 := Scalar.cmpi .eq c8_i32_336 c0_i32_337
  let c1_i32_338 : BitVec 32 := 1#32
  let v455 : BitVec 32 := Scalar.select v454 c1_i32_338 c8_i32_336
  let v456 : BitVec 32 := Scalar.remsi v453 v455
  let c0_i32_340 : BitVec 32 := 0#32
  let v458 : BitVec 1 := Scalar.cmpi .slt v456 c0_i32_340
  let c0_i32_341 : BitVec 32 := 0#32
  let v459 : BitVec 1 := Scalar.cmpi .slt v455 c0_i32_341
  let v460 : BitVec 1 := Scalar.xori v458 v459
  let c0_i32_339 : BitVec 32 := 0#32
  let v457 : BitVec 1 := Scalar.cmpi .ne v456 c0_i32_339
  let v461 : BitVec 1 := Scalar.andi v460 v457
  let v462 : BitVec 32 := Scalar.addi v456 v455
  let v463 : BitVec 32 := Scalar.select v461 v462 v456
  let c128_i32_554 : BitVec 32 := 128#32
  let v731 : BitVec 32 := Scalar.muli v463 c128_i32_554
  let c0_i32_352 : BitVec 32 := 0#32
  let c1_i32_354 : BitVec 32 := 1#32
  let arg22 : BitVec 32 := Scf.iv c0_i32_352 c1_i32_354 k0_t6
  let c32_i32_555 : BitVec 32 := 32#32
  let v732 : BitVec 32 := Scalar.muli arg22 c32_i32_555
  let v733 : BitVec 32 := Scalar.addi v731 v732
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c16384_i32_28 : BitVec 32 := 16384#32
  let v47 : BitVec 32 := Scalar.muli v46 c16384_i32_28
  ![v733.toNat, v47.toNat]
@[reducible] def k0_t7_loop : Scf.Loop 32 :=
  let c0_i32_383 : BitVec 32 := 0#32
  let c4_i32_384 : BitVec 32 := 4#32
  let v516 : BitVec 32 := Scalar.addi c0_i32_383 c4_i32_384
  let c1_i32_385 : BitVec 32 := 1#32
  ⟨c0_i32_383, v516, c1_i32_385⟩
def k0_off32 (k0_t7 : Fin k0_t7_loop.trips) : Fin 2 → Nat :=
  let c0_i32_383 : BitVec 32 := 0#32
  let c1_i32_385 : BitVec 32 := 1#32
  let arg22 : BitVec 32 := Scf.iv c0_i32_383 c1_i32_385 k0_t7
  let c32_i32 : BitVec 32 := 32#32
  let v707 : BitVec 32 := Scalar.muli arg22 c32_i32
  let v708 : Index := Scalar.indexCast v707
  let c0_547 : Index := 0#32
  ![v708.toNat, 0]
def k0_off33 (d0 : Dev nD) (k0_t7 : Fin k0_t7_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c3_i32_366 : BitVec 32 := 3#32
  let v491 : BitVec 32 := Scalar.addi v11 c3_i32_366
  let c8_i32_367 : BitVec 32 := 8#32
  let c0_i32_368 : BitVec 32 := 0#32
  let v492 : BitVec 1 := Scalar.cmpi .eq c8_i32_367 c0_i32_368
  let c1_i32_369 : BitVec 32 := 1#32
  let v493 : BitVec 32 := Scalar.select v492 c1_i32_369 c8_i32_367
  let v494 : BitVec 32 := Scalar.remsi v491 v493
  let c0_i32_371 : BitVec 32 := 0#32
  let v496 : BitVec 1 := Scalar.cmpi .slt v494 c0_i32_371
  let c0_i32_372 : BitVec 32 := 0#32
  let v497 : BitVec 1 := Scalar.cmpi .slt v493 c0_i32_372
  let v498 : BitVec 1 := Scalar.xori v496 v497
  let c0_i32_370 : BitVec 32 := 0#32
  let v495 : BitVec 1 := Scalar.cmpi .ne v494 c0_i32_370
  let v499 : BitVec 1 := Scalar.andi v498 v495
  let v500 : BitVec 32 := Scalar.addi v494 v493
  let v501 : BitVec 32 := Scalar.select v499 v500 v494
  let c128_i32_554 : BitVec 32 := 128#32
  let v731 : BitVec 32 := Scalar.muli v501 c128_i32_554
  let c0_i32_383 : BitVec 32 := 0#32
  let c1_i32_385 : BitVec 32 := 1#32
  let arg22 : BitVec 32 := Scf.iv c0_i32_383 c1_i32_385 k0_t7
  let c32_i32_555 : BitVec 32 := 32#32
  let v732 : BitVec 32 := Scalar.muli arg22 c32_i32_555
  let v733 : BitVec 32 := Scalar.addi v731 v732
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v45 : BitVec 32 := Scalar.muli v2 c16384_i32
  ![v733.toNat, v45.toNat]
def k0_off34 (d0 : Dev nD) (k0_t7 : Fin k0_t7_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c3_i32_366 : BitVec 32 := 3#32
  let v491 : BitVec 32 := Scalar.addi v11 c3_i32_366
  let c8_i32_367 : BitVec 32 := 8#32
  let c0_i32_368 : BitVec 32 := 0#32
  let v492 : BitVec 1 := Scalar.cmpi .eq c8_i32_367 c0_i32_368
  let c1_i32_369 : BitVec 32 := 1#32
  let v493 : BitVec 32 := Scalar.select v492 c1_i32_369 c8_i32_367
  let v494 : BitVec 32 := Scalar.remsi v491 v493
  let c0_i32_371 : BitVec 32 := 0#32
  let v496 : BitVec 1 := Scalar.cmpi .slt v494 c0_i32_371
  let c0_i32_372 : BitVec 32 := 0#32
  let v497 : BitVec 1 := Scalar.cmpi .slt v493 c0_i32_372
  let v498 : BitVec 1 := Scalar.xori v496 v497
  let c0_i32_370 : BitVec 32 := 0#32
  let v495 : BitVec 1 := Scalar.cmpi .ne v494 c0_i32_370
  let v499 : BitVec 1 := Scalar.andi v498 v495
  let v500 : BitVec 32 := Scalar.addi v494 v493
  let v501 : BitVec 32 := Scalar.select v499 v500 v494
  let c128_i32_554 : BitVec 32 := 128#32
  let v731 : BitVec 32 := Scalar.muli v501 c128_i32_554
  let c0_i32_383 : BitVec 32 := 0#32
  let c1_i32_385 : BitVec 32 := 1#32
  let arg22 : BitVec 32 := Scf.iv c0_i32_383 c1_i32_385 k0_t7
  let c32_i32_555 : BitVec 32 := 32#32
  let v732 : BitVec 32 := Scalar.muli arg22 c32_i32_555
  let v733 : BitVec 32 := Scalar.addi v731 v732
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c16384_i32_28 : BitVec 32 := 16384#32
  let v47 : BitVec 32 := Scalar.muli v46 c16384_i32_28
  ![v733.toNat, v47.toNat]
@[reducible] def k0_t8_loop : Scf.Loop 32 :=
  let c0_i32_414 : BitVec 32 := 0#32
  let c4_i32_415 : BitVec 32 := 4#32
  let v554 : BitVec 32 := Scalar.addi c0_i32_414 c4_i32_415
  let c1_i32_416 : BitVec 32 := 1#32
  ⟨c0_i32_414, v554, c1_i32_416⟩
def k0_off35 (k0_t8 : Fin k0_t8_loop.trips) : Fin 2 → Nat :=
  let c0_i32_414 : BitVec 32 := 0#32
  let c1_i32_416 : BitVec 32 := 1#32
  let arg22 : BitVec 32 := Scf.iv c0_i32_414 c1_i32_416 k0_t8
  let c32_i32 : BitVec 32 := 32#32
  let v707 : BitVec 32 := Scalar.muli arg22 c32_i32
  let v708 : Index := Scalar.indexCast v707
  let c0_547 : Index := 0#32
  ![v708.toNat, 0]
def k0_off36 (d0 : Dev nD) (k0_t8 : Fin k0_t8_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_397 : BitVec 32 := 4#32
  let v529 : BitVec 32 := Scalar.addi v11 c4_i32_397
  let c8_i32_398 : BitVec 32 := 8#32
  let c0_i32_399 : BitVec 32 := 0#32
  let v530 : BitVec 1 := Scalar.cmpi .eq c8_i32_398 c0_i32_399
  let c1_i32_400 : BitVec 32 := 1#32
  let v531 : BitVec 32 := Scalar.select v530 c1_i32_400 c8_i32_398
  let v532 : BitVec 32 := Scalar.remsi v529 v531
  let c0_i32_402 : BitVec 32 := 0#32
  let v534 : BitVec 1 := Scalar.cmpi .slt v532 c0_i32_402
  let c0_i32_403 : BitVec 32 := 0#32
  let v535 : BitVec 1 := Scalar.cmpi .slt v531 c0_i32_403
  let v536 : BitVec 1 := Scalar.xori v534 v535
  let c0_i32_401 : BitVec 32 := 0#32
  let v533 : BitVec 1 := Scalar.cmpi .ne v532 c0_i32_401
  let v537 : BitVec 1 := Scalar.andi v536 v533
  let v538 : BitVec 32 := Scalar.addi v532 v531
  let v539 : BitVec 32 := Scalar.select v537 v538 v532
  let c128_i32_554 : BitVec 32 := 128#32
  let v731 : BitVec 32 := Scalar.muli v539 c128_i32_554
  let c0_i32_414 : BitVec 32 := 0#32
  let c1_i32_416 : BitVec 32 := 1#32
  let arg22 : BitVec 32 := Scf.iv c0_i32_414 c1_i32_416 k0_t8
  let c32_i32_555 : BitVec 32 := 32#32
  let v732 : BitVec 32 := Scalar.muli arg22 c32_i32_555
  let v733 : BitVec 32 := Scalar.addi v731 v732
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v45 : BitVec 32 := Scalar.muli v2 c16384_i32
  ![v733.toNat, v45.toNat]
def k0_off37 (d0 : Dev nD) (k0_t8 : Fin k0_t8_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_397 : BitVec 32 := 4#32
  let v529 : BitVec 32 := Scalar.addi v11 c4_i32_397
  let c8_i32_398 : BitVec 32 := 8#32
  let c0_i32_399 : BitVec 32 := 0#32
  let v530 : BitVec 1 := Scalar.cmpi .eq c8_i32_398 c0_i32_399
  let c1_i32_400 : BitVec 32 := 1#32
  let v531 : BitVec 32 := Scalar.select v530 c1_i32_400 c8_i32_398
  let v532 : BitVec 32 := Scalar.remsi v529 v531
  let c0_i32_402 : BitVec 32 := 0#32
  let v534 : BitVec 1 := Scalar.cmpi .slt v532 c0_i32_402
  let c0_i32_403 : BitVec 32 := 0#32
  let v535 : BitVec 1 := Scalar.cmpi .slt v531 c0_i32_403
  let v536 : BitVec 1 := Scalar.xori v534 v535
  let c0_i32_401 : BitVec 32 := 0#32
  let v533 : BitVec 1 := Scalar.cmpi .ne v532 c0_i32_401
  let v537 : BitVec 1 := Scalar.andi v536 v533
  let v538 : BitVec 32 := Scalar.addi v532 v531
  let v539 : BitVec 32 := Scalar.select v537 v538 v532
  let c128_i32_554 : BitVec 32 := 128#32
  let v731 : BitVec 32 := Scalar.muli v539 c128_i32_554
  let c0_i32_414 : BitVec 32 := 0#32
  let c1_i32_416 : BitVec 32 := 1#32
  let arg22 : BitVec 32 := Scf.iv c0_i32_414 c1_i32_416 k0_t8
  let c32_i32_555 : BitVec 32 := 32#32
  let v732 : BitVec 32 := Scalar.muli arg22 c32_i32_555
  let v733 : BitVec 32 := Scalar.addi v731 v732
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c16384_i32_28 : BitVec 32 := 16384#32
  let v47 : BitVec 32 := Scalar.muli v46 c16384_i32_28
  ![v733.toNat, v47.toNat]
@[reducible] def k0_t9_loop : Scf.Loop 32 :=
  let c0_i32_452 : BitVec 32 := 0#32
  let c4_i32_453 : BitVec 32 := 4#32
  let v603 : BitVec 32 := Scalar.addi c0_i32_452 c4_i32_453
  let c1_i32_454 : BitVec 32 := 1#32
  ⟨c0_i32_452, v603, c1_i32_454⟩
def k0_off38 (k0_t9 : Fin k0_t9_loop.trips) : Fin 2 → Nat :=
  let c0_i32_452 : BitVec 32 := 0#32
  let c1_i32_454 : BitVec 32 := 1#32
  let arg22 : BitVec 32 := Scf.iv c0_i32_452 c1_i32_454 k0_t9
  let c32_i32 : BitVec 32 := 32#32
  let v707 : BitVec 32 := Scalar.muli arg22 c32_i32
  let v708 : Index := Scalar.indexCast v707
  let c0_547 : Index := 0#32
  ![v708.toNat, 0]
def k0_off39 (d0 : Dev nD) (k0_t9 : Fin k0_t9_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c3_i32_435 : BitVec 32 := 3#32
  let v578 : BitVec 32 := Scalar.subi v11 c3_i32_435
  let c8_i32_436 : BitVec 32 := 8#32
  let c0_i32_437 : BitVec 32 := 0#32
  let v579 : BitVec 1 := Scalar.cmpi .eq c8_i32_436 c0_i32_437
  let c1_i32_438 : BitVec 32 := 1#32
  let v580 : BitVec 32 := Scalar.select v579 c1_i32_438 c8_i32_436
  let v581 : BitVec 32 := Scalar.remsi v578 v580
  let c0_i32_440 : BitVec 32 := 0#32
  let v583 : BitVec 1 := Scalar.cmpi .slt v581 c0_i32_440
  let c0_i32_441 : BitVec 32 := 0#32
  let v584 : BitVec 1 := Scalar.cmpi .slt v580 c0_i32_441
  let v585 : BitVec 1 := Scalar.xori v583 v584
  let c0_i32_439 : BitVec 32 := 0#32
  let v582 : BitVec 1 := Scalar.cmpi .ne v581 c0_i32_439
  let v586 : BitVec 1 := Scalar.andi v585 v582
  let v587 : BitVec 32 := Scalar.addi v581 v580
  let v588 : BitVec 32 := Scalar.select v586 v587 v581
  let c128_i32_554 : BitVec 32 := 128#32
  let v731 : BitVec 32 := Scalar.muli v588 c128_i32_554
  let c0_i32_452 : BitVec 32 := 0#32
  let c1_i32_454 : BitVec 32 := 1#32
  let arg22 : BitVec 32 := Scf.iv c0_i32_452 c1_i32_454 k0_t9
  let c32_i32_555 : BitVec 32 := 32#32
  let v732 : BitVec 32 := Scalar.muli arg22 c32_i32_555
  let v733 : BitVec 32 := Scalar.addi v731 v732
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v45 : BitVec 32 := Scalar.muli v2 c16384_i32
  ![v733.toNat, v45.toNat]
def k0_off40 (d0 : Dev nD) (k0_t9 : Fin k0_t9_loop.trips) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c3_i32_435 : BitVec 32 := 3#32
  let v578 : BitVec 32 := Scalar.subi v11 c3_i32_435
  let c8_i32_436 : BitVec 32 := 8#32
  let c0_i32_437 : BitVec 32 := 0#32
  let v579 : BitVec 1 := Scalar.cmpi .eq c8_i32_436 c0_i32_437
  let c1_i32_438 : BitVec 32 := 1#32
  let v580 : BitVec 32 := Scalar.select v579 c1_i32_438 c8_i32_436
  let v581 : BitVec 32 := Scalar.remsi v578 v580
  let c0_i32_440 : BitVec 32 := 0#32
  let v583 : BitVec 1 := Scalar.cmpi .slt v581 c0_i32_440
  let c0_i32_441 : BitVec 32 := 0#32
  let v584 : BitVec 1 := Scalar.cmpi .slt v580 c0_i32_441
  let v585 : BitVec 1 := Scalar.xori v583 v584
  let c0_i32_439 : BitVec 32 := 0#32
  let v582 : BitVec 1 := Scalar.cmpi .ne v581 c0_i32_439
  let v586 : BitVec 1 := Scalar.andi v585 v582
  let v587 : BitVec 32 := Scalar.addi v581 v580
  let v588 : BitVec 32 := Scalar.select v586 v587 v581
  let c128_i32_554 : BitVec 32 := 128#32
  let v731 : BitVec 32 := Scalar.muli v588 c128_i32_554
  let c0_i32_452 : BitVec 32 := 0#32
  let c1_i32_454 : BitVec 32 := 1#32
  let arg22 : BitVec 32 := Scf.iv c0_i32_452 c1_i32_454 k0_t9
  let c32_i32_555 : BitVec 32 := 32#32
  let v732 : BitVec 32 := Scalar.muli arg22 c32_i32_555
  let v733 : BitVec 32 := Scalar.addi v731 v732
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c16384_i32_28 : BitVec 32 := 16384#32
  let v47 : BitVec 32 := Scalar.muli v46 c16384_i32_28
  ![v733.toNat, v47.toNat]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024x32768, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x32768, .f32⟩
  | .hbm, ⟨7, _⟩ => ⟨S1024x32768, .f32⟩
  | .hbm, ⟨8, _⟩ => ⟨S1024x32768, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1024x32768, .f32⟩
  | .hbm, ⟨13, _⟩ => ⟨S1024x32768, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.RunKernelIdeal.Ring.lean ====
/-
# The mesh of sixteen devices: who writes what into whom

The devices form two rings of eight; device `8 x + 4 y + z` stands at place `z` of ring `x` when `y = 0` and at place
`7 - z` otherwise. Each device knows its partner on the other ring (`par`) and its two neighbours (`nxt`, `prv`).
There are eight transfers per device: three to the partner, three to the next device, two to the previous one. The
transfer `k` of device `c` writes the slice `row c k` (128 rows) of the second logits buffer of `tgt c k`.
This module states those tables and the facts the proof reads off them; it is arithmetic only.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic
public import Idealize.ShloMosaic.Lib.Pointwise

@[expose] public section

noncomputable section

namespace Cert.KernelIdeal.Mesh

open Cert.KernelIdeal Cert.KernelIdeal.Gen
open Idealize.ShloMosaic Idealize.ShloMosaic.TcCoe

/-! ## Places -/

/-- The place of a device on its ring. -/
def pos (c : Dev nD) : ℕ := if (c.val / 4) % 2 = 0 then c.val % 4 else 7 - c.val % 4

theorem pos_lt (c : Dev nD) : pos c < 8 := by revert c; decide

/-- The device at place `q` of ring `x`. -/
def at_ (x : Fin 2) (q : Fin 8) : Dev nD := ⟨8 * x.val + (if q.val < 4 then q.val else 11 - q.val), by revert x q; decide⟩

/-- The ring of a device. -/
def side (c : Dev nD) : Fin 2 := ⟨c.val / 8, by revert c; decide⟩

/-- The partner on the other ring, the next device and the previous one. -/
def par (c : Dev nD) : Dev nD := ⟨(c.val + 8) % 16, Nat.mod_lt _ (by decide)⟩
def nxt (c : Dev nD) : Dev nD := at_ (side c) ⟨(pos c + 1) % 8, Nat.mod_lt _ (by decide)⟩
def prv (c : Dev nD) : Dev nD := at_ (side c) ⟨(pos c + 7) % 8, Nat.mod_lt _ (by decide)⟩

theorem par_par (c : Dev nD) : par (par c) = c := by revert c; decide
theorem nxt_prv (c : Dev nD) : nxt (prv c) = c := by revert c; decide
theorem prv_nxt (c : Dev nD) : prv (nxt c) = c := by revert c; decide

def parE : Dev nD ≃ Dev nD := ⟨par, par, par_par, par_par⟩
def nxtE : Dev nD ≃ Dev nD := ⟨nxt, prv, prv_nxt, nxt_prv⟩

/-! ## The eight transfers of a device -/

/-- Where transfer `k` goes: 0, 1, 2 to the partner, 3, 4, 5 to the next device, 6, 7 to the previous one. -/
def tgtE (k : Fin 8) : Dev nD ≃ Dev nD := if k.val < 3 then parE else if k.val < 6 then nxtE else nxtE.symm
def tgt (c : Dev nD) (k : Fin 8) : Dev nD := tgtE k c

/-- The slice transfer `k` carries, counted from the device's own place. -/
def offK (k : Fin 8) : ℕ := ![0, 3, 4, 0, 7, 6, 0, 1] k
/-- The slice at distance `o` from a device's place. -/
def slice (c : Dev nD) (o : ℕ) : Fin 8 := ⟨(pos c + o) % 8, Nat.mod_lt _ (by decide)⟩
def row (c : Dev nD) (k : Fin 8) : Fin 8 := slice c (offK k)

/-- Whose product the second logits buffer of `c` ends holding at slice `r`: the partner's for the three slices the
    partner sends straight to `c`; any other slice travelled along the ring from the device at place `r`, which had it
    from its own partner. -/
def src (c : Dev nD) (r : Fin 8) : Dev nD :=
  if r = slice c 0 ∨ r = slice c 3 ∨ r = slice c 4 then par c else par (at_ (side c) r)

/-- Where landing `k` falls among the receiving device's own slices. -/
def recvOff (k : Fin 8) : ℕ := ![0, 3, 4, 7, 6, 5, 1, 2] k
theorem row_tgt (c : Dev nD) (k : Fin 8) : row c k = slice (tgt c k) (recvOff k) := by revert c k; decide +kernel

theorem src_par (c : Dev nD) (k : Fin 8) (h : k.val < 3) : src (tgt c k) (row c k) = c := by revert c k; decide +kernel
theorem src_ring (c : Dev nD) (k : Fin 8) (h : ¬ k.val < 3) : src (tgt c k) (row c k) = src c (row c k) := by revert c k; decide +kernel
/-- All the products summed over the other ring: the source of any slice of `c` is on the other ring. -/
theorem side_src (c : Dev nD) (r : Fin 8) : side (src c r) = side (par c) := by revert c r; decide +kernel
theorem side_par (c : Dev nD) : (side (par c)).val = 1 - (side c).val := by revert c; decide

/-! ## The device numbers the kernel computes -/

theorem dev1_eq (c : Dev nD) : (⟨k0_dev1 c, k0_dev1_lt c⟩ : Dev nD) = par c := Fin.ext ((k0_dev1_eq c).trans (by revert c; decide))
theorem dev4_eq (c : Dev nD) : (⟨k0_dev4 c, k0_dev4_lt c⟩ : Dev nD) = tgt c 0 := Fin.ext ((k0_dev4_eq c).trans (by revert c; decide))
theorem dev5_eq (c : Dev nD) : (⟨k0_dev5 c, k0_dev5_lt c⟩ : Dev nD) = tgt c 1 := Fin.ext ((k0_dev5_eq c).trans (by revert c; decide))
theorem dev6_eq (c : Dev nD) : (⟨k0_dev6 c, k0_dev6_lt c⟩ : Dev nD) = tgt c 2 := Fin.ext ((k0_dev6_eq c).trans (by revert c; decide))
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = prv c := by revert c; decide +kernel
theorem dev7_eq (c : Dev nD) : (⟨k0_dev7 c, k0_dev7_lt c⟩ : Dev nD) = tgt c 3 := by revert c; decide +kernel
theorem dev8_eq (c : Dev nD) : (⟨k0_dev8 c, k0_dev8_lt c⟩ : Dev nD) = tgt c 6 := by revert c; decide +kernel
theorem dev9_eq (c : Dev nD) : (⟨k0_dev9 c, k0_dev9_lt c⟩ : Dev nD) = tgt c 4 := by revert c; decide +kernel
theorem dev10_eq (c : Dev nD) : (⟨k0_dev10 c, k0_dev10_lt c⟩ : Dev nD) = tgt c 7 := by revert c; decide +kernel
theorem dev11_eq (c : Dev nD) : (⟨k0_dev11 c, k0_dev11_lt c⟩ : Dev nD) = tgt c 5 := by revert c; decide +kernel

/-! ## The row offsets the kernel computes -/

theorem off14_eq (c : Dev nD) : k0_off14 c = ![128 * (slice c 0).val, 0] := (k0_off14_eq c).trans (by revert c; decide +kernel)
theorem off15_eq0 (c : Dev nD) : k0_off15 c 0#32 = ![128 * (slice c 0).val, 0] := by revert c; decide +kernel
theorem off15_eq1 (c : Dev nD) : k0_off15 c 1#32 = ![128 * (slice c 1).val, 0] := by revert c; decide +kernel
theorem off15_eq2 (c : Dev nD) : k0_off15 c 2#32 = ![128 * (slice c 2).val, 0] := by revert c; decide +kernel
theorem off15_eq3 (c : Dev nD) : k0_off15 c 3#32 = ![128 * (slice c 3).val, 0] := by revert c; decide +kernel
theorem off15_eq4 (c : Dev nD) : k0_off15 c 4#32 = ![128 * (slice c 4).val, 0] := by revert c; decide +kernel
theorem off19_eq0 (c : Dev nD) : k0_off19 c 0#32 = ![128 * (slice c 0).val, 0] := by revert c; decide +kernel
theorem off19_eq1 (c : Dev nD) : k0_off19 c 1#32 = ![128 * (slice c 7).val, 0] := by revert c; decide +kernel
theorem off19_eq2 (c : Dev nD) : k0_off19 c 2#32 = ![128 * (slice c 6).val, 0] := by revert c; decide +kernel
theorem off19_eq3 (c : Dev nD) : k0_off19 c 3#32 = ![128 * (slice c 5).val, 0] := by revert c; decide +kernel

end Cert.KernelIdeal.Mesh

end
-- ==== Proof.RunKernelIdeal.Sched.lean ====
/-
# The protocol: cells, contents, duties, levels

One round. A device's barrier cell is paid by its partner, by the device before it and by the device after it, one
unit each; each payer hands over the slices of its own second logits buffer that the owner is going to write. A receive
cell is paid by the one transfer that lands there and hands its owner the slice at its final contents; a send cell hands
back nothing (the source is not needed again). A device waits on a cell only while everything it still owes sits higher:
the barrier at 1, the first three receive cells at 2, those of the ring steps at 3, 4, 5, everything else at 0.
-/
module

public import proofs.«01_k».proof.Proof.RunKernelIdeal.Ring

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance
/-- The counters the local copies are tracked by. -/
abbrev EC : UEmb Counters (MT nD τ sig Unit (Elt F) ℕ UU ℕ) := countersEmb

abbrev 𝒱₀ : Variants := Variants.none

/-! ## Memrefs and cells -/

abbrev minM : Memref sig .tc .hbm S1024x16384 .bf16 := Memref.whole main_v1_1
abbrev thrM : Memref sig .tc .hbm S1024x16384 .bf16 := Memref.whole main_v1_2

theorem inbR (r : Fin 8) : ∀ a, (![128 * r.val, 0] : Fin 2 → ℕ) a + S128x16384.size a ≤ S1024x16384.size a := by
  intro a
  have h0 : S128x16384.size 0 = 128 := rfl
  have h1 : S128x16384.size 1 = 16384 := rfl
  have g0 : S1024x16384.size 0 = 1024 := rfl
  have g1 : S1024x16384.size 1 = 16384 := rfl
  fin_cases a
  · show 128 * r.val + 128 ≤ 1024; omega
  · show 0 + 16384 ≤ 16384; omega

/-- Slice `r` (128 rows) of the first and of the second logits buffer. -/
def minR (r : Fin 8) : Memref sig .tc .hbm S128x16384 .bf16 :=
  minM.slice (Rect.unit (s := S1024x16384) ![128 * r.val, 0] S128x16384.size (inbR r)) (fun _ => rfl)
def thrR (r : Fin 8) : Memref sig .tc .hbm S128x16384 .bf16 :=
  thrM.slice (Rect.unit (s := S1024x16384) ![128 * r.val, 0] S128x16384.size (inbR r)) (fun _ => rfl)

theorem minR_of {o : Fin 2 → ℕ} {r : Fin 8} (h : o = ![128 * r.val, 0]) (inb : ∀ a, o a + S128x16384.size a ≤ S1024x16384.size a) (p) :
    minM.slice (Rect.unit (s := S1024x16384) o S128x16384.size inb) p = minR r := by subst h; rfl
theorem thrR_of {o : Fin 2 → ℕ} {r : Fin 8} (h : o = ![128 * r.val, 0]) (inb : ∀ a, o a + S128x16384.size a ≤ S1024x16384.size a) (p) :
    thrM.slice (Rect.unit (s := S1024x16384) o S128x16384.size inb) p = thrR r := by subst h; rfl

/-- The indices of slice `r`. -/
def rowSet (r : Fin 8) : Finset S1024x16384.Idx := Finset.univ.filter fun i => (i 0).val / 128 = r.val

theorem mem_rect (r : Fin 8) (i : S1024x16384.Idx) :
    i ∈ (Rect.unit (s := S1024x16384) ![128 * r.val, 0] S128x16384.size (inbR r)).set ↔ i ∈ rowSet r := by
  rw [Rect.mem_set_unit]
  unfold rowSet
  rw [Finset.mem_filter]
  constructor
  · intro h
    have h0 : 128 * r.val ≤ (i 0).val ∧ (i 0).val < 128 * r.val + 128 := h 0
    exact ⟨Finset.mem_univ _, by omega⟩
  · rintro ⟨-, h⟩ a
    have h1 : (i 1).val < 16384 := (i 1).isLt
    fin_cases a
    · show 128 * r.val ≤ (i 0).val ∧ (i 0).val < 128 * r.val + 128; omega
    · show 0 ≤ (i 1).val ∧ (i 1).val < 0 + 16384; omega

theorem minR_set (r : Fin 8) : (minR r).view.set = rowSet r := by
  show ((View.whole main_v1_1).slice _).set = _
  rw [View.set_slice_whole]; exact Finset.ext (mem_rect r)
theorem thrR_set (r : Fin 8) : (thrR r).view.set = rowSet r := by
  show ((View.whole main_v1_2).slice _).set = _
  rw [View.set_slice_whole]; exact Finset.ext (mem_rect r)

abbrev barS : Sem sig := (SemArray.scalar (sig.barrier 0 rfl) : Sems sig S_).sem
/-- The semaphores of transfer `k`: the one its source's device waits on, and the one its target waits on. -/
def sendSem (k : Fin 8) : DmaSem sig := (![9, 10, 11, 15, 16, 17, 21, 22] : Fin 8 → Fin 25) k
def recvSem (k : Fin 8) : DmaSem sig := (![12, 13, 14, 18, 19, 20, 23, 24] : Fin 8 → Fin 25) k

abbrev barCell (c : Dev nD) : GSem nD τ sig := ((c : Thread nD τ), .reg barS)
abbrev sendCell (c : Dev nD) (k : Fin 8) : GSem nD τ sig := ((c : Thread nD τ), .dma (sendSem k))
abbrev recvCell (c : Dev nD) (k : Fin 8) : GSem nD τ sig := ((c : Thread nD τ), .dma (recvSem k))

/-- What the landing of one slice credits. -/
def N : ℕ := (thrR 0).view.dmaCredit
theorem N_pos : 0 < N := View.dmaCredit_pos _ (by decide)
theorem credit_thr (r : Fin 8) : (thrR r).view.dmaCredit = N := rfl
theorem credit_min (r : Fin 8) : (minR r).view.dmaCredit = N := rfl

/-! ## Contents -/

variable (m : (ℓ : Loc nD τ sig) → Buf (Elt F) ℓ)

/-- Device `c`'s copy of `x`, and column block `j` of its part of `W`. -/
def xin (c : Dev nD) : Vec F S1024x2048 .f32 := m ((c : Thread nD τ).loc main_arg0)
def wbuf (c : Dev nD) : Buf (Elt F) ((c : Thread nD τ).loc main_arg1) := m ((c : Thread nD τ).loc main_arg1)
def wblk (c : Dev nD) (j : ℕ) : Vec F S1x2048x1024 .f32 :=
  fun i => wbuf m c (ix2 (n0 := 2048) (n1 := 16384) (i 1) ⟨(1024 * j + (i 2).val) % 16384, Nat.mod_lt _ (by decide)⟩)

/-- The product of `x` with device `c`'s part of `W`, one block of 1024 columns at a time: what the first logits buffer
    of `c` holds. -/
def logits (c : Dev nD) : Buf (Elt F) ((c : Thread nD τ).loc main_v1_1) :=
  fun i : S1024x16384.Idx => (k0_pay1 (k0_pay42 (xin m c)) (wblk m c ((i 1).val / 1024)) : FVec F S1x1024x1024 .bf16)
    (ix3 (n0 := 1) (n1 := 1024) (n2 := 1024) 0 (i 0) ⟨(i 1).val % 1024, Nat.mod_lt _ (by decide)⟩)

/-- What the second logits buffer of `c` holds: slice by slice, the product of a device of the other ring. -/
def other (c : Dev nD) : Buf (Elt F) ((c : Thread nD τ).loc main_v1_2) :=
  fun i : S1024x16384.Idx => logits m (src c ⟨(i 0).val / 128, by have h : (i 0).val < 1024 := (i 0).isLt; omega⟩) i

/-- The 32 rows of a logits buffer that row `i` lies among. -/
def rows32 (f : S1024x16384.Idx → F .bf16) (b : ℕ) : Vec F S32x16384 .bf16 :=
  fun j => f (ix2 (n0 := 1024) (n1 := 16384) ⟨(32 * b + (j 0).val) % 1024, Nat.mod_lt _ (by decide)⟩ (j 1))

/-- The result on device `c`: the own product's share in the columns of the own ring's half, the other product's share
    in the other half. -/
def result (c : Dev nD) : Buf (Elt F) ((c : Thread nD τ).loc main_v1_0) :=
  fun i : S1024x32768.Idx =>
    (if (i 1).val / 16384 = (side c).val then k0_pay5 (rows32 (logits m c) ((i 0).val / 32)) (rows32 (other m c) ((i 0).val / 32))
      else k0_pay6 (rows32 (logits m c) ((i 0).val / 32)) (rows32 (other m c) ((i 0).val / 32)) : FVec F S32x16384 .f32)
      (ix2 (n0 := 32) (n1 := 16384) ⟨(i 0).val % 32, Nat.mod_lt _ (by decide)⟩ ⟨(i 1).val % 16384, Nat.mod_lt _ (by decide)⟩)

/-! ## The schedule -/

/-- Slice `r` of `c`'s second logits buffer at contents `f`. -/
def slPts (c : Dev nD) (r : Fin 8) (f : Buf (Elt F) ((c : Thread nD τ).loc main_v1_2)) : sProp 𝕄 :=
  ((c : Thread nD τ).loc main_v1_2) ↦[rowSet r]{fullShare} f
theorem thr_pts (c : Dev nD) (r : Fin 8) (q : PosShare TreeShare) (f : Buf (Elt F) ((c : Thread nD τ).loc main_v1_2)) :
    (((thrR r).view.loc (c : Thread nD τ)) ↦[(thrR r).view.set]{q} f : sProp 𝕄) = (((c : Thread nD τ).loc main_v1_2) ↦[rowSet r]{q} f) :=
  congrArg (fun S : Finset S1024x16384.Idx => (((c : Thread nD τ).loc main_v1_2) ↦[S]{q} f : sProp 𝕄)) (thrR_set r)
theorem min_pts (c : Dev nD) (r : Fin 8) (q : PosShare TreeShare) (f : Buf (Elt F) ((c : Thread nD τ).loc main_v1_1)) :
    (((minR r).view.loc (c : Thread nD τ)) ↦[(minR r).view.set]{q} f : sProp 𝕄) = (((c : Thread nD τ).loc main_v1_1) ↦[rowSet r]{q} f) :=
  congrArg (fun S : Finset S1024x16384.Idx => (((c : Thread nD τ).loc main_v1_1) ↦[S]{q} f : sProp 𝕄)) (minR_set r)
/-- The slice transfer `k` of `c` is to write, at any contents. -/
def slot (c : Dev nD) (k : Fin 8) : sProp 𝕄 := iprop(∃ f, slPts (tgt c k) (row c k) f)

instance slPts_storable (c : Dev nD) (r : Fin 8) (f) : BI.Storable (upEmb : UEmb _ 𝕄) (slPts (F := F) c r f) := by unfold slPts; infer_instance
instance slot_storable (c : Dev nD) (k : Fin 8) : BI.Storable (upEmb : UEmb _ 𝕄) (slot (F := F) c k) := by unfold slot; infer_instance

/-- What `c`'s barrier is handed with: by its partner (duty 0), by the device before it (1), by the device after it (2). -/
def barPay (c : Dev nD) (d : Fin 3) : sProp 𝕄 :=
  if d = 0 then iprop(slot c 0 ∗ slot c 1 ∗ slot c 2) else if d = 1 then iprop(slot c 6 ∗ slot c 7) else iprop(slot c 3 ∗ slot c 4 ∗ slot c 5)
/-- What landing `k` hands device `c`. -/
def recvPay (c : Dev nD) (k : Fin 8) : sProp 𝕄 := slPts c (slice c (recvOff k)) (other m c)

instance barPay_storable (c : Dev nD) (d : Fin 3) : BI.Storable (upEmb : UEmb _ 𝕄) (barPay (F := F) c d) := by
  unfold barPay; (repeat' split) <;> infer_instance
instance recvPay_storable (c : Dev nD) (k : Fin 8) : BI.Storable (upEmb : UEmb _ 𝕄) (recvPay m c k) := by unfold recvPay; infer_instance

/-- The transfer a semaphore completes at its target, if any. -/
def kindOf (q : Fin 25) : Option (Fin 8) :=
  (![none, none, none, none, none, none, none, none, none, none, none, none, some 0, some 1, some 2, none, none, none,
    some 3, some 4, some 5, none, none, some 6, some 7] : Fin 25 → Option (Fin 8)) q

def pay (g : GSem nD τ sig) (d : Fin 3) : sProp 𝕄 := match g.2 with
  | .reg _ => barPay g.1.1 d
  | .dma q => match kindOf q with
    | some k => recvPay m g.1.1 k
    | none => iprop(emp)

/-- The duties of a cell: three at a barrier, one at each semaphore of a transfer. -/
def dut (sm : SemLoc sig) : Finset (Fin 3) := match sm with
  | .reg _ => Finset.univ
  | .dma q => if 9 ≤ (show Fin 25 from q).val then {0} else ∅
def amt (sm : SemLoc sig) : ℕ := match sm with
  | .reg _ => 1
  | .dma _ => N

def Rd : Rounds.Schedule (GSem nD τ sig) (Fin 3) 𝕄 where
  duties g r := if r = 0 ∧ g.1.2 = .tc then dut g.2 else ∅
  unitless _ := False
  amount g _ _ := amt g.2
  payload g _ d := pay m g d
  amount_pos g _ _ _ := by
    unfold amt; split
    · exact Nat.one_pos
    · exact N_pos

instance Rd_payload_storable (g : GSem nD τ sig) (r : ℕ) (d : Fin 3) : BI.Storable (upEmb : UEmb _ 𝕄) ((Rd m).payload g r d) := by
  show BI.Storable upEmb (pay m g d)
  unfold pay
  (repeat' split) <;> infer_instance

section
variable (c : Dev nD) (k : Fin 8)

theorem duties_bar : (Rd m).duties (barCell c) 0 = Finset.univ := rfl
theorem duties_send : (Rd m).duties (sendCell c k) 0 = {0} := by
  show dut (.dma (sendSem k)) = {0}
  unfold dut; exact if_pos (by revert k; decide)
theorem duties_recv : (Rd m).duties (recvCell c k) 0 = {0} := by
  show dut (.dma (recvSem k)) = {0}
  unfold dut; exact if_pos (by revert k; decide)
theorem duties_later (g : GSem nD τ sig) : ∀ r, 1 ≤ r → (Rd m).duties g r = ∅ :=
  fun r hr => by dsimp only [Rd]; rw [if_neg fun h => by omega]
theorem amount_bar (d : Fin 3) : (Rd m).amount (barCell c) 0 d = 1 := rfl
theorem amount_send (d : Fin 3) : (Rd m).amount (sendCell c k) 0 d = N := rfl
theorem amount_recv (d : Fin 3) : (Rd m).amount (recvCell c k) 0 d = N := rfl
theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd m).expect (sendCell c k) 0 = N := by
  unfold Schedule.expect Schedule.amountOf; rw [duties_send, Finset.sum_singleton, amount_send]
theorem expect_recv : (Rd m).expect (recvCell c k) 0 = N := by
  unfold Schedule.expect Schedule.amountOf; rw [duties_recv, Finset.sum_singleton, amount_recv]

theorem kind_recv : kindOf (recvSem k) = some k := by revert k; decide
theorem kind_send : kindOf (sendSem k) = none := by revert k; decide
theorem payload_bar (d : Fin 3) : (Rd m).payload (barCell c) 0 d = barPay c d := rfl
theorem payload_recv (d : Fin 3) : (Rd m).payload (recvCell c k) 0 d = recvPay m c k := by
  show (match kindOf (recvSem k) with | some k => recvPay m c k | none => iprop(emp)) = _
  rw [kind_recv]
theorem payload_send (d : Fin 3) : (Rd m).payload (sendCell c k) 0 d = iprop(emp) := by
  show (match kindOf (sendSem k) with | some k => recvPay m c k | none => iprop(emp)) = _
  rw [kind_send]

theorem rest_bar : bigSep ((Rd m).duties (barCell c) 0 \ ∅) (fun d => (Rd m).payload (barCell c) 0 d)
    = iprop((slot c 0 ∗ slot c 1 ∗ slot c 2) ∗ (slot c 6 ∗ slot c 7) ∗ (slot c 3 ∗ slot c 4 ∗ slot c 5)) := by
  rw [Finset.sdiff_empty, duties_bar, bigSep_univ_eq_bigSepL [0, 1, 2] (by decide) (by decide), bigSepL_cons_cons, bigSepL_cons_cons, bigSepL_singleton]
  rfl
theorem rest_recv : bigSep ((Rd m).duties (recvCell c k) 0 \ ∅) (fun d => (Rd m).payload (recvCell c k) 0 d) = recvPay m c k := by
  rw [Finset.sdiff_empty, duties_recv, bigSep_singleton, payload_recv]
theorem rest_send : bigSep ((Rd m).duties (sendCell c k) 0 \ ∅) (fun d => (Rd m).payload (sendCell c k) 0 d) = iprop(emp) := by
  rw [Finset.sdiff_empty, duties_send, bigSep_singleton, payload_send]

end

/-! ## What a device owes; the levels -/

/-- The credit transfer `k` of `c` pays its target. -/
def rcv (c : Dev nD) (k : Fin 8) : CellTallies nD τ sig Unit := tallyAt (recvCell (tgt c k) k) () N
/-- What `c` owes for the transfers of a list still to be made, the next one to be made last in the sum. -/
def oweR (c : Dev nD) : List (Fin 8) → CellTallies nD τ sig Unit
  | [] => 0
  | k :: l => oweR c l + rcv c k
/-- The transfers in the order they are made. -/
def order : List (Fin 8) := [0, 1, 2, 3, 6, 4, 7, 5]
def O₁ (c : Dev nD) : CellTallies nD τ sig Unit := oweR c order + tallyAt (barCell (prv c)) () 1
def O₂ (c : Dev nD) : CellTallies nD τ sig Unit := O₁ c + tallyAt (barCell (nxt c)) () 1
def O₀ (c : Dev nD) : CellTallies nD τ sig Unit := O₂ c + tallyAt (barCell (par c)) () 1

def Lx (g : GSem nD τ sig) : Finset Unit := if g.1.2 = .tc then {()} else ∅
def lvK (k : Fin 8) : ℕ := ![2, 2, 2, 3, 4, 5, 3, 4] k
def lv (g : GSem nD τ sig) (_ : Unit) : ℕ := match g.2 with
  | .reg _ => 1
  | .dma q => match kindOf q with
    | some k => lvK k
    | none => 0

theorem Lx_of_ne (g : GSem nD τ sig) (h : g.1.2 ≠ .tc) : Lx g = ∅ := if_neg h
theorem Lx_tc (c : Dev nD) (sm : SemLoc sig) : Lx ((c : Thread nD τ), sm) = {()} := if_pos rfl
theorem lv_recv (c : Dev nD) (k : Fin 8) (u : Unit) : lv (recvCell c k) u = lvK k := by
  show (match kindOf (recvSem k) with | some k => lvK k | none => 0) = _
  rw [kind_recv]
theorem lv_bar (c : Dev nD) (u : Unit) : lv (barCell c) u = 1 := rfl
theorem lv_low (c : Dev nD) (q : DmaSem sig) (u : Unit) (h : kindOf q = none) : lv ((c : Thread nD τ), .dma q) u = 0 := by
  show (match kindOf q with | some k => lvK k | none => 0) = _
  rw [h]

theorem lvK_pos (k : Fin 8) : 0 < lvK k := by revert k; decide

theorem add_tally_pos {O : CellTallies nD τ sig Unit} {g g' : GSem nD τ sig} {u : Unit} {n : ℕ} (h : 0 < (O + tallyAt g' () n) g u) :
    0 < O g u ∨ g = g' := by
  by_cases hg : g = g'
  · exact Or.inr hg
  · left
    rw [Pi.add_apply, Finsupp.add_apply, tallyAt_apply, if_neg (fun h' => hg h'.1), Nat.add_zero] at h
    exact h

theorem oweR_pos {c : Dev nD} {l : List (Fin 8)} {g : GSem nD τ sig} {u : Unit} (h : 0 < oweR c l g u) :
    ∃ k ∈ l, g = recvCell (tgt c k) k := by
  induction l with
  | nil => exact absurd h (Nat.lt_irrefl 0)
  | cons k l ih =>
    rcases add_tally_pos h with h | h
    · obtain ⟨k', hk', e⟩ := ih h
      exact ⟨k', List.mem_cons_of_mem _ hk', e⟩
    · exact ⟨k, List.mem_cons_self, h⟩

theorem O₀_pos {c : Dev nD} {g : GSem nD τ sig} {u : Unit} (h : 0 < O₀ c g u) :
    (∃ k ∈ order, g = recvCell (tgt c k) k) ∨ g = barCell (prv c) ∨ g = barCell (nxt c) ∨ g = barCell (par c) := by
  rcases add_tally_pos h with h | h
  · rcases add_tally_pos h with h | h
    · rcases add_tally_pos h with h | h
      · exact Or.inl (oweR_pos h)
      · exact Or.inr (Or.inl h)
    · exact Or.inr (Or.inr (Or.inl h))
  · exact Or.inr (Or.inr (Or.inr h))

/-- Waiting on a cell below every receive cell still owed. -/
theorem mayWait_list (c : Dev nD) (sm : SemLoc sig) (v : ℕ) (hv : lv ((c : Thread nD τ), sm) () ≤ v) (l : List (Fin 8)) (hl : ∀ k ∈ l, v < lvK k) :
    (levAts Lx lv : sProp 𝕄) ⊢ MayWait (c : Thread nD τ) sm () (oweR c l) :=
  MayOwe.of_cut (L := Lx) (lev := lv) v (fun p hp => by rw [Finset.mem_singleton.mp hp, Lx_tc]; exact Finset.mem_singleton_self _)
    (fun g u hg => by obtain ⟨k, _, rfl⟩ := oweR_pos hg; rw [Lx_tc]; exact Finset.mem_singleton_self _)
    (fun p hp => by rw [Finset.mem_singleton.mp hp]; exact hv)
    (fun g u hg => by obtain ⟨k, hk, rfl⟩ := oweR_pos hg; rw [lv_recv]; exact hl k hk)

/-- Waiting on a cell of no transfer's landing. -/
theorem mayWait_low (c : Dev nD) (q : DmaSem sig) (hq : kindOf q = none) (l : List (Fin 8)) :
    (levAts Lx lv : sProp 𝕄) ⊢ MayWait (c : Thread nD τ) (.dma q) () (oweR c l) :=
  mayWait_list c _ 0 (by rw [lv_low c q () hq]) l (fun k _ => lvK_pos k)

theorem mayWait_stage (c : Dev nD) (q : DmaSem sig) (hq : kindOf q = none) (O : CellTallies nD τ sig Unit) (hO : O = O₀ c ∨ O = 0) :
    (levAts Lx lv : sProp 𝕄) ⊢ MayWait (c : Thread nD τ) (.dma q) () O := by
  rcases hO with rfl | rfl
  · refine MayOwe.of_cut (L := Lx) (lev := lv) 0 (fun p hp => by rw [Finset.mem_singleton.mp hp, Lx_tc]; exact Finset.mem_singleton_self _)
      (fun g u hg => by rcases O₀_pos hg with ⟨k, _, rfl⟩ | rfl | rfl | rfl <;> exact Finset.mem_singleton_self _)
      (fun p hp => by rw [Finset.mem_singleton.mp hp, lv_low c q () hq])
      (fun g u hg => by
        rcases O₀_pos hg with ⟨k, _, rfl⟩ | rfl | rfl | rfl
        · rw [lv_recv]; exact lvK_pos k
        · rw [lv_bar]; decide
        · rw [lv_bar]; decide
        · rw [lv_bar]; decide)
  · rw [MayWait_zero]; iintro -; iempintro

end Cert.KernelIdeal.Mesh

end
-- ==== Proof.RunKernelIdeal.Steps.lean ====
/-
# One step of the protocol at a time

The three kinds of step a transfer is made of, each stated once for every transfer: starting it, waiting for what lands
here, waiting for what left here. And the two copies of one slice from the logits buffers into on-chip memory.
-/
module

public import proofs.«01_k».proof.Proof.RunKernelIdeal.Sched

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells everybody knows -/

/-- A device's cells: its barrier, its eight send cells, its eight receive cells. -/
def csem (j : Fin 17) : SemLoc sig :=
  if j.val = 0 then .reg barS else if h : j.val ≤ 8 then .dma (sendSem ⟨j.val - 1, by omega⟩) else .dma (recvSem ⟨j.val - 9, by omega⟩)
abbrev kcell (p : Dev nD × Fin 17) : GSem nD τ sig := ((p.1 : Thread nD τ), csem p.2)

def sendIx (k : Fin 8) : Fin 17 := ⟨k.val + 1, by omega⟩
def recvIx (k : Fin 8) : Fin 17 := ⟨k.val + 9, by omega⟩
theorem csem_send (k : Fin 8) : csem (sendIx k) = .dma (sendSem k) := by
  unfold csem sendIx
  rw [if_neg (by show ¬ (k.val + 1 = 0); omega), dif_pos (by show k.val + 1 ≤ 8; omega)]; rfl
theorem csem_recv (k : Fin 8) : csem (recvIx k) = .dma (recvSem k) := by
  unfold csem recvIx
  rw [if_neg (by show ¬ (k.val + 9 = 0); omega), dif_neg (by show ¬ (k.val + 9 ≤ 8); omega)]; rfl

def know (g : GSem nD τ sig) : sProp 𝕄 := iprop(∃ κ : ℕ, cellInv ER (Rd m) κ g ∗ reached ER g 0)
instance (g : GSem nD τ sig) : BI.Persistent (know m g) := by unfold know; infer_instance
def known : sProp 𝕄 := bigSep Finset.univ fun p : Dev nD × Fin 17 => know m (kcell p)
instance : BI.Persistent (known m) := by unfold known; infer_instance

theorem known_bar (c : Dev nD) : known m ⊢ know m (barCell c) := bigSep_elim (Finset.mem_univ (c, (0 : Fin 17)))
theorem known_send (c : Dev nD) (k : Fin 8) : known m ⊢ know m (sendCell c k) := by
  have h := bigSep_elim (Φ := fun p : Dev nD × Fin 17 => know m (kcell p)) (Finset.mem_univ (c, sendIx k))
  rw [show kcell (c, sendIx k) = sendCell c k from congrArg (Prod.mk _) (csem_send k)] at h
  exact h
theorem known_recv (c : Dev nD) (k : Fin 8) : known m ⊢ know m (recvCell c k) := by
  have h := bigSep_elim (Φ := fun p : Dev nD × Fin 17 => know m (kcell p)) (Finset.mem_univ (c, recvIx k))
  rw [show kcell (c, recvIx k) = recvCell c k from congrArg (Prod.mk _) (csem_recv k)] at h
  exact h

/-- What `c` owes, whatever it has waited on so far. -/
def ow (c : Dev nD) (O : CellTallies nD τ sig Unit) : sProp 𝕄 := iprop(∃ W, owes (c : Thread nD τ) O W)

/-! ## Starting a transfer -/

variable {α : Type} {Q : α → sProp (MT nD τ sig Unit (Elt F) ℕ UU ℕ)}

theorem send_step (c n : Dev nD) (k : Fin 8) (l : List (Fin 8)) (hn : n = tgt c k) (src dst : Memref sig .tc .hbm S128x16384 .bf16)
    (hd : dst = thrR (row c k)) {sS sV : DmaSem sig} (hS : sS = sendSem k) (hV : sV = recvSem k)
    {hsc : (dst : Memref sig (Dev.tc n : Thread nD τ).2.kind .hbm S128x16384 .bf16).view.ref.isScScratch = false}
    {hsrc : src.view.WordExact} {hdst : dst.view.WordExact}
    {hsem : DmaTarget.Typed .hbm (.dma sV) (.remote (Dev.tc n : Thread nD τ) dst (.dma sS) hsc)}
    {kk : PUnit → Prog (TpuEff nD τ sig (Elt F) Λ₀ .tc) α} {q : PosShare TreeShare} (fs : Buf (Elt F) (src.view.loc (c : Thread nD τ)))
    (hval : ∀ fd : Buf (Elt F) ((thrR (row c k)).view.loc (tgt c k : Thread nD τ)), ∀ i ∈ rowSet (row c k),
      (thrR (row c k)).view.write (Elt F) fd (src.view.read (Elt F) fs) Finset.univ i = other m (tgt c k) i) :
    iprop(known m ∗ (src.view.loc (c : Thread nD τ) ↦[src.view.set]{q} fs) ∗ slot c k ∗ ow c (oweR c (k :: l))
        ∗ dutyTok ER (sendCell c k) 0 0 ∗ dutyTok ER (recvCell (tgt c k) k) 0 0)
      ⊢ iprop(((cred (tallyAt (sendCell c k) () N) ∗ ow c (oweR c l)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) kk) Q) := by
  subst hn; subst hd; subst hS; subst hV
  unfold ow slot slPts
  iintro ⟨#Hk, Hs, ⟨%fd, Hd⟩, ⟨%W, HO⟩, Ht1, Ht2⟩ Hc
  ihave #H1 := (known_send m c k) $$ Hk
  ihave #H2 := (known_recv m (tgt c k) k) $$ Hk
  unfold know
  icases H1 with ⟨%κ₁, #HI1, #Hr1⟩
  icases H2 with ⟨%κ₂, #HI2, #Hr2⟩
  ihave Hd' := (Entails.of_eq (thr_pts (tgt c k) (row c k) fullShare fd).symm) $$ Hd
  have hp₁ : (src.view.loc (c : Thread nD τ) ↦[src.view.set]{q} fs : sProp 𝕄) ⊢ (Rd m).payload (sendCell c k) 0 0 := by
    rw [payload_send]; iintro -; iempintro
  have hp₂ : ((thrR (row c k)).view.loc (tgt c k : Thread nD τ) ↦[(thrR (row c k)).view.set]{fullShare}
      ((thrR (row c k)).view.write (Elt F) fd (src.view.read (Elt F) fs) Finset.univ) : sProp 𝕄) ⊢ (Rd m).payload (recvCell (tgt c k) k) 0 0 := by
    rw [payload_recv]; unfold recvPay slPts
    rw [← row_tgt]
    refine (Entails.of_eq (thr_pts (tgt c k) (row c k) fullShare _)).trans ?_
    exact Entails.of_eq (pointsTo_congr (hval fd))
  iapply (Rounds.wp_send_pointsTo 𝒱₀ ER (Rd m) (c : Thread nD τ) none (κ₁ := κ₁) (κ₂ := κ₂)
    (c' := (tgt c k : Thread nD τ)) (src := src) (dst := thrR (row c k)) (sS := .dma (sendSem k)) (sem := .dma (recvSem k))
    (r₁ := 0) (r₂ := 0) (d₁ := 0) (d₂ := 0) (fd := fd) (fs := fs) (q := q)
    (by rw [duties_send]; exact Finset.mem_singleton_self _) (by rw [duties_recv]; exact Finset.mem_singleton_self _)
    () () N (credit_thr (row c k)) (amount_send m c k 0) (amount_recv m (tgt c k) k 0) (oweR c l) rfl (W := W) hp₁ hp₂) $$ [Hs Hd' HO Ht1 Ht2]
  · isplitr; · iexact HI1
    isplitr; · iexact HI2
    isplitl [Hs]; · iexact Hs
    isplitl [Hd']; · iexact Hd'
    isplitl [HO]; · iexact HO
    isplitl [Ht1]; · iexact Ht1
    isplitr; · iexact Hr1
    isplitl [Ht2]; · iexact Ht2
    iexact Hr2
  iintro ⟨Hcr, HO⟩
  iapply Hc
  isplitl [Hcr]; · iexact Hcr
  iexists W; iexact HO

/-- A slice written with the same slice of a buffer holds that buffer's contents there. -/
theorem write_thr (r : Fin 8) (f : S1024x16384.Idx → F .bf16) (fd : S1024x16384.Idx → F .bf16) (i : S1024x16384.Idx) (hi : i ∈ rowSet r) :
    (thrR r).view.write (Elt F) fd ((thrR r).view.read (Elt F) f) Finset.univ i = f i := by
  have hi' : i ∈ (thrR r).view.set := by rw [thrR_set]; exact hi
  obtain ⟨j, -, rfl⟩ := Finset.mem_map.mp hi'
  exact View.write_emb_of_mem (v := (thrR r).view) (Val := Elt F) fd _ (Finset.mem_univ j)

/-- A transfer of the own product's slice to the partner. -/
theorem send_own (c n : Dev nD) (k : Fin 8) (hk : k.val < 3) (l : List (Fin 8)) (hn : n = tgt c k) {src dst : Memref sig .tc .hbm S128x16384 .bf16}
    (hs : src = minR (row c k)) (hd : dst = thrR (row c k)) {sS sV : DmaSem sig} (hS : sS = sendSem k) (hV : sV = recvSem k)
    {hsc : (dst : Memref sig (Dev.tc n : Thread nD τ).2.kind .hbm S128x16384 .bf16).view.ref.isScScratch = false}
    {hsrc : src.view.WordExact} {hdst : dst.view.WordExact}
    {hsem : DmaTarget.Typed .hbm (.dma sV) (.remote (Dev.tc n : Thread nD τ) dst (.dma sS) hsc)}
    {kk : PUnit → Prog (TpuEff nD τ sig (Elt F) Λ₀ .tc) α} {q : PosShare TreeShare} :
    iprop(known m ∗ (((c : Thread nD τ).loc main_v1_1) ↦[rowSet (row c k)]{q} logits m c) ∗ slot c k ∗ ow c (oweR c (k :: l))
        ∗ dutyTok ER (sendCell c k) 0 0 ∗ dutyTok ER (recvCell (tgt c k) k) 0 0)
      ⊢ iprop(((cred (tallyAt (sendCell c k) () N) ∗ ow c (oweR c l)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) kk) Q) := by
  subst hs
  rw [← min_pts]
  refine send_step m c n k l hn (minR (row c k)) dst hd hS hV (logits m c) ?_
  intro fd i hi
  refine (write_thr (row c k) (logits m c) fd i hi).trans ?_
  unfold other
  have e : (⟨(i 0).val / 128, by have h : (i 0).val < 1024 := (i 0).isLt; omega⟩ : Fin 8) = row c k := Fin.ext (Finset.mem_filter.mp hi).2
  rw [e, src_par c k hk]

/-- A transfer around the ring of a slice that has landed here. -/
theorem send_ring (c n : Dev nD) (k : Fin 8) (hk : ¬ k.val < 3) (l : List (Fin 8)) (hn : n = tgt c k) {src dst : Memref sig .tc .hbm S128x16384 .bf16}
    (hs : src = thrR (row c k)) (hd : dst = thrR (row c k)) {sS sV : DmaSem sig} (hS : sS = sendSem k) (hV : sV = recvSem k)
    {hsc : (dst : Memref sig (Dev.tc n : Thread nD τ).2.kind .hbm S128x16384 .bf16).view.ref.isScScratch = false}
    {hsrc : src.view.WordExact} {hdst : dst.view.WordExact}
    {hsem : DmaTarget.Typed .hbm (.dma sV) (.remote (Dev.tc n : Thread nD τ) dst (.dma sS) hsc)}
    {kk : PUnit → Prog (TpuEff nD τ sig (Elt F) Λ₀ .tc) α} {q : PosShare TreeShare} :
    iprop(known m ∗ (((c : Thread nD τ).loc main_v1_2) ↦[rowSet (row c k)]{q} other m c) ∗ slot c k ∗ ow c (oweR c (k :: l))
        ∗ dutyTok ER (sendCell c k) 0 0 ∗ dutyTok ER (recvCell (tgt c k) k) 0 0)
      ⊢ iprop(((cred (tallyAt (sendCell c k) () N) ∗ ow c (oweR c l)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) kk) Q) := by
  subst hs
  rw [← thr_pts]
  refine send_step m c n k l hn (thrR (row c k)) dst hd hS hV (other m c) ?_
  intro fd i hi
  refine (write_thr (row c k) (other m c) fd i hi).trans ?_
  unfold other
  have e : (⟨(i 0).val / 128, by have h : (i 0).val < 1024 := (i 0).isLt; omega⟩ : Fin 8) = row c k := Fin.ext (Finset.mem_filter.mp hi).2
  rw [e, src_ring c k hk]

/-! ## Waiting -/

/-- Waiting for landing `k`: the slice that landed, at its final contents. -/
theorem recv_step (c : Dev nD) (k : Fin 8) (l : List (Fin 8)) (hl : ∀ k' ∈ l, lvK k < lvK k') {sV : DmaSem sig} (hV : sV = recvSem k)
    {sw dw : Memref sig .tc .hbm S128x16384 .bf16} {hsrc : sw.view.WordExact} {hdst : dw.view.WordExact} (hN : dw.view.dmaCredit = N)
    {kk : PUnit → Prog (TpuEff nD τ sig (Elt F) Λ₀ .tc) α} :
    iprop(known m ∗ levAts Lx lv ∗ cred (tallyAt (recvCell c k) () N) ∗ ow c (oweR c l) ∗ atPos ER (recvCell c k) 0 ∅ 0)
      ⊢ iprop((semVal (recvCell c k) 0 ∗ slPts c (slice c (recvOff k)) (other m c) ∗ ow c (oweR c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sV sw dw hsrc hdst) kk) Q) := by
  subst hV
  unfold ow
  iintro ⟨#Hk, #Hlev, Hcr, ⟨%W, HO⟩, Hat⟩ Hc
  ihave #H1 := (known_recv m c k) $$ Hk
  unfold know
  icases H1 with ⟨%κ, #HI, #Hr⟩
  ihave #Hmw := (mayWait_list c (.dma (recvSem k)) (lvK k) (le_of_eq (lv_recv c k ())) l hl) $$ Hlev
  iapply (Rounds.wp_wait_rest_token 𝒱₀ ER (Rd m) (c : Thread nD τ) none (κ := κ)
      (wpE_waitDma2_eq 𝒱₀ (c : Thread nD τ) none Set.univ) (Set.mem_univ _) () (O := oweR c l) (W := W) (R := 0) (m := 0) (T := ∅)
      (by rw [Nat.zero_add, expect_recv]; exact hN)) $$ [Hcr HO Hat]
  · isplitr; · iexact HI
    isplitl [Hcr]; · rw [hN]; iexact Hcr
    isplitl [HO]; · iexact HO
    isplitr; · iexact Hmw
    iexact Hat
  iintro ⟨HO, Hat, -, Hpay⟩
  ihave Hpay := (Entails.of_eq (rest_recv m c k)) $$ Hpay
  unfold recvPay
  imod (Rounds.cell_close ER (Rd m) (Set.mem_univ κ) (fun h => h) (R := 0 + 1) (duties_later m (recvCell c k))) $$ [Hat] with Hz
  · isplitr; · iexact HI
    iexact Hat
  iapply Hc
  isplitl [Hz]; · iexact Hz
  isplitl [Hpay]; · iexact Hpay
  iexists _; iexact HO

/-- Waiting for what left here: the source is free again (it is not needed). -/
theorem sent_step (c : Dev nD) (k : Fin 8) (l : List (Fin 8)) {sS : DmaSem sig} (hS : sS = sendSem k)
    {sw dw : Memref sig .tc .hbm S128x16384 .bf16} {hsrc : sw.view.WordExact} {hdst : dw.view.WordExact} (hN : dw.view.dmaCredit = N)
    {kk : PUnit → Prog (TpuEff nD τ sig (Elt F) Λ₀ .tc) α} :
    iprop(known m ∗ levAts Lx lv ∗ cred (tallyAt (sendCell c k) () N) ∗ ow c (oweR c l) ∗ atPos ER (sendCell c k) 0 ∅ 0)
      ⊢ iprop((semVal (sendCell c k) 0 ∗ ow c (oweR c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS sw dw hsrc hdst) kk) Q) := by
  subst hS
  unfold ow
  iintro ⟨#Hk, #Hlev, Hcr, ⟨%W, HO⟩, Hat⟩ Hc
  ihave #H1 := (known_send m c k) $$ Hk
  unfold know
  icases H1 with ⟨%κ, #HI, #Hr⟩
  ihave #Hmw := (mayWait_low c (sendSem k) (kind_send k) l) $$ Hlev
  iapply (Rounds.wp_wait_rest_token 𝒱₀ ER (Rd m) (c : Thread nD τ) none (κ := κ)
      (wpE_waitDma2_eq 𝒱₀ (c : Thread nD τ) none Set.univ) (Set.mem_univ _) () (O := oweR c l) (W := W) (R := 0) (m := 0) (T := ∅)
      (by rw [Nat.zero_add, expect_send]; exact hN)) $$ [Hcr HO Hat]
  · isplitr; · iexact HI
    isplitl [Hcr]; · rw [hN]; iexact Hcr
    isplitl [HO]; · iexact HO
    isplitr; · iexact Hmw
    iexact Hat
  iintro ⟨HO, Hat, -, -⟩
  imod (Rounds.cell_close ER (Rd m) (Set.mem_univ κ) (fun h => h) (R := 0 + 1) (duties_later m (sendCell c k))) $$ [Hat] with Hz
  · isplitr; · iexact HI
    iexact Hat
  iapply Hc
  isplitl [Hz]; · iexact Hz
  iexists _; iexact HO

/-! ## Local copies -/

/-- A local copy under way on semaphore `s` that will leave `P`. -/
abbrev fl (c : Dev nD) (s : DmaSem sig) (n : ℕ) (P : sProp 𝕄) : sProp 𝕄 := Transfers.Flight EC (c : Thread nD τ) (.dma s) () n P

/-- Waiting for a local copy, whatever transfers are still owed. -/
theorem local_wait (c : Dev nD) (l : List (Fin 8)) {s s' : DmaSem sig} (hs : s' = s) (hq : kindOf s = none) {sp sp' : Space} {sh sh' : Shape} {e e' : EltTy}
    {sw : Memref sig .tc sp' sh' e'} {dw : Memref sig .tc sp sh e} {hsrc : sw.view.WordExact} {hdst : dw.view.WordExact} {n : ℕ} (hN : dw.view.dmaCredit = n)
    {P : sProp 𝕄} {kk : PUnit → Prog (TpuEff nD τ sig (Elt F) Λ₀ .tc) α} :
    iprop(levAts Lx lv ∗ fl c s n P ∗ ow c (oweR c l))
      ⊢ iprop((P ∗ semVal ((c : Thread nD τ), .dma s) 0 ∗ ow c (oweR c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s' sw dw hsrc hdst) kk) Q) := by
  subst hs
  unfold ow
  iintro ⟨#Hlev, Hf, ⟨%W, HO⟩⟩ Hc
  ihave #Hmw := (mayWait_low c s' hq l) $$ Hlev
  iapply (Transfers.wp_waitLocalO EC 𝒱₀ (c : Thread nD τ) none () hN (O := oweR c l) (W := W)) $$ [Hf HO]
  · isplitl [Hf]; · iexact Hf
    isplitl [HO]; · iexact HO
    iexact Hmw
  iintro ⟨HP, Hz, HO⟩
  iapply Hc
  isplitl [HP]; · iexact HP
  isplitl [Hz]; · iexact Hz
  iexists _; iexact HO

end Cert.KernelIdeal.Mesh

end
-- ==== Proof.RunKernelIdeal.Slice.lean ====
/-
# One slice of the result

The two logits slices are copied on-chip; then, 32 rows at a time, the shares are formed and copied out, the own ring's
into the columns of its half of the result and the other's into the other half.
-/
module

public import proofs.«01_k».proof.Proof.RunKernelIdeal.Steps

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-! ## The copies into on-chip memory -/

abbrev mcM : Memref sig .tc .vmem S128x16384 .bf16 := Memref.whole cc0_scratch3
abbrev tcM : Memref sig .tc .vmem S128x16384 .bf16 := Memref.whole cc0_scratch4
abbrev q1M : Memref sig .tc .vmem S32x16384 .f32 := Memref.whole cc0_scratch5
abbrev q2M : Memref sig .tc .vmem S32x16384 .f32 := Memref.whole cc0_scratch6
abbrev outM : Memref sig .tc .hbm S1024x32768 .f32 := Memref.whole main_v1_0

/-- What the copy of slice `r` holds: of the own product, and of the other. -/
def ownS (c : Dev nD) (r : Fin 8) : S128x16384.Idx → F .bf16 := (minR r).view.read (Elt F) (logits m c)
def othS (c : Dev nD) (r : Fin 8) : S128x16384.Idx → F .bf16 := (thrR r).view.read (Elt F) (other m c)

def mcAt (c : Dev nD) (f : S128x16384.Idx → F .bf16) : sProp 𝕄 := ((c : Thread nD τ).loc cc0_scratch3) ↦{fullShare} f
def tcAt (c : Dev nD) (f : S128x16384.Idx → F .bf16) : sProp 𝕄 := ((c : Thread nD τ).loc cc0_scratch4) ↦{fullShare} f

abbrev NC : ℕ := mcM.view.dmaCredit
theorem NC_pos : 0 < NC := View.dmaCredit_pos _ (by decide)

abbrev dq (j : Fin 25) : DmaSem sig := j

theorem copy_own (c : Dev nD) (r : Fin 8) {q : PosShare TreeShare} {src : Memref sig .tc .hbm S128x16384 .bf16} (hs : src = minR r) {s : DmaSem sig}
    (hS : s = dq 5) {hsrc : src.view.WordExact} {hdst : mcM.view.WordExact} {hsem : DmaTarget.Typed .hbm (.dma s) (.here mcM : DmaTarget nD τ sig (.tc : Proc τ) .vmem S128x16384 .bf16)}
    {kk : PUnit → Prog (TpuEff nD τ sig (Elt F) Λ₀ .tc) α} :
    iprop((((c : Thread nD τ).loc main_v1_1) ↦[rowSet r]{q} logits m c) ∗ (∃ f, mcAt c f) ∗ semVal ((c : Thread nD τ), .dma (dq 5)) 0)
      ⊢ iprop((fl c (dq 5) NC (mcAt c (ownS m c r)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here mcM) (.dma s) hsrc hdst hsem) kk) Q) := by
  subst hs; subst hS
  rw [← min_pts]
  unfold mcAt
  iintro ⟨Hs, ⟨%f, Hd⟩, Hv⟩ Hc
  iapply (Transfers.wp_dmaLocal EC 𝒱₀ (c : Thread nD τ) none (src := minR r) (dst := mcM) (fd := f) (Sd := Finset.univ) () NC rfl NC_pos (Finset.subset_univ _)) $$ [Hs Hd Hv]
  · isplitl [Hs]; · iexact Hs
    isplitl [Hd]; · iexact Hd
    iexact Hv
  iintro Hf
  iapply Hc
  iapply (Transfers.Flight_mono EC (c : Thread nD τ) (D' := iprop(((c : Thread nD τ).loc cc0_scratch3) ↦{fullShare} ownS m c r)) (by
    refine sep_elim_left.trans ?_
    exact Entails.of_eq (congrArg (fun g : S128x16384.Idx → F .bf16 => (((c : Thread nD τ).loc cc0_scratch3) ↦{fullShare} g : sProp 𝕄))
      (View.write_whole_univ (Val := Elt F) cc0_scratch3 f (ownS m c r))))) $$ Hf

theorem copy_oth (c : Dev nD) (r : Fin 8) {q : PosShare TreeShare} {src : Memref sig .tc .hbm S128x16384 .bf16} (hs : src = thrR r) {s : DmaSem sig}
    (hS : s = dq 6) {hsrc : src.view.WordExact} {hdst : tcM.view.WordExact} {hsem : DmaTarget.Typed .hbm (.dma s) (.here tcM : DmaTarget nD τ sig (.tc : Proc τ) .vmem S128x16384 .bf16)}
    {kk : PUnit → Prog (TpuEff nD τ sig (Elt F) Λ₀ .tc) α} :
    iprop((((c : Thread nD τ).loc main_v1_2) ↦[rowSet r]{q} other m c) ∗ (∃ f, tcAt c f) ∗ semVal ((c : Thread nD τ), .dma (dq 6)) 0)
      ⊢ iprop((fl c (dq 6) NC (tcAt c (othS m c r)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here tcM) (.dma s) hsrc hdst hsem) kk) Q) := by
  subst hs; subst hS
  rw [← thr_pts]
  unfold tcAt
  iintro ⟨Hs, ⟨%f, Hd⟩, Hv⟩ Hc
  iapply (Transfers.wp_dmaLocal EC 𝒱₀ (c : Thread nD τ) none (src := thrR r) (dst := tcM) (fd := f) (Sd := Finset.univ) () NC rfl NC_pos (Finset.subset_univ _)) $$ [Hs Hd Hv]
  · isplitl [Hs]; · iexact Hs
    isplitl [Hd]; · iexact Hd
    iexact Hv
  iintro Hf
  iapply Hc
  iapply (Transfers.Flight_mono EC (c : Thread nD τ) (D' := iprop(((c : Thread nD τ).loc cc0_scratch4) ↦{fullShare} othS m c r)) (by
    refine sep_elim_left.trans ?_
    exact Entails.of_eq (congrArg (fun g : S128x16384.Idx → F .bf16 => (((c : Thread nD τ).loc cc0_scratch4) ↦{fullShare} g : sProp 𝕄))
      (View.write_whole_univ (Val := Elt F) cc0_scratch4 f (othS m c r))))) $$ Hf

/-! ## One trip -/

abbrev inbO (o : Fin 2 → ℕ) : Prop := ∀ a, o a + S32x16384.size a ≤ S1024x32768.size a
abbrev outAt (o : Fin 2 → ℕ) (h : inbO o) : Memref sig .tc .hbm S32x16384 .f32 :=
  outM.slice (Rect.unit (s := S1024x32768) o S32x16384.size h) (fun _ => rfl)
abbrev outSem (j : ℕ) (h : ∀ a, (![j] : Fin 1 → ℕ) a + S1.size a ≤ S2.size a) : DmaSem sig :=
  ((cc0_scratch10.slice (Rect.unit (s := S2) ![j] S1.size h)).squeeze S_ squeezes_S1_S_).sem

/-- One trip of the loop over 32-row blocks: load, form the two shares, store, copy out, wait. -/
def trip (o : Fin 2 → ℕ) (h : ∀ a, o a + S32x16384.size a ≤ S128x16384.size a) (o1 : Fin 2 → ℕ) (h1 : inbO o1) (o2 : Fin 2 → ℕ) (h2 : inbO o2) :
    Prog (TpuEff nD τ sig (Elt F) Λ₀ .tc) Unit := do
  let a : Vec F S32x16384 .bf16 ← Prog.lift (.load mcM (Rect.unit (s := S128x16384) o S32x16384.size h).toLoadRect (View.loadsAt_vmem h_S32x16384))
  let b : Vec F S32x16384 .bf16 ← Prog.lift (.load tcM (Rect.unit (s := S128x16384) o S32x16384.size h).toLoadRect (View.loadsAt_vmem h_S32x16384))
  let _u : Vec F S32x16384 .f32 ← Prog.lift (.load q1M (Rect.unit (s := S32x16384) ![0, 0] S32x16384.size inb_S32x16384_S32x16384_0_0).toLoadRect (View.loadsAt_vmem h_S32x16384))
  Prog.lift (.store q1M (Rect.unit (s := S32x16384) ![0, 0] S32x16384.size inb_S32x16384_S32x16384_0_0) (k0_pay5 a b) Finset.univ (View.stores_vmem_bits_univ h_S32x16384 rfl) (.inl rfl))
  let _w : Vec F S32x16384 .f32 ← Prog.lift (.load q2M (Rect.unit (s := S32x16384) ![0, 0] S32x16384.size inb_S32x16384_S32x16384_0_0).toLoadRect (View.loadsAt_vmem h_S32x16384))
  Prog.lift (.store q2M (Rect.unit (s := S32x16384) ![0, 0] S32x16384.size inb_S32x16384_S32x16384_0_0) (k0_pay6 a b) Finset.univ (View.stores_vmem_bits_univ h_S32x16384 rfl) (.inl rfl))
  Prog.lift (.enqueueDma q1M (.here (outAt o1 h1)) (.dma (outSem 0 inb_S2_S1_0)) (Memref.isWhole_whole _).wordExact (View.wordExact_bits rfl) ⟨Or.inl rfl, trivial⟩)
  Prog.lift (.enqueueDma q2M (.here (outAt o2 h2)) (.dma (outSem 1 inb_S2_S1_1)) (Memref.isWhole_whole _).wordExact (View.wordExact_bits rfl) ⟨Or.inl rfl, trivial⟩)
  Prog.lift (.waitDma2 (outSem 0 inb_S2_S1_0) q1M (outAt o1 h1) (Memref.isWhole_whole _).wordExact (View.wordExact_bits rfl))
  Prog.lift (.waitDma2 (outSem 1 inb_S2_S1_1) q2M (outAt o2 h2) (Memref.isWhole_whole _).wordExact (View.wordExact_bits rfl))
  pure ⟨⟩

/-- The block of the result one trip writes into one half of the columns; what earlier trips wrote of a slice; what is left. -/
def blkSet (r : Fin 8) (k s : ℕ) : Finset S1024x32768.Idx := Finset.univ.filter fun i => (i 0).val / 32 = 4 * r.val + k ∧ (i 1).val / 16384 = s
def doneSet (r : Fin 8) (k : ℕ) : Finset S1024x32768.Idx := Finset.univ.filter fun i => (i 0).val / 128 = r.val ∧ (i 0).val / 32 < 4 * r.val + k
def todoSet (r : Fin 8) (k : ℕ) : Finset S1024x32768.Idx := Finset.univ.filter fun i => (i 0).val / 128 = r.val ∧ 4 * r.val + k ≤ (i 0).val / 32

theorem out_set (r : Fin 8) (k s : ℕ) (hk : k < 4) (hs : s < 2) {o : Fin 2 → ℕ} (ho : o = ![128 * r.val + 32 * k, 16384 * s]) (h : inbO o) :
    (outAt o h).view.set = blkSet r k s := by
  subst ho
  show ((View.whole main_v1_0).slice _).set = _
  rw [View.set_slice_whole]
  ext i
  rw [Rect.mem_set_unit]
  unfold blkSet
  rw [Finset.mem_filter]
  constructor
  · intro h
    have h0 : 128 * r.val + 32 * k ≤ (i 0).val ∧ (i 0).val < 128 * r.val + 32 * k + 32 := h 0
    have h1 : 16384 * s ≤ (i 1).val ∧ (i 1).val < 16384 * s + 16384 := h 1
    exact ⟨Finset.mem_univ _, by omega, by omega⟩
  · rintro ⟨-, h, h'⟩ a
    fin_cases a
    · show 128 * r.val + 32 * k ≤ (i 0).val ∧ (i 0).val < 128 * r.val + 32 * k + 32; omega
    · show 16384 * s ≤ (i 1).val ∧ (i 1).val < 16384 * s + 16384; omega

theorem out_pts (c : Dev nD) (r : Fin 8) (k s : ℕ) (hk : k < 4) (hs : s < 2) {o : Fin 2 → ℕ} (ho : o = ![128 * r.val + 32 * k, 16384 * s]) (h : inbO o)
    (f : Buf (Elt F) ((c : Thread nD τ).loc main_v1_0)) :
    (((outAt o h).view.loc (c : Thread nD τ)) ↦[(outAt o h).view.set]{fullShare} f : sProp 𝕄) = (((c : Thread nD τ).loc main_v1_0) ↦[blkSet r k s]{fullShare} f) :=
  congrArg (fun S : Finset S1024x32768.Idx => (((c : Thread nD τ).loc main_v1_0) ↦[S]{fullShare} f : sProp 𝕄)) (out_set r k s hk hs ho h)

theorem slice_own (c : Dev nD) (r : Fin 8) (j : S128x16384.Idx) :
    ownS m c r j = logits m c (ix2 (n0 := 1024) (n1 := 16384) ⟨128 * r.val + (j 0).val, by have h : (j 0).val < 128 := (j 0).isLt; omega⟩ (j 1)) := by
  unfold ownS
  show logits m c ((minR r).view.emb j) = _
  congr 1
  funext a
  fin_cases a
  · exact Fin.ext (by show 128 * r.val + 1 * (j 0).val = _; rw [one_mul]; rfl)
  · exact Fin.ext (by show 0 + 1 * (j 1).val = _; rw [zero_add, one_mul]; rfl)

end Cert.KernelIdeal.Mesh

end
-- ==== Proof.RunKernelIdeal.Trip.lean ====
/-
# The loop over the 32-row blocks of a slice

Before trip `k` the result holds its final contents in the first `32 k` rows of the slice and anything in the rest.
-/
module

public import proofs.«01_k».proof.Proof.RunKernelIdeal.Slice

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

theorem slice_oth (c : Dev nD) (r : Fin 8) (j : S128x16384.Idx) :
    othS m c r j = other m c (ix2 (n0 := 1024) (n1 := 16384) ⟨128 * r.val + (j 0).val, by have h : (j 0).val < 128 := (j 0).isLt; omega⟩ (j 1)) := by
  unfold othS
  show other m c ((thrR r).view.emb j) = _
  congr 1
  funext a
  fin_cases a
  · exact Fin.ext (by show 128 * r.val + 1 * (j 0).val = _; rw [one_mul]; rfl)
  · exact Fin.ext (by show 0 + 1 * (j 1).val = _; rw [zero_add, one_mul]; rfl)

/-- The 32 rows a trip loads of a slice's copy are 32 rows of the buffer copied. -/
theorem load_own (c : Dev nD) (r : Fin 8) (k : ℕ) (hk : k < 4) {o : Fin 2 → ℕ} (ho : o = ![32 * k, 0]) (h : ∀ a, o a + S32x16384.size a ≤ S128x16384.size a) :
    mcM.view.readAt (Elt F) (Rect.unit (s := S128x16384) o S32x16384.size h).toLoadRect (ownS m c r) = rows32 (logits m c) (4 * r.val + k) := by
  subst ho
  funext j
  have hj : (j 0).val < 32 := (j 0).isLt
  refine (slice_own m c r _).trans ?_
  unfold rows32
  congr 1
  funext a
  fin_cases a
  · exact Fin.ext (by
      show 128 * r.val + (32 * k + 1 * (j 0).val) = (32 * (4 * r.val + k) + (j 0).val) % 1024
      omega)
  · exact Fin.ext (by show 0 + 1 * (j 1).val = (j 1).val; omega)
theorem load_oth (c : Dev nD) (r : Fin 8) (k : ℕ) (hk : k < 4) {o : Fin 2 → ℕ} (ho : o = ![32 * k, 0]) (h : ∀ a, o a + S32x16384.size a ≤ S128x16384.size a) :
    tcM.view.readAt (Elt F) (Rect.unit (s := S128x16384) o S32x16384.size h).toLoadRect (othS m c r) = rows32 (other m c) (4 * r.val + k) := by
  subst ho
  funext j
  have hj : (j 0).val < 32 := (j 0).isLt
  refine (slice_oth m c r _).trans ?_
  unfold rows32
  congr 1
  funext a
  fin_cases a
  · exact Fin.ext (by
      show 128 * r.val + (32 * k + 1 * (j 0).val) = (32 * (4 * r.val + k) + (j 0).val) % 1024
      omega)
  · exact Fin.ext (by show 0 + 1 * (j 1).val = (j 1).val; omega)

/-- What a copied-out block leaves in the result. -/
theorem write_out (r : Fin 8) (k s : ℕ) (hk : k < 4) (hs : s < 2) {o : Fin 2 → ℕ} (ho : o = ![128 * r.val + 32 * k, 16384 * s]) (h : inbO o)
    (fd : S1024x32768.Idx → F .f32) (w : S32x16384.Idx → F .f32) (i : S1024x32768.Idx) (hi : i ∈ blkSet r k s) :
    (outAt o h).view.write (Elt F) fd w Finset.univ i
      = w (ix2 (n0 := 32) (n1 := 16384) ⟨(i 0).val % 32, Nat.mod_lt _ (by decide)⟩ ⟨(i 1).val % 16384, Nat.mod_lt _ (by decide)⟩) := by
  have hi' : i ∈ (outAt o h).view.set := by rw [out_set r k s hk hs ho]; exact hi
  obtain ⟨j, -, rfl⟩ := Finset.mem_map.mp hi'
  refine (View.write_emb_of_mem (v := (outAt o h).view) (Val := Elt F) fd w (Finset.mem_univ j)).trans ?_
  show w j = _
  congr 1
  subst ho
  have hj0 : (j 0).val < 32 := (j 0).isLt
  have hj1 : (j 1).val < 16384 := (j 1).isLt
  funext a
  fin_cases a
  · exact Fin.ext (by
      show (j 0).val = (128 * r.val + 32 * k + 1 * (j 0).val) % 32
      omega)
  · exact Fin.ext (by
      show (j 1).val = (16384 * s + 1 * (j 1).val) % 16384
      omega)

theorem result_own (c : Dev nD) (r : Fin 8) (k : ℕ) (i : S1024x32768.Idx) (hi : i ∈ blkSet r k (side c).val) :
    result m c i = (k0_pay5 (rows32 (logits m c) (4 * r.val + k)) (rows32 (other m c) (4 * r.val + k)) : FVec F S32x16384 .f32)
      (ix2 (n0 := 32) (n1 := 16384) ⟨(i 0).val % 32, Nat.mod_lt _ (by decide)⟩ ⟨(i 1).val % 16384, Nat.mod_lt _ (by decide)⟩) := by
  obtain ⟨-, h0, h1⟩ := Finset.mem_filter.mp hi
  unfold result
  rw [if_pos h1, h0]
theorem result_oth (c : Dev nD) (r : Fin 8) (k : ℕ) (i : S1024x32768.Idx) (hi : i ∈ blkSet r k (1 - (side c).val)) :
    result m c i = (k0_pay6 (rows32 (logits m c) (4 * r.val + k)) (rows32 (other m c) (4 * r.val + k)) : FVec F S32x16384 .f32)
      (ix2 (n0 := 32) (n1 := 16384) ⟨(i 0).val % 32, Nat.mod_lt _ (by decide)⟩ ⟨(i 1).val % 16384, Nat.mod_lt _ (by decide)⟩) := by
  obtain ⟨-, h0, h1⟩ := Finset.mem_filter.mp hi
  have hs : (side c).val < 2 := (side c).isLt
  unfold result
  rw [if_neg (by omega), h0]

/-! ## The sets of a trip -/

theorem blk_sub (r : Fin 8) (k s : ℕ) (hk : k < 4) : blkSet r k s ⊆ todoSet r k := fun i hi => by
  obtain ⟨-, h0, h1⟩ := Finset.mem_filter.mp hi
  exact Finset.mem_filter.mpr ⟨Finset.mem_univ _, by omega, by omega⟩
theorem blk_sub' (r : Fin 8) (k s s' : ℕ) (hk : k < 4) (hs : s' ≠ s) : blkSet r k s' ⊆ todoSet r k \ blkSet r k s := fun i hi => by
  refine Finset.mem_sdiff.mpr ⟨blk_sub r k s' hk hi, fun h => ?_⟩
  obtain ⟨-, h0, h1⟩ := Finset.mem_filter.mp hi
  obtain ⟨-, h2, h3⟩ := Finset.mem_filter.mp h
  exact hs (h1.symm.trans h3)
theorem todo_next (r : Fin 8) (k s : ℕ) (hk : k < 4) (hs : s < 2) : (todoSet r k \ blkSet r k s) \ blkSet r k (1 - s) = todoSet r (k + 1) := by
  ext i
  have hi1 : (i 1).val < 32768 := (i 1).isLt
  simp only [todoSet, blkSet, Finset.mem_sdiff, Finset.mem_filter, Finset.mem_univ, true_and]
  omega
theorem done_disj (r : Fin 8) (k s : ℕ) : Disjoint (doneSet r k) (blkSet r k s) := Finset.disjoint_left.mpr fun i hi hj => by
  obtain ⟨-, h0, h1⟩ := Finset.mem_filter.mp hi
  obtain ⟨-, h2, h3⟩ := Finset.mem_filter.mp hj
  omega
theorem done_disj' (r : Fin 8) (k s s' : ℕ) (hs : s' ≠ s) : Disjoint (doneSet r k ∪ blkSet r k s) (blkSet r k s') := Finset.disjoint_left.mpr fun i hi hj => by
  obtain ⟨-, h2, h3⟩ := Finset.mem_filter.mp hj
  rcases Finset.mem_union.mp hi with hi | hi
  · obtain ⟨-, h0, h1⟩ := Finset.mem_filter.mp hi
    omega
  · obtain ⟨-, h0, h1⟩ := Finset.mem_filter.mp hi
    omega
theorem done_next (r : Fin 8) (k s : ℕ) (hk : k < 4) (hs : s < 2) : (doneSet r k ∪ blkSet r k s) ∪ blkSet r k (1 - s) = doneSet r (k + 1) := by
  ext i
  have hi1 : (i 1).val < 32768 := (i 1).isLt
  simp only [doneSet, blkSet, Finset.mem_union, Finset.mem_filter, Finset.mem_univ, true_and]
  omega

/-! ## The trip and the loop -/

def q1At (c : Dev nD) (f : S32x16384.Idx → F .f32) : sProp 𝕄 := ((c : Thread nD τ).loc cc0_scratch5) ↦{fullShare} f
def q2At (c : Dev nD) (f : S32x16384.Idx → F .f32) : sProp 𝕄 := ((c : Thread nD τ).loc cc0_scratch6) ↦{fullShare} f

/-- On-chip memory and semaphores of the loop. -/
def bench (c : Dev nD) (r : Fin 8) : sProp 𝕄 :=
  iprop(mcAt c (ownS m c r) ∗ tcAt c (othS m c r) ∗ (∃ f, q1At c f) ∗ (∃ f, q2At c f)
    ∗ semVal ((c : Thread nD τ), .dma (dq 7)) 0 ∗ semVal ((c : Thread nD τ), .dma (dq 8)) 0)

def outPts (c : Dev nD) (S : Finset S1024x32768.Idx) (f : Buf (Elt F) ((c : Thread nD τ).loc main_v1_0)) : sProp 𝕄 :=
  ((c : Thread nD τ).loc main_v1_0) ↦[S]{fullShare} f

/-- Before trip `k`. -/
def tripInv (c : Dev nD) (r : Fin 8) (l : List (Fin 8)) (k : ℕ) : sProp 𝕄 :=
  iprop(levAts Lx lv ∗ ow c (oweR c l) ∗ bench m c r ∗ outPts c (doneSet r k) (result m c) ∗ ∃ f, outPts c (todoSet r k) f)

abbrev NO : ℕ := q1M.view.dmaCredit
theorem NO_pos : 0 < NO := View.dmaCredit_pos _ (by decide)

theorem hz2 : (![0, 0] : Fin 2 → Nat) = fun _ => 0 := funext fun a => by fin_cases a <;> rfl

abbrev r32 : Rect S32x16384 := Rect.unit (s := S32x16384) ![0, 0] S32x16384.size inb_S32x16384_S32x16384_0_0

theorem store_q1 (f w : S32x16384.Idx → F .f32) :
    (q1M.access (Rect.unit (s := S32x16384) ![0, 0] S32x16384.size inb_S32x16384_S32x16384_0_0) : View sig .tc _ _ _).write (Elt F) f w Finset.univ = w :=
  Memref.write_access_unit_zero_univ (Elt F) cc0_scratch5 hz2 _ f w
theorem store_q2 (f w : S32x16384.Idx → F .f32) :
    (q2M.access (Rect.unit (s := S32x16384) ![0, 0] S32x16384.size inb_S32x16384_S32x16384_0_0) : View sig .tc _ _ _).write (Elt F) f w Finset.univ = w :=
  Memref.write_access_unit_zero_univ (Elt F) cc0_scratch6 hz2 _ f w

theorem out_cut (c : Dev nD) {I S : Finset S1024x32768.Idx} (h : I ⊆ S) (f : Buf (Elt F) ((c : Thread nD τ).loc main_v1_0)) :
    outPts c S f ⊢ iprop(outPts c I f ∗ outPts c (S \ I) f) := (pointsTo_split_subset (ℓ := (c : Thread nD τ).loc main_v1_0) h).1
theorem out_glue (c : Dev nD) {I S : Finset S1024x32768.Idx} (h : Disjoint I S) (f : Buf (Elt F) ((c : Thread nD τ).loc main_v1_0)) :
    iprop(outPts c I f ∗ outPts c S f) ⊢ outPts c (I ∪ S) f := (pointsTo_union (ℓ := (c : Thread nD τ).loc main_v1_0) h).2

/-- A load of the on-chip copies. -/
theorem ld_mc (c : Dev nD) (f : S128x16384.Idx → F .bf16) (rg : LoadRect S128x16384) {hl : mcM.view.LoadsAt rg}
    {kk : (Vec F rg.shape .bf16) → Prog (TpuEff nD τ sig (Elt F) Λ₀ .tc) α} :
    mcAt c f ⊢ iprop((mcAt c f -∗ wp frame (wpE (defs₀ (F := F)) 𝒱₀ (c : Thread nD τ) none) Set.univ (kk (mcM.view.readAt (Elt F) rg f)) Q)
      -∗ wp frame (wpE (defs₀ (F := F)) 𝒱₀ (c : Thread nD τ) none) Set.univ (.op (.load mcM rg hl) kk) Q) :=
  wp_load 𝒱₀ (c : Thread nD τ) none Set.univ (m := mcM) (Finset.subset_univ _)
theorem ld_tc (c : Dev nD) (f : S128x16384.Idx → F .bf16) (rg : LoadRect S128x16384) {hl : tcM.view.LoadsAt rg}
    {kk : (Vec F rg.shape .bf16) → Prog (TpuEff nD τ sig (Elt F) Λ₀ .tc) α} :
    tcAt c f ⊢ iprop((tcAt c f -∗ wp frame (wpE (defs₀ (F := F)) 𝒱₀ (c : Thread nD τ) none) Set.univ (kk (tcM.view.readAt (Elt F) rg f)) Q)
      -∗ wp frame (wpE (defs₀ (F := F)) 𝒱₀ (c : Thread nD τ) none) Set.univ (.op (.load tcM rg hl) kk) Q) :=
  wp_load 𝒱₀ (c : Thread nD τ) none Set.univ (m := tcM) (Finset.subset_univ _)
/-- A block of shares loaded (unused) and stored. -/
theorem use_q1 (c : Dev nD) (f w : S32x16384.Idx → F .f32) {hl : q1M.view.LoadsAt r32.toLoadRect}
    {hx : (q1M.access r32).Stores Finset.univ} {hm : (Finset.univ : Finset r32.shape.Idx) = Finset.univ ∨ ∀ a, r32.stride a = 1}
    {kk : PUnit → Prog (TpuEff nD τ sig (Elt F) Λ₀ .tc) α} :
    q1At c f ⊢ iprop((q1At c w -∗ wp frame (wpE (defs₀ (F := F)) 𝒱₀ (c : Thread nD τ) none) Set.univ (kk ⟨⟩) Q)
      -∗ wp frame (wpE (defs₀ (F := F)) 𝒱₀ (c : Thread nD τ) none) Set.univ
          (.op (.load q1M r32.toLoadRect hl) fun _ => .op (.store q1M r32 w Finset.univ hx hm) kk) Q) := by
  unfold q1At
  iintro H Hc
  iapply (wp_load 𝒱₀ (c : Thread nD τ) none Set.univ (m := q1M) (Finset.subset_univ _)) $$ H; iintro H
  iapply (wp_store 𝒱₀ (c : Thread nD τ) none Set.univ (m := q1M) (r := r32) (Mk := Finset.univ) (Finset.subset_univ _)) $$ H; iintro H
  rw [store_q1]
  iapply Hc; iexact H
theorem use_q2 (c : Dev nD) (f w : S32x16384.Idx → F .f32) {hl : q2M.view.LoadsAt r32.toLoadRect}
    {hx : (q2M.access r32).Stores Finset.univ} {hm : (Finset.univ : Finset r32.shape.Idx) = Finset.univ ∨ ∀ a, r32.stride a = 1}
    {kk : PUnit → Prog (TpuEff nD τ sig (Elt F) Λ₀ .tc) α} :
    q2At c f ⊢ iprop((q2At c w -∗ wp frame (wpE (defs₀ (F := F)) 𝒱₀ (c : Thread nD τ) none) Set.univ (kk ⟨⟩) Q)
      -∗ wp frame (wpE (defs₀ (F := F)) 𝒱₀ (c : Thread nD τ) none) Set.univ
          (.op (.load q2M r32.toLoadRect hl) fun _ => .op (.store q2M r32 w Finset.univ hx hm) kk) Q) := by
  unfold q2At
  iintro H Hc
  iapply (wp_load 𝒱₀ (c : Thread nD τ) none Set.univ (m := q2M) (Finset.subset_univ _)) $$ H; iintro H
  iapply (wp_store 𝒱₀ (c : Thread nD τ) none Set.univ (m := q2M) (r := r32) (Mk := Finset.univ) (Finset.subset_univ _)) $$ H; iintro H
  rw [store_q2]
  iapply Hc; iexact H

theorem outSem0 : outSem 0 inb_S2_S1_0 = dq 7 := rfl
theorem outSem1 : outSem 1 inb_S2_S1_1 = dq 8 := rfl
theorem credit_out (o : Fin 2 → ℕ) (h : inbO o) : (outAt o h).view.dmaCredit = NO := rfl

theorem q1_pts (c : Dev nD) (w : S32x16384.Idx → F .f32) :
    ((q1M.view.loc (c : Thread nD τ)) ↦[q1M.view.set]{fullShare} w : sProp 𝕄) = q1At c w :=
  congrArg (fun S : Finset S32x16384.Idx => (((c : Thread nD τ).loc cc0_scratch5) ↦[S]{fullShare} w : sProp 𝕄)) (View.set_whole cc0_scratch5)

theorem q2_pts (c : Dev nD) (w : S32x16384.Idx → F .f32) :
    ((q2M.view.loc (c : Thread nD τ)) ↦[q2M.view.set]{fullShare} w : sProp 𝕄) = q2At c w :=
  congrArg (fun S : Finset S32x16384.Idx => (((c : Thread nD τ).loc cc0_scratch6) ↦[S]{fullShare} w : sProp 𝕄)) (View.set_whole cc0_scratch6)

/-- A block copied out, from the first and from the second on-chip block. -/
theorem copy_out1 (c : Dev nD) (r : Fin 8) (k s : ℕ) (hk : k < 4) (hs : s < 2) {o : Fin 2 → ℕ} (ho : o = ![128 * r.val + 32 * k, 16384 * s]) (h : inbO o)
    {sm : DmaSem sig} (hS : sm = dq 7) (w : S32x16384.Idx → F .f32) (f : Buf (Elt F) ((c : Thread nD τ).loc main_v1_0))
    (hw : ∀ i ∈ blkSet r k s, result m c i = w (ix2 (n0 := 32) (n1 := 16384) ⟨(i 0).val % 32, Nat.mod_lt _ (by decide)⟩ ⟨(i 1).val % 16384, Nat.mod_lt _ (by decide)⟩))
    {hsrc : q1M.view.WordExact} {hdst : (outAt o h).view.WordExact} {hsem : DmaTarget.Typed .vmem (.dma sm) (.here (outAt o h) : DmaTarget nD τ sig (.tc : Proc τ) .hbm S32x16384 .f32)}
    {kk : PUnit → Prog (TpuEff nD τ sig (Elt F) Λ₀ .tc) α} :
    iprop(q1At c w ∗ outPts c (blkSet r k s) f ∗ semVal ((c : Thread nD τ), .dma (dq 7)) 0)
      ⊢ iprop((fl c (dq 7) NO iprop(outPts c (blkSet r k s) (result m c) ∗ q1At c w) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma q1M (.here (outAt o h)) (.dma sm) hsrc hdst hsem) kk) Q) := by
  subst hS
  have hp := out_pts c r k s hk hs ho h f
  have hf : ((outAt o h).view.loc (c : Thread nD τ) ↦[(outAt o h).view.set]{fullShare} ((outAt o h).view.write (Elt F) f (ReadAs.same.apply (View.read (Elt F) q1M.view w)) Finset.univ) : sProp 𝕄)
      ⊢ outPts c (blkSet r k s) (result m c) :=
    (Entails.of_eq (out_pts c r k s hk hs ho h _)).trans (Entails.of_eq (pointsTo_congr fun i hi => (write_out r k s hk hs ho h f w i hi).trans (hw i hi).symm))
  iintro ⟨Hs, Hd, Hv⟩ Hc
  ihave Hs := (Entails.of_eq (q1_pts c w).symm) $$ Hs
  ihave Hd := (show outPts c (blkSet r k s) f ⊢ _ from Entails.of_eq hp.symm) $$ Hd
  iapply (Transfers.wp_dmaLocal EC 𝒱₀ (c : Thread nD τ) none (src := q1M) (dst := outAt o h) (q := fullShare) (fs := w) (fd := f) (Sd := (outAt o h).view.set) () NO rfl NO_pos (Finset.Subset.refl _)) $$ [Hs Hd Hv]
  · isplitl [Hs]; · iexact Hs
    isplitl [Hd]; · iexact Hd
    iexact Hv
  iintro Hf
  iapply Hc
  iapply (Transfers.Flight_mono EC (c : Thread nD τ) (BI.sep_mono hf (Entails.of_eq (q1_pts c w)))) $$ Hf

theorem copy_out2 (c : Dev nD) (r : Fin 8) (k s : ℕ) (hk : k < 4) (hs : s < 2) {o : Fin 2 → ℕ} (ho : o = ![128 * r.val + 32 * k, 16384 * s]) (h : inbO o)
    {sm : DmaSem sig} (hS : sm = dq 8) (w : S32x16384.Idx → F .f32) (f : Buf (Elt F) ((c : Thread nD τ).loc main_v1_0))
    (hw : ∀ i ∈ blkSet r k s, result m c i = w (ix2 (n0 := 32) (n1 := 16384) ⟨(i 0).val % 32, Nat.mod_lt _ (by decide)⟩ ⟨(i 1).val % 16384, Nat.mod_lt _ (by decide)⟩))
    {hsrc : q2M.view.WordExact} {hdst : (outAt o h).view.WordExact} {hsem : DmaTarget.Typed .vmem (.dma sm) (.here (outAt o h) : DmaTarget nD τ sig (.tc : Proc τ) .hbm S32x16384 .f32)}
    {kk : PUnit → Prog (TpuEff nD τ sig (Elt F) Λ₀ .tc) α} :
    iprop(q2At c w ∗ outPts c (blkSet r k s) f ∗ semVal ((c : Thread nD τ), .dma (dq 8)) 0)
      ⊢ iprop((fl c (dq 8) NO iprop(outPts c (blkSet r k s) (result m c) ∗ q2At c w) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma q2M (.here (outAt o h)) (.dma sm) hsrc hdst hsem) kk) Q) := by
  subst hS
  have hp := out_pts c r k s hk hs ho h f
  have hf : ((outAt o h).view.loc (c : Thread nD τ) ↦[(outAt o h).view.set]{fullShare} ((outAt o h).view.write (Elt F) f (ReadAs.same.apply (View.read (Elt F) q2M.view w)) Finset.univ) : sProp 𝕄)
      ⊢ outPts c (blkSet r k s) (result m c) :=
    (Entails.of_eq (out_pts c r k s hk hs ho h _)).trans (Entails.of_eq (pointsTo_congr fun i hi => (write_out r k s hk hs ho h f w i hi).trans (hw i hi).symm))
  iintro ⟨Hs, Hd, Hv⟩ Hc
  ihave Hs := (Entails.of_eq (q2_pts c w).symm) $$ Hs
  ihave Hd := (show outPts c (blkSet r k s) f ⊢ _ from Entails.of_eq hp.symm) $$ Hd
  iapply (Transfers.wp_dmaLocal EC 𝒱₀ (c : Thread nD τ) none (src := q2M) (dst := outAt o h) (q := fullShare) (fs := w) (fd := f) (Sd := (outAt o h).view.set) () NO rfl NO_pos (Finset.Subset.refl _)) $$ [Hs Hd Hv]
  · isplitl [Hs]; · iexact Hs
    isplitl [Hd]; · iexact Hd
    iexact Hv
  iintro Hf
  iapply Hc
  iapply (Transfers.Flight_mono EC (c : Thread nD τ) (BI.sep_mono hf (Entails.of_eq (q2_pts c w)))) $$ Hf

set_option maxHeartbeats 800000 in
theorem trip_step (c : Dev nD) (r : Fin 8) (l : List (Fin 8)) (k : ℕ) (hk : k < 4)
    (o : Fin 2 → ℕ) (h : ∀ a, o a + S32x16384.size a ≤ S128x16384.size a) (o1 : Fin 2 → ℕ) (h1 : inbO o1) (o2 : Fin 2 → ℕ) (h2 : inbO o2)
    (ho : o = ![32 * k, 0]) (ho1 : o1 = ![128 * r.val + 32 * k, 16384 * (side c).val]) (ho2 : o2 = ![128 * r.val + 32 * k, 16384 * (1 - (side c).val)]) :
    tripInv m c r l k ⊢ wp frame (wpE (defs₀ (F := F)) 𝒱₀ (c : Thread nD τ) none) Set.univ (trip (F := F) o h o1 h1 o2 h2) (fun _ => tripInv m c r l (k + 1)) := by
  have hs : (side c).val < 2 := (side c).isLt
  unfold trip tripInv bench
  simp only [Prog.lift, Prog.bind_op, Prog.bind_ret, Prog.pure_eq_ret]
  iintro ⟨#Hlev, HO, ⟨Hm, Ht, ⟨%f1, H1⟩, ⟨%f2, H2⟩, Hv1, Hv2⟩, Hdone, ⟨%f, Htodo⟩⟩
  iapply (ld_mc c (ownS m c r) _) $$ Hm; iintro Hm
  rw [load_own m c r k hk ho]
  iapply (ld_tc c (othS m c r) _) $$ Ht; iintro Ht
  rw [load_oth m c r k hk ho]
  iapply (use_q1 c f1 _) $$ H1; iintro H1
  iapply (use_q2 c f2 _) $$ H2; iintro H2
  icases (out_cut c (blk_sub r k (side c).val hk) f) $$ Htodo with ⟨Hb1, Htodo⟩
  icases (out_cut c (blk_sub' r k (side c).val (1 - (side c).val) hk (by omega)) f) $$ Htodo with ⟨Hb2, Htodo⟩
  rw [todo_next r k _ hk hs]
  -- the two copies out
  iapply (copy_out1 m c r k (side c).val hk hs ho1 h1 outSem0 _ f (result_own m c r k)) $$ [H1 Hb1 Hv1]
  · isplitl [H1]; · iexact H1
    isplitl [Hb1]; · iexact Hb1
    iexact Hv1
  iintro Hf1
  iapply (copy_out2 m c r k (1 - (side c).val) hk (by omega) ho2 h2 outSem1 _ f (result_oth m c r k)) $$ [H2 Hb2 Hv2]
  · isplitl [H2]; · iexact H2
    isplitl [Hb2]; · iexact Hb2
    iexact Hv2
  iintro Hf2
  iapply (local_wait c l (s := dq 7) outSem0 rfl (n := NO) (credit_out o1 h1)) $$ [Hf1 HO]
  · isplitr; · iexact Hlev
    isplitl [Hf1]; · iexact Hf1
    iexact HO
  iintro ⟨⟨Hb1, H1⟩, Hv1, HO⟩
  iapply (local_wait c l (s := dq 8) outSem1 rfl (n := NO) (credit_out o2 h2)) $$ [Hf2 HO]
  · isplitr; · iexact Hlev
    isplitl [Hf2]; · iexact Hf2
    iexact HO
  iintro ⟨⟨Hb2, H2⟩, Hv2, HO⟩
  rw [wp_ret]; imodintro
  isplitr; · iexact Hlev
  isplitl [HO]; · iexact HO
  isplitl [Hm Ht H1 H2 Hv1 Hv2]
  · isplitl [Hm]; · iexact Hm
    isplitl [Ht]; · iexact Ht
    isplitl [H1]; · iexists _; iexact H1
    isplitl [H2]; · iexists _; iexact H2
    isplitl [Hv1]; · iexact Hv1
    iexact Hv2
  isplitl [Hdone Hb1 Hb2]
  · rw [← done_next r k _ hk hs]
    iapply (out_glue c (done_disj' r k (side c).val (1 - (side c).val) (by omega)) _)
    isplitl [Hdone Hb1]
    · iapply (out_glue c (done_disj r k (side c).val) _)
      isplitl [Hdone]; · iexact Hdone
      iexact Hb1
    · iexact Hb2
  · iexists f; iexact Htodo

end Cert.KernelIdeal.Mesh

end
-- ==== Proof.RunKernelIdeal.Loop.lean ====
/-
# The eight loops

Each loop of the kernel over the 32-row blocks of one slice, through one rule; the slices come in the order they arrive.
-/
module

public import proofs.«01_k».proof.Proof.RunKernelIdeal.Trip

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-- The rows of the result one slice makes. -/
def outSlice (r : Fin 8) : Finset S1024x32768.Idx := Finset.univ.filter fun i => (i 0).val / 128 = r.val

theorem todo_all (r : Fin 8) : todoSet r 0 = outSlice r := by
  ext i
  simp only [todoSet, outSlice, Finset.mem_filter, Finset.mem_univ, true_and]
  omega
theorem done_none (r : Fin 8) : doneSet r 0 = ∅ := by
  ext i
  simp only [doneSet, Finset.mem_filter, Finset.mem_univ, true_and, Finset.notMem_empty, iff_false]
  omega
theorem done_all (r : Fin 8) : doneSet r 4 = outSlice r := by
  ext i
  simp only [doneSet, outSlice, Finset.mem_filter, Finset.mem_univ, true_and]
  omega

theorem slice_loop (c : Dev nD) (r : Fin 8) (l : List (Fin 8)) {lp : Scf.Loop 32} {hok : lp.OK} (htr : lp.trips = 4)
    {body : Fin lp.trips → Unit → Prog (TpuEff nD τ sig (Elt F) Λ₀ .tc) Unit}
    {o : Fin lp.trips → Fin 2 → ℕ} (h : ∀ k, ∀ a, o k a + S32x16384.size a ≤ S128x16384.size a)
    {o1 : Fin lp.trips → Fin 2 → ℕ} (h1 : ∀ k, inbO (o1 k)) {o2 : Fin lp.trips → Fin 2 → ℕ} (h2 : ∀ k, inbO (o2 k))
    (hb : ∀ k u, body k u = trip (o k) (h k) (o1 k) (h1 k) (o2 k) (h2 k))
    (ho : ∀ k, o k = ![32 * k.val, 0]) (ho1 : ∀ k, o1 k = ![128 * r.val + 32 * k.val, 16384 * (side c).val])
    (ho2 : ∀ k, o2 k = ![128 * r.val + 32 * k.val, 16384 * (1 - (side c).val)])
    {kk : Unit → Prog (TpuEff nD τ sig (Elt F) Λ₀ .tc) α} :
    iprop(levAts Lx lv ∗ ow c (oweR c l) ∗ bench m c r ∗ ∃ f, outPts c (outSlice r) f)
      ⊢ iprop((ow c (oweR c l) ∗ bench m c r ∗ outPts c (outSlice r) (result m c)
            -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for lp hok ⟨⟩ body >>= kk) Q) := by
  iintro ⟨#Hlev, HO, Hb, Hout⟩ Hc
  iapply (Scf.wp_for_bind Idealize.ShloMosaic.frame (wpE (defs₀ (F := F)) 𝒱₀ (c : Thread nD τ) none) Set.univ lp.lb lp.ub lp.st hok ⟨⟩ body
    (fun k _ => tripInv m c r l k) (fun k u => by
      rw [hb]
      exact trip_step m c r l k.val (lt_of_lt_of_eq k.isLt htr) _ (h k) _ (h1 k) _ (h2 k) (ho k) (ho1 k) (ho2 k))) $$ [HO Hb Hout]
  · unfold tripInv
    rw [todo_all, done_none]
    isplitr; · iexact Hlev
    isplitl [HO]; · iexact HO
    isplitl [Hb]; · iexact Hb
    isplitr
    · unfold outPts; rw [pointsTo_empty]; iempintro
    iexact Hout
  iintro %u H
  rw [show Scf.trips lp.lb lp.ub lp.st = 4 from htr]
  unfold tripInv
  rw [done_all]
  icases H with ⟨-, HO, Hb, Hout, -⟩
  iapply Hc
  isplitl [HO]; · iexact HO
  isplitl [Hb]; · iexact Hb
  iexact Hout

/-! ## Where each loop writes -/

theorem own_off2 (c : Dev nD) (k : Fin k0_t2_loop.trips) : k0_off17 c k = ![128 * (slice c 0).val + 32 * k.val, 16384 * (side c).val] := by revert c k; decide +kernel
theorem oth_off2 (c : Dev nD) (k : Fin k0_t2_loop.trips) : k0_off18 c k = ![128 * (slice c 0).val + 32 * k.val, 16384 * (1 - (side c).val)] := by revert c k; decide +kernel
theorem row_off2 (k : Fin k0_t2_loop.trips) : k0_off16 k = ![32 * k.val, 0] := by revert k; decide +kernel
theorem own_off3 (c : Dev nD) (k : Fin k0_t3_loop.trips) : k0_off21 c k = ![128 * (slice c 7).val + 32 * k.val, 16384 * (side c).val] := by revert c k; decide +kernel
theorem oth_off3 (c : Dev nD) (k : Fin k0_t3_loop.trips) : k0_off22 c k = ![128 * (slice c 7).val + 32 * k.val, 16384 * (1 - (side c).val)] := by revert c k; decide +kernel
theorem row_off3 (k : Fin k0_t3_loop.trips) : k0_off20 k = ![32 * k.val, 0] := by revert k; decide +kernel
theorem own_off4 (c : Dev nD) (k : Fin k0_t4_loop.trips) : k0_off24 c k = ![128 * (slice c 1).val + 32 * k.val, 16384 * (side c).val] := by revert c k; decide +kernel
theorem oth_off4 (c : Dev nD) (k : Fin k0_t4_loop.trips) : k0_off25 c k = ![128 * (slice c 1).val + 32 * k.val, 16384 * (1 - (side c).val)] := by revert c k; decide +kernel
theorem row_off4 (k : Fin k0_t4_loop.trips) : k0_off23 k = ![32 * k.val, 0] := by revert k; decide +kernel
theorem own_off5 (c : Dev nD) (k : Fin k0_t5_loop.trips) : k0_off27 c k = ![128 * (slice c 6).val + 32 * k.val, 16384 * (side c).val] := by revert c k; decide +kernel
theorem oth_off5 (c : Dev nD) (k : Fin k0_t5_loop.trips) : k0_off28 c k = ![128 * (slice c 6).val + 32 * k.val, 16384 * (1 - (side c).val)] := by revert c k; decide +kernel
theorem row_off5 (k : Fin k0_t5_loop.trips) : k0_off26 k = ![32 * k.val, 0] := by revert k; decide +kernel
theorem own_off6 (c : Dev nD) (k : Fin k0_t6_loop.trips) : k0_off30 c k = ![128 * (slice c 2).val + 32 * k.val, 16384 * (side c).val] := by revert c k; decide +kernel
theorem oth_off6 (c : Dev nD) (k : Fin k0_t6_loop.trips) : k0_off31 c k = ![128 * (slice c 2).val + 32 * k.val, 16384 * (1 - (side c).val)] := by revert c k; decide +kernel
theorem row_off6 (k : Fin k0_t6_loop.trips) : k0_off29 k = ![32 * k.val, 0] := by revert k; decide +kernel
theorem own_off7 (c : Dev nD) (k : Fin k0_t7_loop.trips) : k0_off33 c k = ![128 * (slice c 3).val + 32 * k.val, 16384 * (side c).val] := by revert c k; decide +kernel
theorem oth_off7 (c : Dev nD) (k : Fin k0_t7_loop.trips) : k0_off34 c k = ![128 * (slice c 3).val + 32 * k.val, 16384 * (1 - (side c).val)] := by revert c k; decide +kernel
theorem row_off7 (k : Fin k0_t7_loop.trips) : k0_off32 k = ![32 * k.val, 0] := by revert k; decide +kernel
theorem own_off8 (c : Dev nD) (k : Fin k0_t8_loop.trips) : k0_off36 c k = ![128 * (slice c 4).val + 32 * k.val, 16384 * (side c).val] := by revert c k; decide +kernel
theorem oth_off8 (c : Dev nD) (k : Fin k0_t8_loop.trips) : k0_off37 c k = ![128 * (slice c 4).val + 32 * k.val, 16384 * (1 - (side c).val)] := by revert c k; decide +kernel
theorem row_off8 (k : Fin k0_t8_loop.trips) : k0_off35 k = ![32 * k.val, 0] := by revert k; decide +kernel
theorem own_off9 (c : Dev nD) (k : Fin k0_t9_loop.trips) : k0_off39 c k = ![128 * (slice c 5).val + 32 * k.val, 16384 * (side c).val] := by revert c k; decide +kernel
theorem oth_off9 (c : Dev nD) (k : Fin k0_t9_loop.trips) : k0_off40 c k = ![128 * (slice c 5).val + 32 * k.val, 16384 * (1 - (side c).val)] := by revert c k; decide +kernel
theorem row_off9 (k : Fin k0_t9_loop.trips) : k0_off38 k = ![32 * k.val, 0] := by revert k; decide +kernel

end Cert.KernelIdeal.Mesh

end
-- ==== Proof.RunKernelIdeal.Block.lean ====
/-
# One block of the product: its places in memory

The blocks of `W` and of the product on chip, each in one of two places used in turn, and the copies in and out.
-/
module

public import proofs.«01_k».proof.Proof.RunKernelIdeal.Slice
public import Idealize.ShloMosaic.Lib.ValueLayout

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-! ## Places -/

abbrev xbM : Memref sig .tc .vmem S1024x2048 .bf16 := Memref.whole cc0_scratch0
abbrev wsM : Memref sig .tc .vmem S2x2048x1024 .f32 := Memref.whole cc0_scratch1
abbrev lbM : Memref sig .tc .vmem S2x1024x1024 .bf16 := Memref.whole cc0_scratch2
abbrev wM : Memref sig .tc .hbm S2048x16384 .f32 := Memref.whole main_arg1

abbrev inbWs (o : Fin 3 → ℕ) : Prop := ∀ a, o a + S1x2048x1024.size a ≤ S2x2048x1024.size a
abbrev inbLb (o : Fin 3 → ℕ) : Prop := ∀ a, o a + S1x1024x1024.size a ≤ S2x1024x1024.size a
abbrev inbWc (o : Fin 2 → ℕ) : Prop := ∀ a, o a + S2048x1024.size a ≤ S2048x16384.size a
abbrev inbMc (o : Fin 2 → ℕ) : Prop := ∀ a, o a + S1024x1024.size a ≤ S1024x16384.size a

abbrev wsAt (o : Fin 3 → ℕ) (h : inbWs o) : Memref sig .tc .vmem S2048x1024 .f32 :=
  (wsM.slice (Rect.unit (s := S2x2048x1024) o S1x2048x1024.size h) (fun _ => rfl)).squeeze S2048x1024 squeezes_S1x2048x1024_S2048x1024
abbrev lbAt (o : Fin 3 → ℕ) (h : inbLb o) : Memref sig .tc .vmem S1024x1024 .bf16 :=
  (lbM.slice (Rect.unit (s := S2x1024x1024) o S1x1024x1024.size h) (fun _ => rfl)).squeeze S1024x1024 squeezes_S1x1024x1024_S1024x1024
abbrev wAt (o : Fin 2 → ℕ) (h : inbWc o) : Memref sig .tc .hbm S2048x1024 .f32 :=
  wM.slice (Rect.unit (s := S2048x16384) o S2048x1024.size h) (fun _ => rfl)
abbrev mAt (o : Fin 2 → ℕ) (h : inbMc o) : Memref sig .tc .hbm S1024x1024 .bf16 :=
  minM.slice (Rect.unit (s := S1024x16384) o S1024x1024.size h) (fun _ => rfl)

abbrev wSem (o : Fin 1 → ℕ) (h : ∀ a, o a + S1.size a ≤ S2.size a) : DmaSem sig :=
  ((cc0_scratch7.slice (Rect.unit (s := S2) o S1.size h)).squeeze S_ squeezes_S1_S_).sem
abbrev lSem (o : Fin 1 → ℕ) (h : ∀ a, o a + S1.size a ≤ S2.size a) : DmaSem sig :=
  ((cc0_scratch8.slice (Rect.unit (s := S2) o S1.size h)).squeeze S_ squeezes_S1_S_).sem

/-- The semaphores of place `s`. -/
def wq (s : Fin 2) : DmaSem sig := (![1, 2] : Fin 2 → Fin 25) s
def lq (s : Fin 2) : DmaSem sig := (![3, 4] : Fin 2 → Fin 25) s
theorem wSem_zero : wSem ![0] inb_S2_S1_0 = dq 1 := rfl
theorem wSem_one : wSem ![1] inb_S2_S1_1 = dq 2 := rfl
theorem lSem_zero : lSem ![0] inb_S2_S1_0 = dq 3 := rfl
theorem lSem_one : lSem ![1] inb_S2_S1_1 = dq 4 := rfl
theorem wSem_eq (s : Fin 2) {o : Fin 1 → ℕ} (ho : o = ![s.val]) (h) : wSem o h = wq s := by
  subst ho
  obtain rfl | rfl : s = 0 ∨ s = 1 := by omega
  · exact wSem_zero
  · exact wSem_one
theorem lSem_eq (s : Fin 2) {o : Fin 1 → ℕ} (ho : o = ![s.val]) (h) : lSem o h = lq s := by
  subst ho
  obtain rfl | rfl : s = 0 ∨ s = 1 := by omega
  · exact lSem_zero
  · exact lSem_one
theorem kind_wq (s : Fin 2) : kindOf (wq s) = none := by fin_cases s <;> rfl
theorem kind_lq (s : Fin 2) : kindOf (lq s) = none := by fin_cases s <;> rfl

abbrev NW : ℕ := (wsAt ![0, 0, 0] inb_S2x2048x1024_S1x2048x1024_0_0_0).view.dmaCredit
abbrev NL : ℕ := (mAt ![0, 14336] inb_S1024x16384_S1024x1024_0_14336).view.dmaCredit
theorem NW_pos : 0 < NW := View.dmaCredit_pos _ (by decide)
theorem NL_pos : 0 < NL := View.dmaCredit_pos _ (by decide)
theorem credit_ws (o h) : (wsAt o h).view.dmaCredit = NW := rfl
theorem credit_m (o h) : (mAt o h).view.dmaCredit = NL := rfl

/-! ## Index sets -/

def wSet (s : Fin 2) : Finset S2x2048x1024.Idx := Finset.univ.filter fun i => (i 0).val = s.val
def lSet (s : Fin 2) : Finset S2x1024x1024.Idx := Finset.univ.filter fun i => (i 0).val = s.val
def wCol (t : ℕ) : Finset S2048x16384.Idx := Finset.univ.filter fun i => (i 1).val / 1024 = t
def mCol (t : ℕ) : Finset S1024x16384.Idx := Finset.univ.filter fun i => (i 1).val / 1024 = t

theorem ws_rect (s : Fin 2) {o : Fin 3 → ℕ} (ho : o = ![s.val, 0, 0]) (h : inbWs o) :
    (Rect.unit (s := S2x2048x1024) o S1x2048x1024.size h).set = wSet s := by
  subst ho
  ext i
  rw [Rect.mem_set_unit]
  unfold wSet
  rw [Finset.mem_filter]
  constructor
  · intro h
    have h0 : s.val ≤ (i 0).val ∧ (i 0).val < s.val + 1 := h 0
    exact ⟨Finset.mem_univ _, by omega⟩
  · rintro ⟨-, h⟩ a
    have h1 : (i 1).val < 2048 := (i 1).isLt
    have h2 : (i 2).val < 1024 := (i 2).isLt
    fin_cases a
    · show s.val ≤ (i 0).val ∧ (i 0).val < s.val + 1; omega
    · show 0 ≤ (i 1).val ∧ (i 1).val < 0 + 2048; omega
    · show 0 ≤ (i 2).val ∧ (i 2).val < 0 + 1024; omega
theorem lb_rect (s : Fin 2) {o : Fin 3 → ℕ} (ho : o = ![s.val, 0, 0]) (h : inbLb o) :
    (Rect.unit (s := S2x1024x1024) o S1x1024x1024.size h).set = lSet s := by
  subst ho
  ext i
  rw [Rect.mem_set_unit]
  unfold lSet
  rw [Finset.mem_filter]
  constructor
  · intro h
    have h0 : s.val ≤ (i 0).val ∧ (i 0).val < s.val + 1 := h 0
    exact ⟨Finset.mem_univ _, by omega⟩
  · rintro ⟨-, h⟩ a
    have h1 : (i 1).val < 1024 := (i 1).isLt
    have h2 : (i 2).val < 1024 := (i 2).isLt
    fin_cases a
    · show s.val ≤ (i 0).val ∧ (i 0).val < s.val + 1; omega
    · show 0 ≤ (i 1).val ∧ (i 1).val < 0 + 1024; omega
    · show 0 ≤ (i 2).val ∧ (i 2).val < 0 + 1024; omega

theorem ws_set (s : Fin 2) {o : Fin 3 → ℕ} (ho : o = ![s.val, 0, 0]) (h : inbWs o) : (wsAt o h).view.set = wSet s := by
  show (((View.whole cc0_scratch1).slice _).reshape _ _).set = _
  rw [View.set_reshape, View.set_slice_whole, ws_rect s ho h]
theorem lb_set (s : Fin 2) {o : Fin 3 → ℕ} (ho : o = ![s.val, 0, 0]) (h : inbLb o) : (lbAt o h).view.set = lSet s := by
  show (((View.whole cc0_scratch2).slice _).reshape _ _).set = _
  rw [View.set_reshape, View.set_slice_whole, lb_rect s ho h]
theorem w_set (t : ℕ) {o : Fin 2 → ℕ} (ho : o = ![0, 1024 * t]) (h : inbWc o) : (wAt o h).view.set = wCol t := by
  subst ho
  show ((View.whole main_arg1).slice _).set = _
  rw [View.set_slice_whole]
  ext i
  rw [Rect.mem_set_unit]
  unfold wCol
  rw [Finset.mem_filter]
  constructor
  · intro h
    have h1 : 1024 * t ≤ (i 1).val ∧ (i 1).val < 1024 * t + 1024 := h 1
    exact ⟨Finset.mem_univ _, by omega⟩
  · rintro ⟨-, h⟩ a
    have h0 : (i 0).val < 2048 := (i 0).isLt
    fin_cases a
    · show 0 ≤ (i 0).val ∧ (i 0).val < 0 + 2048; omega
    · show 1024 * t ≤ (i 1).val ∧ (i 1).val < 1024 * t + 1024; omega
theorem m_set (t : ℕ) {o : Fin 2 → ℕ} (ho : o = ![0, 1024 * t]) (h : inbMc o) : (mAt o h).view.set = mCol t := by
  subst ho
  show ((View.whole main_v1_1).slice _).set = _
  rw [View.set_slice_whole]
  ext i
  rw [Rect.mem_set_unit]
  unfold mCol
  rw [Finset.mem_filter]
  constructor
  · intro h
    have h1 : 1024 * t ≤ (i 1).val ∧ (i 1).val < 1024 * t + 1024 := h 1
    exact ⟨Finset.mem_univ _, by omega⟩
  · rintro ⟨-, h⟩ a
    have h0 : (i 0).val < 1024 := (i 0).isLt
    fin_cases a
    · show 0 ≤ (i 0).val ∧ (i 0).val < 0 + 1024; omega
    · show 1024 * t ≤ (i 1).val ∧ (i 1).val < 1024 * t + 1024; omega

/-- Where the places put an index. -/
theorem ws_emb (s : Fin 2) {o : Fin 3 → ℕ} (ho : o = ![s.val, 0, 0]) (h : inbWs o) (j : S2048x1024.Idx) :
    (wsAt o h).view.emb j = ix3 (n0 := 2) (n1 := 2048) (n2 := 1024) s (j 0) (j 1) := by
  subst ho
  refine (congrArg (Rect.unit (s := S2x2048x1024) _ S1x2048x1024.size h).emb
    ((congrArg (Shape.reshapeEquiv _) (ValueIdx.eq_ix2 j)).trans (ValueIdx.reshapeEquiv_ix2_1ab _ (j 0) (j 1)))).trans ?_
  funext a
  fin_cases a
  · exact Fin.ext (by show s.val + 1 * 0 = s.val; omega)
  · exact Fin.ext (by show 0 + 1 * (j 0).val = (j 0).val; omega)
  · exact Fin.ext (by show 0 + 1 * (j 1).val = (j 1).val; omega)
theorem lb_emb (s : Fin 2) {o : Fin 3 → ℕ} (ho : o = ![s.val, 0, 0]) (h : inbLb o) (j : S1024x1024.Idx) :
    (lbAt o h).view.emb j = ix3 (n0 := 2) (n1 := 1024) (n2 := 1024) s (j 0) (j 1) := by
  subst ho
  refine (congrArg (Rect.unit (s := S2x1024x1024) _ S1x1024x1024.size h).emb
    ((congrArg (Shape.reshapeEquiv _) (ValueIdx.eq_ix2 j)).trans (ValueIdx.reshapeEquiv_ix2_1ab _ (j 0) (j 1)))).trans ?_
  funext a
  fin_cases a
  · exact Fin.ext (by show s.val + 1 * 0 = s.val; omega)
  · exact Fin.ext (by show 0 + 1 * (j 0).val = (j 0).val; omega)
  · exact Fin.ext (by show 0 + 1 * (j 1).val = (j 1).val; omega)

/-! ## Contents -/

/-- Block `t` of `W`, and of the product, at either place. -/
def wFill (c : Dev nD) (t : ℕ) : S2x2048x1024.Idx → F .f32 := fun i => wblk m c t (ix3 (n0 := 1) (n1 := 2048) (n2 := 1024) 0 (i 1) (i 2))
def prod (c : Dev nD) (t : ℕ) : FVec F S1x1024x1024 .bf16 := k0_pay1 (k0_pay42 (xin m c)) (wblk m c t)
def lFill (c : Dev nD) (t : ℕ) : S2x1024x1024.Idx → F .bf16 := fun i => prod m c t (ix3 (n0 := 1) (n1 := 1024) (n2 := 1024) 0 (i 1) (i 2))

/-- What the copy of block `t` of `W` leaves at place `s`. -/
theorem ws_write (c : Dev nD) (t : ℕ) (ht : t < 16) (s : Fin 2) {o : Fin 3 → ℕ} (ho : o = ![s.val, 0, 0]) (h : inbWs o)
    {o' : Fin 2 → ℕ} (ho' : o' = ![0, 1024 * t]) (h' : inbWc o') (fd : S2x2048x1024.Idx → F .f32) (i : S2x2048x1024.Idx) (hi : i ∈ wSet s) :
    (wsAt o h).view.write (Elt F) fd ((wAt o' h').view.read (Elt F) (wbuf m c)) Finset.univ i = wFill m c t i := by
  have hi' : i ∈ (wsAt o h).view.set := by rw [ws_set s ho]; exact hi
  obtain ⟨j, -, rfl⟩ := Finset.mem_map.mp hi'
  refine (View.write_emb_of_mem (v := (wsAt o h).view) (Val := Elt F) fd _ (Finset.mem_univ j)).trans ?_
  rw [ws_emb s ho h j]
  subst ho'
  show wbuf m c ((wAt ![0, 1024 * t] h').view.emb j) = wbuf m c _
  congr 1
  have h1 : (j 1).val < 1024 := (j 1).isLt
  funext a
  fin_cases a
  · exact Fin.ext (by show 0 + 1 * (j 0).val = (j 0).val; omega)
  · exact Fin.ext (by show 1024 * t + 1 * (j 1).val = (1024 * t + (j 1).val) % 16384; omega)

/-- What the copy of block `t` of the product leaves in the buffer of the product. -/
theorem m_write (c : Dev nD) (t : ℕ) (ht : t < 16) (s : Fin 2) {o : Fin 3 → ℕ} (ho : o = ![s.val, 0, 0]) (h : inbLb o)
    {o' : Fin 2 → ℕ} (ho' : o' = ![0, 1024 * t]) (h' : inbMc o') (fd : S1024x16384.Idx → F .bf16) (i : S1024x16384.Idx) (hi : i ∈ mCol t) :
    (mAt o' h').view.write (Elt F) fd ((lbAt o h).view.read (Elt F) (lFill m c t)) Finset.univ i = logits m c i := by
  have hi' : i ∈ (mAt o' h').view.set := by rw [m_set t ho']; exact hi
  obtain ⟨j, -, rfl⟩ := Finset.mem_map.mp hi'
  refine (View.write_emb_of_mem (v := (mAt o' h').view) (Val := Elt F) fd _ (Finset.mem_univ j)).trans ?_
  show lFill m c t ((lbAt o h).view.emb j) = _
  rw [lb_emb s ho h j]
  have h1 : (j 1).val < 1024 := (j 1).isLt
  have e0 : (((mAt o' h').view.emb j) 0).val = (j 0).val := by
    subst ho'; show 0 + 1 * (j 0).val = (j 0).val; omega
  have e1 : (((mAt o' h').view.emb j) 1).val = 1024 * t + (j 1).val := by
    subst ho'; show 1024 * t + 1 * (j 1).val = _; omega
  have e2 : (((mAt o' h').view.emb j) 1).val / 1024 = t := by omega
  unfold logits lFill prod
  rw [e2]
  congr 1
  funext a
  fin_cases a
  · rfl
  · exact Fin.ext e0.symm
  · exact Fin.ext (by show (j 1).val = (((mAt o' h').view.emb j) 1).val % 1024; omega)

/-- A load of place `s` reads its block. -/
theorem ws_load (c : Dev nD) (t : ℕ) (s : Fin 2) {o : Fin 3 → ℕ} (ho : o = ![s.val, 0, 0]) (h : inbWs o) :
    wsM.view.readAt (Elt F) (Rect.unit (s := S2x2048x1024) o S1x2048x1024.size h).toLoadRect (wFill m c t) = wblk m c t := by
  subst ho
  funext j
  show wblk m c t _ = _
  congr 1
  funext a
  fin_cases a
  · exact Subsingleton.elim (α := Fin 1) _ _
  · exact Fin.ext (by show 0 + 1 * (j 1).val = (j 1).val; omega)
  · exact Fin.ext (by show 0 + 1 * (j 2).val = (j 2).val; omega)

/-- A store of block `t` at place `s`. -/
theorem lb_store (c : Dev nD) (t : ℕ) (s : Fin 2) {o : Fin 3 → ℕ} (ho : o = ![s.val, 0, 0]) (h : inbLb o)
    (fd : S2x1024x1024.Idx → F .bf16) (i : S2x1024x1024.Idx) (hi : i ∈ lSet s) :
    (lbM.access (Rect.unit (s := S2x1024x1024) o S1x1024x1024.size h) : View sig .tc _ _ _).write (Elt F) fd (prod m c t) Finset.univ i = lFill m c t i := by
  have hi' : i ∈ (Rect.unit (s := S2x1024x1024) o S1x1024x1024.size h).set := by rw [lb_rect s ho]; exact hi
  rw [← Rect.map_emb_univ] at hi'
  obtain ⟨j, -, rfl⟩ := Finset.mem_map.mp hi'
  refine (View.write_emb_of_mem (v := (lbM.access (Rect.unit (s := S2x1024x1024) o S1x1024x1024.size h) : View sig .tc _ _ _)) (Val := Elt F) fd _ (Finset.mem_univ j)).trans ?_
  subst ho
  show prod m c t j = prod m c t _
  congr 1
  funext a
  fin_cases a
  · exact Subsingleton.elim (α := Fin 1) _ _
  · exact Fin.ext (by show (j 1).val = 0 + 1 * (j 1).val; omega)
  · exact Fin.ext (by show (j 2).val = 0 + 1 * (j 2).val; omega)

end Cert.KernelIdeal.Mesh

end
-- ==== Proof.RunKernelIdeal.Gemm.lean ====
/-
# The product, block by block

The loop over the sixteen column blocks: each trip starts the copy of the next block of `W`, waits for its own, waits for
the product block copied out two trips before, forms the product of its block and starts copying it out.
-/
module

public import proofs.«01_k».proof.Proof.RunKernelIdeal.Block

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-! ## What is held -/

def wsP (c : Dev nD) (s : Fin 2) (f : S2x2048x1024.Idx → F .f32) : sProp 𝕄 := ((c : Thread nD τ).loc cc0_scratch1) ↦[wSet s]{fullShare} f
def lbP (c : Dev nD) (s : Fin 2) (f : S2x1024x1024.Idx → F .bf16) : sProp 𝕄 := ((c : Thread nD τ).loc cc0_scratch2) ↦[lSet s]{fullShare} f
def xbP (c : Dev nD) (f : S1024x2048.Idx → F .bf16) : sProp 𝕄 := ((c : Thread nD τ).loc cc0_scratch0) ↦{fullShare} f
def wP (c : Dev nD) (q : PosShare TreeShare) (S : Finset S2048x16384.Idx) : sProp 𝕄 := ((c : Thread nD τ).loc main_arg1) ↦[S]{q} wbuf m c
def mP (c : Dev nD) (S : Finset S1024x16384.Idx) (f : S1024x16384.Idx → F .bf16) : sProp 𝕄 := ((c : Thread nD τ).loc main_v1_1) ↦[S]{fullShare} f

theorem wP_cut (c : Dev nD) (q : PosShare TreeShare) {I S : Finset S2048x16384.Idx} (h : I ⊆ S) :
    wP m c q S ⊢ iprop(wP m c q I ∗ wP m c q (S \ I)) := (pointsTo_split_subset (ℓ := (c : Thread nD τ).loc main_arg1) h).1
theorem mP_cut (c : Dev nD) {I S : Finset S1024x16384.Idx} (h : I ⊆ S) (f : S1024x16384.Idx → F .bf16) :
    mP c S f ⊢ iprop(mP c I f ∗ mP c (S \ I) f) := (pointsTo_split_subset (ℓ := (c : Thread nD τ).loc main_v1_1) h).1
theorem mP_glue (c : Dev nD) {I S : Finset S1024x16384.Idx} (h : Disjoint I S) (f : S1024x16384.Idx → F .bf16) :
    iprop(mP c I f ∗ mP c S f) ⊢ mP c (I ∪ S) f := (pointsTo_union (ℓ := (c : Thread nD τ).loc main_v1_1) h).2
theorem mP_none (c : Dev nD) (f : S1024x16384.Idx → F .bf16) : iprop(emp) ⊢ (mP c ∅ f : sProp 𝕄) := by
  unfold mP; rw [pointsTo_empty]

/-! ## Steps -/

/-- The copy of block `t` of `W` to place `s` starts. -/
theorem fetch_w (c : Dev nD) (q : PosShare TreeShare) (t : ℕ) (ht : t < 16) (s : Fin 2) {o : Fin 3 → ℕ} (ho : o = ![s.val, 0, 0]) (h : inbWs o)
    {o' : Fin 2 → ℕ} (ho' : o' = ![0, 1024 * t]) (h' : inbWc o') {sm : DmaSem sig} (hS : sm = wq s)
    {hsrc : (wAt o' h').view.WordExact} {hdst : (wsAt o h).view.WordExact} {hsem : DmaTarget.Typed .hbm (.dma sm) (.here (wsAt o h) : DmaTarget nD τ sig (.tc : Proc τ) .vmem S2048x1024 .f32)}
    {kk : PUnit → Prog (TpuEff nD τ sig (Elt F) Λ₀ .tc) α} :
    iprop(wP m c q (wCol t) ∗ (∃ f, wsP c s f) ∗ semVal ((c : Thread nD τ), .dma (wq s)) 0)
      ⊢ iprop((fl c (wq s) NW (wsP c s (wFill m c t)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (wAt o' h') (.here (wsAt o h)) (.dma sm) hsrc hdst hsem) kk) Q) := by
  subst hS
  have hs : wP m c q (wCol t) = ((wAt o' h').view.loc (c : Thread nD τ) ↦[(wAt o' h').view.set]{q} wbuf m c : sProp 𝕄) := by
    unfold wP
    exact congrArg (fun S : Finset S2048x16384.Idx => (((c : Thread nD τ).loc main_arg1) ↦[S]{q} wbuf m c : sProp 𝕄)) (w_set t ho' h').symm
  have hd (f : S2x2048x1024.Idx → F .f32) : (((wsAt o h).view.loc (c : Thread nD τ)) ↦[(wsAt o h).view.set]{fullShare} f : sProp 𝕄) = wsP c s f := by
    unfold wsP
    exact congrArg (fun S : Finset S2x2048x1024.Idx => (((c : Thread nD τ).loc cc0_scratch1) ↦[S]{fullShare} f : sProp 𝕄)) (ws_set s ho h)
  have hf (f : S2x2048x1024.Idx → F .f32) : ((wsAt o h).view.loc (c : Thread nD τ) ↦[(wsAt o h).view.set]{fullShare} ((wsAt o h).view.write (Elt F) f (ReadAs.same.apply (View.read (Elt F) (wAt o' h').view (wbuf m c))) Finset.univ) : sProp 𝕄)
      ⊢ wsP c s (wFill m c t) :=
    (Entails.of_eq (hd _)).trans (Entails.of_eq (pointsTo_congr fun i hi => ws_write m c t ht s ho h ho' h' f i hi))
  iintro ⟨Hs, ⟨%f, Hd⟩, Hv⟩ Hc
  ihave Hs := (Entails.of_eq hs) $$ Hs
  ihave Hd := (Entails.of_eq (hd f).symm) $$ Hd
  iapply (Transfers.wp_dmaLocal EC 𝒱₀ (c : Thread nD τ) none (src := wAt o' h') (dst := wsAt o h) (q := q) (fs := wbuf m c) (fd := f) (Sd := (wsAt o h).view.set) () NW rfl NW_pos (Finset.Subset.refl _)) $$ [Hs Hd Hv]
  · isplitl [Hs]; · iexact Hs
    isplitl [Hd]; · iexact Hd
    iexact Hv
  iintro Hf
  iapply Hc
  iapply (Transfers.Flight_mono EC (c : Thread nD τ) (sep_elim_left.trans (hf f))) $$ Hf

/-- The copy of block `t` of the product out of place `s` starts. -/
theorem flush_m (c : Dev nD) (t : ℕ) (ht : t < 16) (s : Fin 2) {o : Fin 3 → ℕ} (ho : o = ![s.val, 0, 0]) (h : inbLb o)
    {o' : Fin 2 → ℕ} (ho' : o' = ![0, 1024 * t]) (h' : inbMc o') {sm : DmaSem sig} (hS : sm = lq s) (f : S1024x16384.Idx → F .bf16)
    {hsrc : (lbAt o h).view.WordExact} {hdst : (mAt o' h').view.WordExact} {hsem : DmaTarget.Typed .vmem (.dma sm) (.here (mAt o' h') : DmaTarget nD τ sig (.tc : Proc τ) .hbm S1024x1024 .bf16)}
    {kk : PUnit → Prog (TpuEff nD τ sig (Elt F) Λ₀ .tc) α} :
    iprop(lbP c s (lFill m c t) ∗ mP c (mCol t) f ∗ semVal ((c : Thread nD τ), .dma (lq s)) 0)
      ⊢ iprop((fl c (lq s) NL iprop(mP c (mCol t) (logits m c) ∗ ∃ f, lbP c s f) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (lbAt o h) (.here (mAt o' h')) (.dma sm) hsrc hdst hsem) kk) Q) := by
  subst hS
  have hs : lbP c s (lFill m c t) = ((lbAt o h).view.loc (c : Thread nD τ) ↦[(lbAt o h).view.set]{fullShare} lFill m c t : sProp 𝕄) := by
    unfold lbP
    exact congrArg (fun S : Finset S2x1024x1024.Idx => (((c : Thread nD τ).loc cc0_scratch2) ↦[S]{fullShare} lFill m c t : sProp 𝕄)) (lb_set s ho h).symm
  have hd (f : S1024x16384.Idx → F .bf16) : (((mAt o' h').view.loc (c : Thread nD τ)) ↦[(mAt o' h').view.set]{fullShare} f : sProp 𝕄) = mP c (mCol t) f := by
    unfold mP
    exact congrArg (fun S : Finset S1024x16384.Idx => (((c : Thread nD τ).loc main_v1_1) ↦[S]{fullShare} f : sProp 𝕄)) (m_set t ho' h')
  have hf : ((mAt o' h').view.loc (c : Thread nD τ) ↦[(mAt o' h').view.set]{fullShare} ((mAt o' h').view.write (Elt F) f (ReadAs.same.apply (View.read (Elt F) (lbAt o h).view (lFill m c t))) Finset.univ) : sProp 𝕄)
      ⊢ mP c (mCol t) (logits m c) :=
    (Entails.of_eq (hd _)).trans (Entails.of_eq (pointsTo_congr fun i hi => m_write m c t ht s ho h ho' h' f i hi))
  iintro ⟨Hs, Hd, Hv⟩ Hc
  ihave Hs := (Entails.of_eq hs) $$ Hs
  ihave Hd := (Entails.of_eq (hd f).symm) $$ Hd
  iapply (Transfers.wp_dmaLocal EC 𝒱₀ (c : Thread nD τ) none (src := lbAt o h) (dst := mAt o' h') (q := fullShare) (fs := lFill m c t) (fd := f) (Sd := (mAt o' h').view.set) () NL rfl NL_pos (Finset.Subset.refl _)) $$ [Hs Hd Hv]
  · isplitl [Hs]; · iexact Hs
    isplitl [Hd]; · iexact Hd
    iexact Hv
  iintro Hf
  iapply Hc
  iapply (Transfers.Flight_mono EC (c : Thread nD τ) (BI.sep_mono hf ((Entails.of_eq hs.symm).trans (exists_intro (Φ := fun f => lbP c s f) _)))) $$ Hf

theorem ld_xb (c : Dev nD) (f : S1024x2048.Idx → F .bf16)  {hl : xbM.view.LoadsAt (Rect.unit (s := S1024x2048) ![0, 0] S1024x2048.size inb_S1024x2048_S1024x2048_0_0).toLoadRect}
    {kk : (Vec F S1024x2048 .bf16) → Prog (TpuEff nD τ sig (Elt F) Λ₀ .tc) α} :
    xbP c f ⊢ iprop((xbP c f -∗ wp frame (wpE (defs₀ (F := F)) 𝒱₀ (c : Thread nD τ) none) Set.univ (kk f) Q)
      -∗ wp frame (wpE (defs₀ (F := F)) 𝒱₀ (c : Thread nD τ) none) Set.univ (.op (.load xbM (Rect.unit (s := S1024x2048) ![0, 0] S1024x2048.size inb_S1024x2048_S1024x2048_0_0).toLoadRect hl) kk) Q) := by
  have e : xbM.view.readAt (Elt F) (Rect.unit (s := S1024x2048) ![0, 0] S1024x2048.size inb_S1024x2048_S1024x2048_0_0).toLoadRect f = f :=
    Memref.readAt_unit_zero (Elt F) cc0_scratch0 (funext fun a => by fin_cases a <;> rfl) _ f
  rw [congrArg kk e.symm]
  exact wp_load 𝒱₀ (c : Thread nD τ) none Set.univ (m := xbM) (Finset.subset_univ _)

/-- A load within one place, and a store over one. -/
theorem ld_ws' (c : Dev nD) (s : Fin 2) (f : S2x2048x1024.Idx → F .f32) (rg : LoadRect S2x2048x1024) (hS : wsM.view.setOn rg.set ⊆ wSet s) {hl : wsM.view.LoadsAt rg}
    {kk : (Vec F rg.shape .f32) → Prog (TpuEff nD τ sig (Elt F) Λ₀ .tc) α} :
    wsP c s f ⊢ iprop((wsP c s f -∗ wp frame (wpE (defs₀ (F := F)) 𝒱₀ (c : Thread nD τ) none) Set.univ (kk (wsM.view.readAt (Elt F) rg f)) Q)
      -∗ wp frame (wpE (defs₀ (F := F)) 𝒱₀ (c : Thread nD τ) none) Set.univ (.op (.load wsM rg hl) kk) Q) := by
  unfold wsP
  generalize wSet s = S at hS ⊢
  exact wp_load 𝒱₀ (c : Thread nD τ) none Set.univ (m := wsM) hS
theorem ld_lb' (c : Dev nD) (s : Fin 2) (f : S2x1024x1024.Idx → F .bf16) (rg : LoadRect S2x1024x1024) (hS : lbM.view.setOn rg.set ⊆ lSet s) {hl : lbM.view.LoadsAt rg}
    {kk : (Vec F rg.shape .bf16) → Prog (TpuEff nD τ sig (Elt F) Λ₀ .tc) α} :
    lbP c s f ⊢ iprop((lbP c s f -∗ wp frame (wpE (defs₀ (F := F)) 𝒱₀ (c : Thread nD τ) none) Set.univ (kk (lbM.view.readAt (Elt F) rg f)) Q)
      -∗ wp frame (wpE (defs₀ (F := F)) 𝒱₀ (c : Thread nD τ) none) Set.univ (.op (.load lbM rg hl) kk) Q) := by
  unfold lbP
  generalize lSet s = S at hS ⊢
  exact wp_load 𝒱₀ (c : Thread nD τ) none Set.univ (m := lbM) hS
theorem st_lb' (c : Dev nD) (s : Fin 2) (f : S2x1024x1024.Idx → F .bf16) (rg : Rect S2x1024x1024) (hS : (lbM.access rg).setOn Finset.univ ⊆ lSet s)
    {w : Vec F rg.shape .bf16} {hx : (lbM.access rg).Stores Finset.univ} {hm : (Finset.univ : Finset rg.shape.Idx) = Finset.univ ∨ ∀ a, rg.stride a = 1}
    {kk : PUnit → Prog (TpuEff nD τ sig (Elt F) Λ₀ .tc) α} :
    lbP c s f ⊢ iprop((lbP c s ((lbM.access rg : View sig .tc _ _ _).write (Elt F) f w Finset.univ) -∗ wp frame (wpE (defs₀ (F := F)) 𝒱₀ (c : Thread nD τ) none) Set.univ (kk ⟨⟩) Q)
      -∗ wp frame (wpE (defs₀ (F := F)) 𝒱₀ (c : Thread nD τ) none) Set.univ (.op (.store lbM rg w Finset.univ hx hm) kk) Q) := by
  unfold lbP
  generalize lSet s = S at hS ⊢
  exact wp_store 𝒱₀ (c : Thread nD τ) none Set.univ (m := lbM) (r := rg) (Mk := Finset.univ) hS

theorem ws_sub (s : Fin 2) {o : Fin 3 → ℕ} (ho : o = ![s.val, 0, 0]) (h : inbWs o) :
    wsM.view.setOn (Rect.unit (s := S2x2048x1024) o S1x2048x1024.size h).toLoadRect.set ⊆ wSet s := by
  rw [ws_rect s ho h]; exact (Finset.map_refl).subset
theorem lb_sub (s : Fin 2) {o : Fin 3 → ℕ} (ho : o = ![s.val, 0, 0]) (h : inbLb o) :
    lbM.view.setOn (Rect.unit (s := S2x1024x1024) o S1x1024x1024.size h).toLoadRect.set ⊆ lSet s := by
  rw [lb_rect s ho h]; exact (Finset.map_refl).subset
theorem lb_sub' (s : Fin 2) {o : Fin 3 → ℕ} (ho : o = ![s.val, 0, 0]) (h : inbLb o) :
    (lbM.access (Rect.unit (s := S2x1024x1024) o S1x1024x1024.size h)).setOn Finset.univ ⊆ lSet s := by
  show ((View.whole cc0_scratch2).slice _).set ⊆ _
  rw [View.set_slice_whole, lb_rect s ho h]
theorem lb_new (c : Dev nD) (t : ℕ) (s : Fin 2) {o : Fin 3 → ℕ} (ho : o = ![s.val, 0, 0]) (h : inbLb o) (f : S2x1024x1024.Idx → F .bf16) :
    lbP c s ((lbM.access (Rect.unit (s := S2x1024x1024) o S1x1024x1024.size h) : View sig .tc _ _ _).write (Elt F) f (prod m c t) Finset.univ)
      = (lbP c s (lFill m c t) : sProp 𝕄) := by
  unfold lbP
  exact pointsTo_congr fun i hi => lb_store m c t s ho h f i hi

/-! ## The trip -/

/-- The place block `k` uses. -/
def pl (k : ℕ) : Fin 2 := ⟨k % 2, Nat.mod_lt _ (by decide)⟩
theorem pl_next (k : ℕ) : pl (k + 2) = pl k := Fin.ext (by show (k + 2) % 2 = k % 2; omega)

def wTodo (k : ℕ) : Finset S2048x16384.Idx := Finset.univ.filter fun i => k ≤ (i 1).val / 1024
def mTodo (k : ℕ) : Finset S1024x16384.Idx := Finset.univ.filter fun i => k ≤ (i 1).val / 1024
def mDone (k : ℕ) : Finset S1024x16384.Idx := Finset.univ.filter fun i => (i 1).val / 1024 + 2 < k

theorem wCol_sub (k : ℕ) : wCol k ⊆ wTodo k := fun i hi => by
  obtain ⟨-, h⟩ := Finset.mem_filter.mp hi
  exact Finset.mem_filter.mpr ⟨Finset.mem_univ _, by omega⟩
theorem wTodo_next (k : ℕ) : wTodo k \ wCol k = wTodo (k + 1) := by
  ext i
  simp only [wTodo, wCol, Finset.mem_sdiff, Finset.mem_filter, Finset.mem_univ, true_and]
  omega
theorem mCol_sub (k : ℕ) : mCol k ⊆ mTodo k := fun i hi => by
  obtain ⟨-, h⟩ := Finset.mem_filter.mp hi
  exact Finset.mem_filter.mpr ⟨Finset.mem_univ _, by omega⟩
theorem mTodo_next (k : ℕ) : mTodo k \ mCol k = mTodo (k + 1) := by
  ext i
  simp only [mTodo, mCol, Finset.mem_sdiff, Finset.mem_filter, Finset.mem_univ, true_and]
  omega
theorem mDone_disj (k : ℕ) : Disjoint (mDone k) (mCol (k - 2)) := Finset.disjoint_left.mpr fun i hi hj => by
  obtain ⟨-, h0⟩ := Finset.mem_filter.mp hi
  obtain ⟨-, h1⟩ := Finset.mem_filter.mp hj
  omega
theorem mDone_next (k : ℕ) (hk : 2 ≤ k) : mDone k ∪ mCol (k - 2) = mDone (k + 1) := by
  ext i
  simp only [mDone, mCol, Finset.mem_union, Finset.mem_filter, Finset.mem_univ, true_and]
  omega
theorem mDone_low (k : ℕ) (hk : k < 2) : mDone k = mDone (k + 1) := by
  ext i
  simp only [mDone, Finset.mem_filter, Finset.mem_univ, true_and]
  omega

/-- The copy of block `k` of `W` on its way, or nothing left to copy. -/
def wPend (c : Dev nD) (k : ℕ) : sProp 𝕄 :=
  if k < 16 then fl c (wq (pl k)) NW (wsP c (pl k) (wFill m c k))
  else iprop((∃ f, wsP c (pl k) f) ∗ semVal ((c : Thread nD τ), .dma (wq (pl k))) 0)
/-- The product block of `n` trips before trip `k` on its way out of place `s`, or the place free. -/
def lPend (c : Dev nD) (s : Fin 2) (n k : ℕ) : sProp 𝕄 :=
  if n ≤ k then fl c (lq s) NL iprop(mP c (mCol (k - n)) (logits m c) ∗ ∃ f, lbP c s f)
  else iprop((∃ f, lbP c s f) ∗ semVal ((c : Thread nD τ), .dma (lq s)) 0)
theorem lPend_next (c : Dev nD) (s : Fin 2) (k : ℕ) : lPend m c s 1 k = lPend m c s 2 (k + 1) := by
  unfold lPend
  by_cases h : 1 ≤ k
  · rw [if_pos h, if_pos (by omega), show k + 1 - 2 = k - 1 by omega]
  · rw [if_neg h, if_neg (by omega)]

/-- Before trip `k`. -/
def gemmInv (c : Dev nD) (q : PosShare TreeShare) (l : List (Fin 8)) (k : ℕ) : sProp 𝕄 :=
  iprop(levAts Lx lv ∗ ow c (oweR c l) ∗ xbP c (k0_pay42 (xin m c))
    ∗ wPend m c k ∗ (∃ f, wsP c (pl (k + 1)) f) ∗ semVal ((c : Thread nD τ), .dma (wq (pl (k + 1)))) 0 ∗ wP m c q (wTodo (k + 1))
    ∗ lPend m c (pl k) 2 k ∗ lPend m c (pl (k + 1)) 1 k
    ∗ mP c (mDone k) (logits m c) ∗ ∃ f, mP c (mTodo k) f)

theorem cond1_iff : ∀ k : Fin k0_t1_loop.trips, k0_cond1 k = 1#1 ↔ k.val + 1 < 16 := by decide +kernel
theorem cond2_iff : ∀ k : Fin k0_t1_loop.trips, k0_cond2 k = 1#1 ↔ 2 ≤ k.val := by decide +kernel
theorem off1_at : ∀ k : Fin k0_t1_loop.trips, k0_off1 k = ![(pl (k.val + 1)).val] := by decide +kernel
theorem off2_at : ∀ k : Fin k0_t1_loop.trips, k0_off2 k = ![(pl (k.val + 1)).val, 0, 0] := by decide +kernel
theorem off3_at : ∀ k : Fin k0_t1_loop.trips, k0_off3 k = ![0, 1024 * (k.val + 1)] := by decide +kernel
theorem off4_at : ∀ k : Fin k0_t1_loop.trips, k0_off4 k = ![(pl k.val).val] := by decide +kernel
theorem off7_at : ∀ k : Fin k0_t1_loop.trips, k0_off7 k = ![(pl k.val).val, 0, 0] := by decide +kernel
theorem off8_at : ∀ k : Fin k0_t1_loop.trips, k0_off8 k = ![(pl k.val).val] := by decide +kernel
theorem off11_at : ∀ k : Fin k0_t1_loop.trips, k0_off11 k = ![(pl k.val).val, 0, 0] := by decide +kernel
theorem off12_at : ∀ k : Fin k0_t1_loop.trips, k0_off12 k = ![0, 1024 * k.val] := by decide +kernel
theorem off13_at : ∀ k : Fin k0_t1_loop.trips, k0_off13 k = ![(pl k.val).val, 0, 0] := by decide +kernel

end Cert.KernelIdeal.Mesh

end
-- ==== Proof.RunKernelIdeal.GemmLoop.lean ====
/-
# The loop of the product

One trip of the loop over the sixteen column blocks, and the loop.
-/
module

public import proofs.«01_k».proof.Proof.RunKernelIdeal.Gemm

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-- The copy of the next block of `W` starts, when there is one. -/
theorem fetch_next (c : Dev nD) (q : PosShare TreeShare) (k : Fin k0_t1_loop.trips)
    {hw : ∀ h : k0_cond1 k = 1#1, (wAt (k0_off3 k) (k0_off3_inb k h)).view.WordExact}
    {hd : ∀ h : k0_cond1 k = 1#1, (wsAt (k0_off2 k) (k0_off2_inb k h)).view.WordExact}
    {hsem : ∀ h : k0_cond1 k = 1#1, DmaTarget.Typed .hbm (.dma (wSem (k0_off1 k) (k0_off1_inb k h))) (.here (wsAt (k0_off2 k) (k0_off2_inb k h)) : DmaTarget nD τ sig (.tc : Proc τ) .vmem S2048x1024 .f32)}
    {K : Prog (TpuEff nD τ sig (Elt F) Λ₀ .tc) α} :
    iprop(wP m c q (wTodo (k.val + 1)) ∗ (∃ f, wsP c (pl (k.val + 1)) f) ∗ semVal ((c : Thread nD τ), .dma (wq (pl (k.val + 1)))) 0)
      ⊢ iprop((wPend m c (k.val + 1) ∗ wP m c q (wTodo (k.val + 2)) -∗ wp frame (wpE (defs₀ (F := F)) 𝒱₀ (c : Thread nD τ) none) Set.univ K Q)
          -∗ wp frame (wpE (defs₀ (F := F)) 𝒱₀ (c : Thread nD τ) none) Set.univ
            ((if h : k0_cond1 k = 1#1 then
                (.op (.enqueueDma (wAt (k0_off3 k) (k0_off3_inb k h)) (.here (wsAt (k0_off2 k) (k0_off2_inb k h))) (.dma (wSem (k0_off1 k) (k0_off1_inb k h))) (hw h) (hd h) (hsem h)) fun _ => K
                  : Prog (TpuEff nD τ sig (Elt F) Λ₀ .tc) α)
              else K)) Q) := by
  iintro ⟨Hw, Hs, Hv⟩ Hc
  icases (wP_cut m c q (wCol_sub (k.val + 1))) $$ Hw with ⟨Hw1, Hw⟩
  rw [wTodo_next]
  by_cases hk : k.val + 1 < 16
  · rw [dif_pos ((cond1_iff k).mpr hk)]
    iapply (fetch_w m c q (k.val + 1) hk (pl (k.val + 1)) (off2_at k) _ (off3_at k) _ (wSem_eq _ (off1_at k) _)) $$ [Hw1 Hs Hv]
    · isplitl [Hw1]; · iexact Hw1
      isplitl [Hs]; · iexact Hs
      iexact Hv
    iintro Hf
    iapply Hc
    isplitl [Hf]
    · unfold wPend; rw [if_pos hk]; iexact Hf
    iexact Hw
  · rw [dif_neg (fun h => hk ((cond1_iff k).mp h))]
    iapply Hc
    isplitl [Hs Hv]
    · unfold wPend; rw [if_neg hk]
      isplitl [Hs]; · iexact Hs
      iexact Hv
    iexact Hw

/-- The wait for the product block copied out two trips before, when there is one. -/
theorem drain_prev (c : Dev nD) (l : List (Fin 8)) (k : Fin k0_t1_loop.trips)
    {hi : ∀ h : k0_cond2 k = 1#1, (lbAt (k0_off10 k) (k0_off10_inb k h)).view.WordExact}
    {hm : ∀ h : k0_cond2 k = 1#1, (mAt (k0_off9 k) (k0_off9_inb k h)).view.WordExact}
    {K : Prog (TpuEff nD τ sig (Elt F) Λ₀ .tc) α} :
    iprop(levAts Lx lv ∗ ow c (oweR c l) ∗ lPend m c (pl k.val) 2 k.val ∗ mP c (mDone k.val) (logits m c))
      ⊢ iprop((ow c (oweR c l) ∗ (∃ f, lbP c (pl k.val) f) ∗ semVal ((c : Thread nD τ), .dma (lq (pl k.val))) 0 ∗ mP c (mDone (k.val + 1)) (logits m c)
              -∗ wp frame (wpE (defs₀ (F := F)) 𝒱₀ (c : Thread nD τ) none) Set.univ K Q)
          -∗ wp frame (wpE (defs₀ (F := F)) 𝒱₀ (c : Thread nD τ) none) Set.univ
            ((if h : k0_cond2 k = 1#1 then
                (.op (.waitDma2 (lSem (k0_off8 k) (k0_off8_inb k h)) (lbAt (k0_off10 k) (k0_off10_inb k h)) (mAt (k0_off9 k) (k0_off9_inb k h)) (hi h) (hm h)) fun _ => K
                  : Prog (TpuEff nD τ sig (Elt F) Λ₀ .tc) α)
              else K)) Q) := by
  by_cases hk : 2 ≤ k.val
  · rw [dif_pos ((cond2_iff k).mpr hk)]
    iintro ⟨#Hlev, HO, Hl, Hm⟩ Hc
    ihave Hl := (show lPend m c (pl k.val) 2 k.val ⊢ _ from Entails.of_eq (if_pos hk)) $$ Hl
    iapply (local_wait c l (s := lq (pl k.val)) (lSem_eq _ (off8_at k) _) (kind_lq _) (n := NL) (credit_m _ _)) $$ [Hl HO]
    · isplitr; · iexact Hlev
      isplitl [Hl]; · iexact Hl
      iexact HO
    iintro ⟨⟨Hn, Hs⟩, Hv, HO⟩
    iapply Hc
    isplitl [HO]; · iexact HO
    isplitl [Hs]; · iexact Hs
    isplitl [Hv]; · iexact Hv
    rw [← mDone_next k.val hk]
    iapply (mP_glue c (mDone_disj k.val) _)
    isplitl [Hm]; · iexact Hm
    iexact Hn
  · rw [dif_neg (fun h => hk ((cond2_iff k).mp h))]
    iintro ⟨#Hlev, HO, Hl, Hm⟩ Hc
    ihave Hl := (show lPend m c (pl k.val) 2 k.val ⊢ _ from Entails.of_eq (if_neg hk)) $$ Hl
    icases Hl with ⟨Hs, Hv⟩
    iapply Hc
    isplitl [HO]; · iexact HO
    isplitl [Hs]; · iexact Hs
    isplitl [Hv]; · iexact Hv
    rw [← mDone_low k.val (by omega)]
    iexact Hm

theorem lPend_one (c : Dev nD) (s : Fin 2) (k : ℕ) : lPend m c s 1 (k + 1) = fl c (lq s) NL iprop(mP c (mCol k) (logits m c) ∗ ∃ f, lbP c s f) :=
  if_pos (Nat.le_add_left 1 k)
theorem lPend_two (c : Dev nD) (s : Fin 2) (k : ℕ) : lPend m c s 2 (k + 2) = fl c (lq s) NL iprop(mP c (mCol k) (logits m c) ∗ ∃ f, lbP c s f) :=
  if_pos (Nat.le_add_left 2 k)
theorem lPend_free (c : Dev nD) (s : Fin 2) (n k : ℕ) (h : k < n) : lPend m c s n k = iprop((∃ f, lbP c s f) ∗ semVal ((c : Thread nD τ), .dma (lq s)) 0) :=
  if_neg (Nat.not_le.mpr h)

theorem gemm_step (c : Dev nD) (q : PosShare TreeShare) (l : List (Fin 8)) (k : Fin k0_t1_loop.trips) (d0 : Dev nD) (v11 : BitVec 32) (v48 : Sems sig S_) (v64 v65 : BitVec 32) :
    gemmInv m c q l k.val ⊢ wp frame (wpE (defs₀ (F := F)) 𝒱₀ (c : Thread nD τ) none) Set.univ
      (k0_t1_body (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 d0 v11 v48 v64 v65 k ⟨⟩)
      (fun _ => gemmInv m c q l (k.val + 1)) := by
  have hk : k.val < 16 := lt_of_lt_of_le k.isLt k0_t1_abs.2.1
  unfold k0_t1_body gemmInv
  simp only [k0_part1_eq_skeleton, k0_part2_eq_skeleton]
  unfold k0_part1_skel k0_part2_skel
  simp only [Prog.lift, Prog.bind_op, Prog.bind_ret, Prog.pure_eq_ret, Prog.bind_assoc]
  iintro ⟨#Hlev, HO, Hx, Hw, Hs, Hv, Hrest, Hl2, Hl1, Hdone, ⟨%f, Htodo⟩⟩
  rw [wp_bind]
  iapply (fetch_next m c q k) $$ [Hrest Hs Hv]
  · isplitl [Hrest]; · iexact Hrest
    isplitl [Hs]; · iexact Hs
    iexact Hv
  iintro ⟨Hnext, Hrest⟩
  ihave Hw := (show wPend m c k.val ⊢ _ from Entails.of_eq (if_pos hk)) $$ Hw
  iapply (local_wait c l (s := wq (pl k.val)) (wSem_eq _ (off4_at k) _) (kind_wq _) (n := NW) (credit_ws _ _)) $$ [Hw HO]
  · isplitr; · iexact Hlev
    isplitl [Hw]; · iexact Hw
    iexact HO
  iintro ⟨Hw, Hwv, HO⟩
  iapply (ld_xb c _) $$ Hx; iintro Hx
  rw [wp_ret]; imodintro
  iapply (ld_ws' c (pl k.val) _ _ (ws_sub _ (off7_at k) _)) $$ Hw; iintro Hw
  rw [ws_load m c k.val (pl k.val) (off7_at k) _]
  rw [wp_bind]
  iapply (drain_prev m c l k) $$ [HO Hl2 Hdone]
  · isplitr; · iexact Hlev
    isplitl [HO]; · iexact HO
    isplitl [Hl2]; · iexact Hl2
    iexact Hdone
  iintro ⟨HO, ⟨%g, Hl2⟩, Hlv, Hdone⟩
  iapply (ld_lb' c (pl k.val) g _ (lb_sub _ (off11_at k) _)) $$ Hl2; iintro Hl2
  iapply (st_lb' c (pl k.val) g _ (lb_sub' _ (off11_at k) _)) $$ Hl2; iintro Hl2
  rw [wp_ret]; imodintro
  ihave Hl2 := (show lbP c (pl k.val) ((lbM.access (Rect.unit (s := S2x1024x1024) (k0_off11 k) S1x1024x1024.size (k0_off11_inb k)) : View sig .tc _ _ _).write (Elt F) g
      (k0_pay1 (k0_pay42 (xin m c)) (wblk m c k.val)) Finset.univ) ⊢ _ from Entails.of_eq (lb_new m c k.val (pl k.val) (off11_at k) (k0_off11_inb k) g)) $$ Hl2
  icases (mP_cut c (mCol_sub k.val) f) $$ Htodo with ⟨Hblk, Htodo⟩
  rw [mTodo_next]
  iapply (flush_m m c k.val hk (pl k.val) (off13_at k) _ (off12_at k) _ (lSem_eq _ (off4_at k) _) f) $$ [Hl2 Hblk Hlv]
  · isplitl [Hl2]; · iexact Hl2
    isplitl [Hblk]; · iexact Hblk
    iexact Hlv
  iintro Hfl
  rw [wp_ret]; imodintro
  isplitr; · iexact Hlev
  isplitl [HO]; · iexact HO
  isplitl [Hx]; · iexact Hx
  isplitl [Hnext]; · iexact Hnext
  rw [show k.val + 1 + 1 = k.val + 2 from rfl, pl_next]
  isplitl [Hw]; · iexists _; iexact Hw
  isplitl [Hwv]; · iexact Hwv
  isplitl [Hrest]; · iexact Hrest
  isplitl [Hl1]; · iapply (Entails.of_eq (lPend_next m c (pl (k.val + 1)) k.val)) $$ Hl1
  isplitl [Hfl]
  · iapply (Entails.of_eq (lPend_one m c (pl k.val) k.val).symm) $$ Hfl
  isplitl [Hdone]; · iexact Hdone
  iexists f; iexact Htodo

/-! ## The loop -/

/-- On-chip memory and semaphores of the copies of `W`, at rest. -/
def wRest (c : Dev nD) : sProp 𝕄 :=
  iprop((∃ f, wsP c 0 f) ∗ (∃ f, wsP c 1 f) ∗ semVal ((c : Thread nD τ), .dma (wq 0)) 0 ∗ semVal ((c : Thread nD τ), .dma (wq 1)) 0)

def gemmEntry (c : Dev nD) (q : PosShare TreeShare) (l : List (Fin 8)) : sProp 𝕄 :=
  iprop(levAts Lx lv ∗ ow c (oweR c l) ∗ xbP c (k0_pay42 (xin m c))
    ∗ fl c (wq 0) NW (wsP c 0 (wFill m c 0)) ∗ (∃ f, wsP c 1 f) ∗ semVal ((c : Thread nD τ), .dma (wq 1)) 0 ∗ wP m c q (wTodo 1)
    ∗ ((∃ f, lbP c 0 f) ∗ semVal ((c : Thread nD τ), .dma (lq 0)) 0) ∗ ((∃ f, lbP c 1 f) ∗ semVal ((c : Thread nD τ), .dma (lq 1)) 0)
    ∗ ∃ f, mP c (mTodo 0) f)

def gemmExit (c : Dev nD) (l : List (Fin 8)) : sProp 𝕄 :=
  iprop(ow c (oweR c l) ∗ xbP c (k0_pay42 (xin m c)) ∗ wRest c
    ∗ fl c (lq 0) NL iprop(mP c (mCol 14) (logits m c) ∗ ∃ f, lbP c 0 f) ∗ fl c (lq 1) NL iprop(mP c (mCol 15) (logits m c) ∗ ∃ f, lbP c 1 f)
    ∗ mP c (mDone 16) (logits m c))

theorem mDone_zero : mDone 0 = ∅ := by
  ext i
  simp only [mDone, Finset.mem_filter, Finset.mem_univ, true_and, Finset.notMem_empty, iff_false]
  omega

theorem gemm_enter (c : Dev nD) (q : PosShare TreeShare) (l : List (Fin 8)) : gemmEntry m c q l ⊢ gemmInv m c q l 0 := by
  unfold gemmEntry gemmInv
  rw [lPend_free m c (pl 0) 2 0 (by decide), lPend_free m c (pl (0 + 1)) 1 0 (by decide), mDone_zero,
    show wPend m c 0 = fl c (wq (pl 0)) NW (wsP c (pl 0) (wFill m c 0)) from if_pos (by decide)]
  iintro ⟨#Hlev, HO, Hx, Hw, Hs, Hv, Hrest, Hl2, Hl1, Htodo⟩
  isplitr; · iexact Hlev
  isplitl [HO]; · iexact HO
  isplitl [Hx]; · iexact Hx
  isplitl [Hw]; · iexact Hw
  isplitl [Hs]; · iexact Hs
  isplitl [Hv]; · iexact Hv
  isplitl [Hrest]; · iexact Hrest
  isplitl [Hl2]; · iexact Hl2
  isplitl [Hl1]; · iexact Hl1
  isplitr; · iapply (mP_none c _); iempintro
  iexact Htodo

theorem gemm_leave (c : Dev nD) (q : PosShare TreeShare) (l : List (Fin 8)) : gemmInv m c q l 16 ⊢ gemmExit m c l := by
  unfold gemmExit gemmInv wRest
  rw [lPend_two m c (pl 16) 14, lPend_one m c (pl (16 + 1)) 15,
    show wPend m c 16 = iprop((∃ f, wsP c (pl 16) f) ∗ semVal ((c : Thread nD τ), .dma (wq (pl 16))) 0) from if_neg (by decide)]
  iintro ⟨-, HO, Hx, ⟨Hw, Hwv⟩, Hs, Hv, -, Hl2, Hl1, Hdone, -⟩
  isplitl [HO]; · iexact HO
  isplitl [Hx]; · iexact Hx
  isplitl [Hw Hwv Hs Hv]
  · isplitl [Hw]; · iexact Hw
    isplitl [Hs]; · iexact Hs
    isplitl [Hwv]; · iexact Hwv
    iexact Hv
  isplitl [Hl2]; · iexact Hl2
  isplitl [Hl1]; · iexact Hl1
  iexact Hdone

theorem t1_trips : k0_t1_loop.trips = 16 := by decide +kernel

theorem gemm_loop (c : Dev nD) (q : PosShare TreeShare) (l : List (Fin 8)) (d0 : Dev nD) (v11 : BitVec 32) (v48 : Sems sig S_) (v64 v65 : BitVec 32)
    {kk : Unit → Prog (TpuEff nD τ sig (Elt F) Λ₀ .tc) α} :
    gemmEntry m c q l
      ⊢ iprop((gemmExit m c l -∗ wp frame (wpE (defs₀ (F := F)) 𝒱₀ (c : Thread nD τ) none) Set.univ (kk ⟨⟩) Q)
          -∗ wp frame (wpE (defs₀ (F := F)) 𝒱₀ (c : Thread nD τ) none) Set.univ
            (Scf.Loop.for k0_t1_loop k0_t1_ok ⟨⟩ (k0_t1_body (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 d0 v11 v48 v64 v65) >>= kk) Q) := by
  iintro H Hc
  iapply (Scf.wp_for_bind Idealize.ShloMosaic.frame (wpE (defs₀ (F := F)) 𝒱₀ (c : Thread nD τ) none) Set.univ _ _ _ k0_t1_ok ⟨⟩ _
    (fun k _ => gemmInv m c q l k) (fun k u => gemm_step m c q l k d0 v11 v48 v64 v65)) $$ [H]
  · iapply (gemm_enter m c q l) $$ H
  iintro %u H
  rw [show Scf.trips k0_t1_loop.lb k0_t1_loop.ub k0_t1_loop.st = 16 from t1_trips]
  iapply Hc
  iapply (gemm_leave m c q l) $$ H

end Cert.KernelIdeal.Mesh

end
-- ==== Proof.RunKernelIdeal.Desk.lean ====
/-
# The steps, with what each needs tied together

A transfer still to be made, under way, or to arrive; the on-chip memory one slice is computed in. Each step takes and
leaves these.
-/
module

public import proofs.«01_k».proof.Proof.RunKernelIdeal.Loop
public import proofs.«01_k».proof.Proof.RunKernelIdeal.GemmLoop

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-- The weakest precondition of a program of device `c`. -/
abbrev wpc {β : Type} (c : Dev nD) (p : Prog (TpuEff nD τ sig (Elt F) Λ₀ .tc) β) (Q : β → sProp (MT nD τ sig Unit (Elt F) ℕ UU ℕ)) : sProp 𝕄 :=
  wp frame (wpE (defs₀ (F := F)) 𝒱₀ (c : Thread nD τ) none) Set.univ p Q

/-! ## Transfers -/

/-- Slice `r` of the own product, of the other ring's product. -/
def mS (c : Dev nD) (r : Fin 8) (q : PosShare TreeShare) : sProp 𝕄 := ((c : Thread nD τ).loc main_v1_1) ↦[rowSet r]{q} logits m c
def tS (c : Dev nD) (r : Fin 8) (q : PosShare TreeShare) : sProp 𝕄 := ((c : Thread nD τ).loc main_v1_2) ↦[rowSet r]{q} other m c

theorem mS_half (c : Dev nD) (r : Fin 8) (q : PosShare TreeShare) : mS m c r q ⊢ iprop(mS m c r q.left ∗ mS m c r q.right) := by
  unfold mS; exact (pointsTo_share (PosShare.mem_left_op_right q)).1
theorem tS_half (c : Dev nD) (r : Fin 8) (q : PosShare TreeShare) : tS m c r q ⊢ iprop(tS m c r q.left ∗ tS m c r q.right) := by
  unfold tS; exact (pointsTo_share (PosShare.mem_left_op_right q)).1

/-- Transfer `k` to be made, under way, done; landing `k` to come, come. -/
def tx (c : Dev nD) (k : Fin 8) : sProp 𝕄 :=
  iprop(slot c k ∗ dutyTok ER (sendCell c k) 0 0 ∗ dutyTok ER (recvCell (tgt c k) k) 0 0 ∗ atPos ER (sendCell c k) 0 ∅ 0)
def sx (c : Dev nD) (k : Fin 8) : sProp 𝕄 := iprop(cred (tallyAt (sendCell c k) () N) ∗ atPos ER (sendCell c k) 0 ∅ 0)
def sz (c : Dev nD) (k : Fin 8) : sProp 𝕄 := semVal (sendCell c k) 0
def rx (c : Dev nD) (k : Fin 8) : sProp 𝕄 := iprop(cred (tallyAt (recvCell c k) () N) ∗ atPos ER (recvCell c k) 0 ∅ 0)
def rz (c : Dev nD) (k : Fin 8) : sProp 𝕄 := semVal (recvCell c k) 0

/-- What every device knows. -/
def Cx : sProp 𝕄 := iprop(known m ∗ levAts Lx lv)
instance : BI.Persistent (Cx m) := by unfold Cx; infer_instance

theorem do_own (c n : Dev nD) (k : Fin 8) (hk : k.val < 3) (l : List (Fin 8)) (hn : n = tgt c k) {src dst : Memref sig .tc .hbm S128x16384 .bf16}
    (hs : src = minR (row c k)) (hd : dst = thrR (row c k)) {sS sV : DmaSem sig} (hS : sS = sendSem k) (hV : sV = recvSem k)
    {hsc : (dst : Memref sig (Dev.tc n : Thread nD τ).2.kind .hbm S128x16384 .bf16).view.ref.isScScratch = false}
    {hsrc : src.view.WordExact} {hdst : dst.view.WordExact}
    {hsem : DmaTarget.Typed .hbm (.dma sV) (.remote (Dev.tc n : Thread nD τ) dst (.dma sS) hsc)}
    {kk : PUnit → Prog (TpuEff nD τ sig (Elt F) Λ₀ .tc) α} {q : PosShare TreeShare} :
    iprop(Cx m ∗ mS m c (row c k) q ∗ tx c k ∗ ow c (oweR c (k :: l)))
      ⊢ iprop((sx c k ∗ ow c (oweR c l) -∗ wpc c (kk ⟨⟩) Q)
          -∗ wpc c (.op (.enqueueDma src (.remote (Dev.tc n : Thread nD τ) dst (.dma sS) hsc) (.dma sV) hsrc hdst hsem) kk) Q) := by
  unfold Cx mS tx sx
  iintro ⟨⟨#Hk, -⟩, Hm, ⟨Hsl, Hd1, Hd2, Hat⟩, HO⟩ Hc
  iapply (send_own m c n k hk l hn hs hd hS hV (q := q)) $$ [Hm Hsl Hd1 Hd2 HO]
  · isplitr; · iexact Hk
    iframe Hm Hsl HO Hd1 Hd2
  iintro ⟨Hcr, HO⟩
  iapply Hc
  iframe Hcr Hat HO

theorem do_ring (c n : Dev nD) (k : Fin 8) (hk : ¬ k.val < 3) (l : List (Fin 8)) (hn : n = tgt c k) {src dst : Memref sig .tc .hbm S128x16384 .bf16}
    (hs : src = thrR (row c k)) (hd : dst = thrR (row c k)) {sS sV : DmaSem sig} (hS : sS = sendSem k) (hV : sV = recvSem k)
    {hsc : (dst : Memref sig (Dev.tc n : Thread nD τ).2.kind .hbm S128x16384 .bf16).view.ref.isScScratch = false}
    {hsrc : src.view.WordExact} {hdst : dst.view.WordExact}
    {hsem : DmaTarget.Typed .hbm (.dma sV) (.remote (Dev.tc n : Thread nD τ) dst (.dma sS) hsc)}
    {kk : PUnit → Prog (TpuEff nD τ sig (Elt F) Λ₀ .tc) α} {q : PosShare TreeShare} :
    iprop(Cx m ∗ tS m c (row c k) q ∗ tx c k ∗ ow c (oweR c (k :: l)))
      ⊢ iprop((sx c k ∗ ow c (oweR c l) -∗ wpc c (kk ⟨⟩) Q)
          -∗ wpc c (.op (.enqueueDma src (.remote (Dev.tc n : Thread nD τ) dst (.dma sS) hsc) (.dma sV) hsrc hdst hsem) kk) Q) := by
  unfold Cx tS tx sx
  iintro ⟨⟨#Hk, -⟩, Hm, ⟨Hsl, Hd1, Hd2, Hat⟩, HO⟩ Hc
  iapply (send_ring m c n k hk l hn hs hd hS hV (q := q)) $$ [Hm Hsl Hd1 Hd2 HO]
  · isplitr; · iexact Hk
    iframe Hm Hsl HO Hd1 Hd2
  iintro ⟨Hcr, HO⟩
  iapply Hc
  iframe Hcr Hat HO

theorem do_recv (c : Dev nD) (k : Fin 8) (l : List (Fin 8)) (hl : ∀ k' ∈ l, lvK k < lvK k') {sV : DmaSem sig} (hV : sV = recvSem k)
    {sw dw : Memref sig .tc .hbm S128x16384 .bf16} {hsrc : sw.view.WordExact} {hdst : dw.view.WordExact} (hN : dw.view.dmaCredit = N)
    {kk : PUnit → Prog (TpuEff nD τ sig (Elt F) Λ₀ .tc) α} :
    iprop(Cx m ∗ rx c k ∗ ow c (oweR c l))
      ⊢ iprop((rz c k ∗ tS m c (slice c (recvOff k)) fullShare ∗ ow c (oweR c l) -∗ wpc c (kk ⟨⟩) Q)
          -∗ wpc c (.op (.waitDma2 sV sw dw hsrc hdst) kk) Q) := by
  unfold Cx rx rz tS
  iintro ⟨⟨#Hk, #Hl⟩, ⟨Hcr, Hat⟩, HO⟩ Hc
  iapply (recv_step m c k l hl hV hN) $$ [Hcr Hat HO]
  · isplitr; · iexact Hk
    isplitr; · iexact Hl
    iframe Hcr HO Hat
  iexact Hc

theorem do_sent (c : Dev nD) (k : Fin 8) (l : List (Fin 8)) {sS : DmaSem sig} (hS : sS = sendSem k)
    {sw dw : Memref sig .tc .hbm S128x16384 .bf16} {hsrc : sw.view.WordExact} {hdst : dw.view.WordExact} (hN : dw.view.dmaCredit = N)
    {kk : PUnit → Prog (TpuEff nD τ sig (Elt F) Λ₀ .tc) α} :
    iprop(Cx m ∗ sx c k ∗ ow c (oweR c l))
      ⊢ iprop((sz c k ∗ ow c (oweR c l) -∗ wpc c (kk ⟨⟩) Q) -∗ wpc c (.op (.waitDma2 sS sw dw hsrc hdst) kk) Q) := by
  unfold Cx sx sz
  iintro ⟨⟨#Hk, #Hl⟩, ⟨Hcr, Hat⟩, HO⟩ Hc
  iapply (sent_step m c k l hS hN) $$ [Hcr Hat HO]
  · isplitr; · iexact Hk
    isplitr; · iexact Hl
    iframe Hcr HO Hat
  iexact Hc

/-! ## One slice -/

abbrev sv (c : Dev nD) (j : Fin 25) : sProp 𝕄 := semVal ((c : Thread nD τ), .dma (dq j)) 0

/-- The on-chip memory of a slice: idle; with both copies under way; with the second one under way; filled. -/
def desk (c : Dev nD) : sProp 𝕄 :=
  iprop((∃ f, mcAt c f) ∗ (∃ f, tcAt c f) ∗ (∃ f, q1At c f) ∗ (∃ f, q2At c f) ∗ sv c 5 ∗ sv c 6 ∗ sv c 7 ∗ sv c 8)
def deskTwo (c : Dev nD) (r : Fin 8) : sProp 𝕄 :=
  iprop(fl c (dq 5) NC (mcAt c (ownS m c r)) ∗ fl c (dq 6) NC (tcAt c (othS m c r)) ∗ (∃ f, q1At c f) ∗ (∃ f, q2At c f) ∗ sv c 7 ∗ sv c 8)
def deskOne (c : Dev nD) (r : Fin 8) : sProp 𝕄 :=
  iprop(mcAt c (ownS m c r) ∗ fl c (dq 6) NC (tcAt c (othS m c r)) ∗ (∃ f, q1At c f) ∗ (∃ f, q2At c f) ∗ sv c 5 ∗ sv c 7 ∗ sv c 8)
def deskFull (c : Dev nD) (r : Fin 8) : sProp 𝕄 := iprop(bench m c r ∗ sv c 5 ∗ sv c 6)

theorem desk_idle (c : Dev nD) (r : Fin 8) : deskFull m c r ⊢ desk c := by
  unfold deskFull bench desk
  iintro ⟨⟨H1, H2, H3, H4, H7, H8⟩, H5, H6⟩
  isplitl [H1]; · iexists _; iexact H1
  isplitl [H2]; · iexists _; iexact H2
  iframe H3 H4 H5 H6 H7 H8

theorem do_copy (c : Dev nD) (r : Fin 8) {q q' : PosShare TreeShare} {src src' : Memref sig .tc .hbm S128x16384 .bf16} (hs : src = minR r) (hs' : src' = thrR r)
    {s s' : DmaSem sig} (hS : s = dq 5) (hS' : s' = dq 6) {hsrc : src.view.WordExact} {hdst : mcM.view.WordExact}
    {hsem : DmaTarget.Typed .hbm (.dma s) (.here mcM : DmaTarget nD τ sig (.tc : Proc τ) .vmem S128x16384 .bf16)}
    {hsrc' : src'.view.WordExact} {hdst' : tcM.view.WordExact}
    {hsem' : DmaTarget.Typed .hbm (.dma s') (.here tcM : DmaTarget nD τ sig (.tc : Proc τ) .vmem S128x16384 .bf16)}
    {kk : PUnit → Prog (TpuEff nD τ sig (Elt F) Λ₀ .tc) α} :
    iprop(mS m c r q ∗ tS m c r q' ∗ desk c)
      ⊢ iprop((deskTwo m c r -∗ wpc c (kk ⟨⟩) Q)
          -∗ wpc c (.op (.enqueueDma src (.here mcM) (.dma s) hsrc hdst hsem) fun _ => .op (.enqueueDma src' (.here tcM) (.dma s') hsrc' hdst' hsem') kk) Q) := by
  unfold mS tS desk deskTwo
  iintro ⟨Hm, Ht, H1, H2, H3, H4, H5, H6, H7, H8⟩ Hc
  iapply (copy_own m c r hs hS (q := q)) $$ [Hm H1 H5]
  · iframe Hm H1 H5
  iintro Hf
  iapply (copy_oth m c r hs' hS' (q := q')) $$ [Ht H2 H6]
  · iframe Ht H2 H6
  iintro Hf'
  iapply Hc
  iframe Hf Hf' H3 H4 H7 H8

theorem do_land (c : Dev nD) (r : Fin 8) (l : List (Fin 8)) {s : DmaSem sig} (hs : s = dq 5)
    {sw : Memref sig .tc .hbm S128x16384 .bf16} {dw : Memref sig .tc .vmem S128x16384 .bf16} (hd : dw = mcM) {hsrc : sw.view.WordExact} {hdst : dw.view.WordExact}
    {kk : PUnit → Prog (TpuEff nD τ sig (Elt F) Λ₀ .tc) α} :
    iprop(Cx m ∗ deskTwo m c r ∗ ow c (oweR c l))
      ⊢ iprop((deskOne m c r ∗ ow c (oweR c l) -∗ wpc c (kk ⟨⟩) Q) -∗ wpc c (.op (.waitDma2 s sw dw hsrc hdst) kk) Q) := by
  subst hd
  unfold Cx deskTwo deskOne
  iintro ⟨⟨-, #Hl⟩, ⟨H1, H2, H3, H4, H7, H8⟩, HO⟩ Hc
  iapply (local_wait c l hs (by decide) (n := NC) rfl) $$ [H1 HO]
  · isplitr; · iexact Hl
    iframe H1 HO
  iintro ⟨H1, H5, HO⟩
  iapply Hc
  iframe H1 H2 H3 H4 H5 H7 H8 HO

theorem credit_tc : tcM.view.dmaCredit = NC := rfl

theorem do_land' (c : Dev nD) (r : Fin 8) (l : List (Fin 8)) {s : DmaSem sig} (hs : s = dq 6)
    {sw : Memref sig .tc .hbm S128x16384 .bf16} {dw : Memref sig .tc .vmem S128x16384 .bf16} (hd : dw = tcM) {hsrc : sw.view.WordExact} {hdst : dw.view.WordExact}
    {kk : PUnit → Prog (TpuEff nD τ sig (Elt F) Λ₀ .tc) α} :
    iprop(Cx m ∗ deskOne m c r ∗ ow c (oweR c l))
      ⊢ iprop((deskFull m c r ∗ ow c (oweR c l) -∗ wpc c (kk ⟨⟩) Q) -∗ wpc c (.op (.waitDma2 s sw dw hsrc hdst) kk) Q) := by
  subst hd
  unfold Cx deskOne deskFull bench
  iintro ⟨⟨-, #Hl⟩, ⟨H1, H2, H3, H4, H5, H7, H8⟩, HO⟩ Hc
  iapply (local_wait c l hs (by decide) (n := NC) credit_tc) $$ [H2 HO]
  · isplitr; · iexact Hl
    iframe H2 HO
  iintro ⟨H2, H6, HO⟩
  iapply Hc
  isplitr [HO]
  · isplitl [H1 H2 H3 H4 H7 H8]
    · isplitl [H1]; · iexact H1
      isplitl [H2]; · iexact H2
      isplitl [H3]; · iexact H3
      isplitl [H4]; · iexact H4
      isplitl [H7]; · iexact H7
      iexact H8
    isplitl [H5]; · iexact H5
    iexact H6
  iexact HO

/-- Slice `r` of the result: at any contents; final. -/
def outTodo (c : Dev nD) (r : Fin 8) : sProp 𝕄 := iprop(∃ f, outPts c (outSlice r) f)
def outDone (c : Dev nD) (r : Fin 8) : sProp 𝕄 := outPts c (outSlice r) (result m c)

theorem do_slice (c : Dev nD) (r : Fin 8) (l : List (Fin 8)) {lp : Scf.Loop 32} {hok : lp.OK} (htr : lp.trips = 4)
    {body : Fin lp.trips → Unit → Prog (TpuEff nD τ sig (Elt F) Λ₀ .tc) Unit}
    {o : Fin lp.trips → Fin 2 → ℕ} (h : ∀ k, ∀ a, o k a + S32x16384.size a ≤ S128x16384.size a)
    {o1 : Fin lp.trips → Fin 2 → ℕ} (h1 : ∀ k, inbO (o1 k)) {o2 : Fin lp.trips → Fin 2 → ℕ} (h2 : ∀ k, inbO (o2 k))
    (hb : ∀ k u, body k u = trip (o k) (h k) (o1 k) (h1 k) (o2 k) (h2 k))
    (ho : ∀ k, o k = ![32 * k.val, 0]) (ho1 : ∀ k, o1 k = ![128 * r.val + 32 * k.val, 16384 * (side c).val])
    (ho2 : ∀ k, o2 k = ![128 * r.val + 32 * k.val, 16384 * (1 - (side c).val)])
    {kk : Unit → Prog (TpuEff nD τ sig (Elt F) Λ₀ .tc) α} :
    iprop(Cx m ∗ deskFull m c r ∗ outTodo c r ∗ ow c (oweR c l))
      ⊢ iprop((desk c ∗ outDone m c r ∗ ow c (oweR c l) -∗ wpc c (kk ⟨⟩) Q) -∗ wpc c (Scf.Loop.for lp hok ⟨⟩ body >>= kk) Q) := by
  unfold Cx deskFull outTodo outDone
  iintro ⟨⟨-, #Hl⟩, ⟨Hb, H5, H6⟩, Hout, HO⟩ Hc
  iapply (slice_loop m c r l htr h h1 h2 hb ho ho1 ho2 (hok := hok) (kk := kk) (Q := Q)) $$ [HO Hb Hout]
  · isplitr; · iexact Hl
    isplitl [HO]; · iexact HO
    isplitl [Hb]; · iexact Hb
    iexact Hout
  iintro ⟨HO, Hb, Hout⟩
  iapply Hc
  isplitl [Hb H5 H6]
  · iapply (desk_idle m c r)
    unfold deskFull
    isplitl [Hb]; · iexact Hb
    isplitl [H5]; · iexact H5
    iexact H6
  isplitl [Hout]; · iexact Hout
  iexact HO

end Cert.KernelIdeal.Mesh

end
-- ==== Proof.RunKernelIdeal.Parts1.lean ====
/-
# The first transfers

The transfers of the own product to the partner, the first slice that arrives and its way around the ring, and the
first slice of the result.
-/
module

public import proofs.«01_k».proof.Proof.RunKernelIdeal.Desk

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

theorem wpc_ret {β : Type} (c : Dev nD) (r : β) (P : β → sProp (MT nD τ sig Unit (Elt F) ℕ UU ℕ)) : P r ⊢ wpc c (.ret r) P := by
  unfold wpc; rw [wp_ret]; iintro H; imodintro; iexact H

theorem credit_thr' {o : Fin 2 → ℕ} {inb : ∀ a, o a + S128x16384.size a ≤ S1024x16384.size a} {p} :
    (thrM.slice (Rect.unit (s := S1024x16384) o S128x16384.size inb) p).view.dmaCredit = N := rfl
theorem credit_min' {o : Fin 2 → ℕ} {inb : ∀ a, o a + S128x16384.size a ≤ S1024x16384.size a} {p} :
    (minM.slice (Rect.unit (s := S1024x16384) o S128x16384.size inb) p).view.dmaCredit = N := rfl

/-- Transfer 0. -/
theorem part14 (c : Dev nD) (v5 v8 v11 v44 v89 : BitVec 32) {q : PosShare TreeShare} {P} :
    iprop(Cx m ∗ mS m c (slice c 0) q ∗ tx c 0 ∗ ow c (oweR c [0, 1, 2, 3, 6, 4, 7, 5]))
      ⊢ iprop((∀ r, sx c 0 ∗ ow c (oweR c [1, 2, 3, 6, 4, 7, 5]) -∗ P r)
        -∗ wpc c (k0_part14 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v5 v8 v11 v44 v89) P) := by
  rw [k0_part14_eq_skeleton]; unfold k0_part14_skel
  simp only [Prog.lift, Prog.bind_op, Prog.bind_ret, Prog.pure_eq_ret]
  iintro ⟨#Hx, Hm, Ht, HO⟩ Hc
  iapply (do_own m c _ 0 (by decide) [1, 2, 3, 6, 4, 7, 5] (dev4_eq c) (minR_of (off14_eq c) _ _) (thrR_of (off14_eq c) _ _) rfl rfl (q := q)) $$ [Hm Ht HO]
  · isplitr; · iexact Hx
    isplitl [Hm]; · iexact Hm
    isplitl [Ht]; · iexact Ht
    iexact HO
  iintro H
  iapply (wpc_ret c)
  iapply Hc $$ H

/-- Transfers 1 and 2. -/
theorem part15 (c : Dev nD) (v5 v8 v11 v44 v99 v110 w : BitVec 32) {q q' : PosShare TreeShare} {P} :
    iprop(Cx m ∗ mS m c (slice c 3) q ∗ mS m c (slice c 4) q' ∗ tx c 1 ∗ tx c 2 ∗ ow c (oweR c [1, 2, 3, 6, 4, 7, 5]))
      ⊢ iprop((∀ r, sx c 1 ∗ sx c 2 ∗ ow c (oweR c [3, 6, 4, 7, 5]) -∗ P r)
        -∗ wpc c (k0_part15 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v5 v8 v11 v44 v99 v110 w) P) := by
  rw [k0_part15_eq_skeleton]; unfold k0_part15_skel
  simp only [Prog.lift, Prog.bind_op, Prog.bind_ret, Prog.pure_eq_ret]
  iintro ⟨#Hx, Hm, Hm', Ht, Ht', HO⟩ Hc
  iapply (do_own m c _ 1 (by decide) [2, 3, 6, 4, 7, 5] (dev5_eq c) (minR_of (off15_eq3 c) _ _) (thrR_of (off15_eq3 c) _ _) rfl rfl (q := q)) $$ [Hm Ht HO]
  · isplitr; · iexact Hx
    isplitl [Hm]; · iexact Hm
    isplitl [Ht]; · iexact Ht
    iexact HO
  iintro ⟨Hs, HO⟩
  iapply (do_own m c _ 2 (by decide) [3, 6, 4, 7, 5] (dev6_eq c) (minR_of (off15_eq4 c) _ _) (thrR_of (off15_eq4 c) _ _) rfl rfl (q := q')) $$ [Hm' Ht' HO]
  · isplitr; · iexact Hx
    isplitl [Hm']; · iexact Hm'
    isplitl [Ht']; · iexact Ht'
    iexact HO
  iintro ⟨Hs', HO⟩
  iapply (wpc_ret c)
  iapply Hc
  isplitl [Hs]; · iexact Hs
  isplitl [Hs']; · iexact Hs'
  iexact HO

/-- Landing 0, and transfer 3 of what landed. -/
theorem part16 (c : Dev nD) (v2 v5 v8 v11 v24 v27 v40 v43 v156 w : BitVec 32) {P} :
    iprop(Cx m ∗ rx c 0 ∗ tx c 3 ∗ ow c (oweR c [3, 6, 4, 7, 5]))
      ⊢ iprop((∀ r, rz c 0 ∗ sx c 3 ∗ tS m c (slice c 0) fullShare.right ∗ ow c (oweR c [6, 4, 7, 5]) -∗ P r)
        -∗ wpc c (k0_part16 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v5 v8 v11 v24 v27 v40 v43 v156 w) P) := by
  rw [k0_part16_eq_skeleton]; unfold k0_part16_skel
  simp only [Prog.lift, Prog.bind_op, Prog.bind_ret, Prog.pure_eq_ret]
  iintro ⟨#Hx, Hr, Ht, HO⟩ Hc
  iapply (do_recv m c 0 [3, 6, 4, 7, 5] (by decide) rfl credit_thr') $$ [Hr HO]
  · isplitr; · iexact Hx
    isplitl [Hr]; · iexact Hr
    iexact HO
  iintro ⟨Hz, HS, HO⟩
  icases (tS_half m c _ _) $$ HS with ⟨HS, HS'⟩
  iapply (do_ring m c _ 3 (by decide) [6, 4, 7, 5] (dev7_eq c) (thrR_of (off14_eq c) _ _) (thrR_of (off14_eq c) _ _) rfl rfl (q := fullShare.left)) $$ [HS Ht HO]
  · isplitr; · iexact Hx
    isplitl [HS]; · iexact HS
    isplitl [Ht]; · iexact Ht
    iexact HO
  iintro ⟨Hs, HO⟩
  iapply (wpc_ret c)
  iapply Hc
  isplitl [Hz]; · iexact Hz
  isplitl [Hs]; · iexact Hs
  isplitl [HS']; · iexact HS'
  iexact HO

/-- Transfer 6 of what landed, and its slice of the result. -/
theorem part17 (c : Dev nD) (v11 : BitVec 32) {q q' : PosShare TreeShare} {P} :
    iprop(Cx m ∗ mS m c (slice c 0) q ∗ tS m c (slice c 0) q' ∗ tx c 6 ∗ desk c ∗ outTodo c (slice c 0) ∗ ow c (oweR c [6, 4, 7, 5]))
      ⊢ iprop((∀ r, sx c 6 ∗ desk c ∗ outDone m c (slice c 0) ∗ ow c (oweR c [4, 7, 5]) -∗ P r)
        -∗ wpc c (k0_part17 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11) P) := by
  rw [k0_part17_eq_skeleton]; unfold k0_part17_skel
  simp only [Prog.lift, Prog.bind_op, Prog.bind_ret, Prog.pure_eq_ret]
  iintro ⟨#Hx, Hm, HS, Ht, HD, Hout, HO⟩ Hc
  icases (tS_half m c _ _) $$ HS with ⟨HS, HS'⟩
  iapply (do_ring m c _ 6 (by decide) [4, 7, 5] (dev8_eq c) (thrR_of (off14_eq c) _ _) (thrR_of (off14_eq c) _ _) rfl rfl (q := q'.left)) $$ [HS Ht HO]
  · isplitr; · iexact Hx
    isplitl [HS]; · iexact HS
    isplitl [Ht]; · iexact Ht
    iexact HO
  iintro ⟨Hs, HO⟩
  iapply (do_copy m c (slice c 0) (minR_of (off14_eq c) _ _) (thrR_of (off14_eq c) _ _) rfl rfl (q := q) (q' := q'.right)) $$ [Hm HS' HD]
  · isplitl [Hm]; · iexact Hm
    isplitl [HS']; · iexact HS'
    iexact HD
  iintro HD
  iapply (do_land m c (slice c 0) [4, 7, 5] rfl rfl) $$ [HD HO]
  · isplitr; · iexact Hx
    isplitl [HD]; · iexact HD
    iexact HO
  iintro ⟨HD, HO⟩
  iapply (do_land' m c (slice c 0) [4, 7, 5] rfl rfl) $$ [HD HO]
  · isplitr; · iexact Hx
    isplitl [HD]; · iexact HD
    iexact HO
  iintro ⟨HD, HO⟩
  iapply (do_slice m c (slice c 0) [4, 7, 5] (by decide +kernel) (o := k0_off16) k0_off16_inb (o1 := k0_off17 c) (k0_off17_inb c) (o2 := k0_off18 c) (k0_off18_inb c)
    (fun k u => rfl) row_off2 (own_off2 c) (oth_off2 c)) $$ [HD Hout HO]
  · isplitr; · iexact Hx
    isplitl [HD]; · iexact HD
    isplitl [Hout]; · iexact Hout
    iexact HO
  iintro ⟨HD, Hout, HO⟩
  iapply (wpc_ret c)
  iapply Hc
  isplitl [Hs]; · iexact Hs
  isplitl [HD]; · iexact HD
  isplitl [Hout]; · iexact Hout
  iexact HO

end Cert.KernelIdeal.Mesh

end
-- ==== Proof.RunKernelIdeal.Parts2.lean ====
/-
# The ring's first hops

What arrives from both sides of the ring, its way on, and the slices of the result next to the first.
-/
module

public import proofs.«01_k».proof.Proof.RunKernelIdeal.Parts1

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-- Landings 3 and 6. -/
theorem part18 (c : Dev nD) (v2 v11 v24 v27 v40 v43 : BitVec 32) {P} :
    iprop(Cx m ∗ rx c 3 ∗ rx c 6 ∗ ow c (oweR c [4, 7, 5]))
      ⊢ iprop((∀ r, rz c 3 ∗ rz c 6 ∗ tS m c (slice c 7) fullShare ∗ tS m c (slice c 1) fullShare ∗ ow c (oweR c [4, 7, 5]) -∗ P r)
        -∗ wpc c (k0_part18 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v11 v24 v27 v40 v43) P) := by
  rw [k0_part18_eq_skeleton]; unfold k0_part18_skel
  simp only [Prog.lift, Prog.bind_op, Prog.bind_ret, Prog.pure_eq_ret]
  iintro ⟨#Hx, Hr, Hr', HO⟩ Hc
  iapply (do_recv m c 3 [4, 7, 5] (by decide) rfl credit_thr') $$ [Hr HO]
  · isplitr; · iexact Hx
    iframe Hr HO
  iintro ⟨Hz, HS, HO⟩
  iapply (do_recv m c 6 [4, 7, 5] (by decide) rfl credit_thr') $$ [Hr' HO]
  · isplitr; · iexact Hx
    iframe Hr' HO
  iintro ⟨Hz', HS', HO⟩
  iapply (wpc_ret c)
  iapply Hc
  isplitl [Hz]; · iexact Hz
  isplitl [Hz']; · iexact Hz'
  isplitl [HS]; · iexact HS
  isplitl [HS']; · iexact HS'
  iexact HO

/-- Transfer 4. -/
theorem part19 (c : Dev nD) (v2 v11 v24 v27 v254 : BitVec 32) {q : PosShare TreeShare} {P} :
    iprop(Cx m ∗ tS m c (slice c 7) q ∗ tx c 4 ∗ ow c (oweR c [4, 7, 5]))
      ⊢ iprop((∀ r, sx c 4 ∗ tS m c (slice c 7) q.right ∗ ow c (oweR c [7, 5]) -∗ P r)
        -∗ wpc c (k0_part19 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v11 v24 v27 v254) P) := by
  rw [k0_part19_eq_skeleton]; unfold k0_part19_skel
  simp only [Prog.lift, Prog.bind_op, Prog.bind_ret, Prog.pure_eq_ret]
  iintro ⟨#Hx, HS, Ht, HO⟩ Hc
  icases (tS_half m c _ _) $$ HS with ⟨HS, HS'⟩
  iapply (do_ring m c _ 4 (by decide) [7, 5] (dev9_eq c) (thrR_of (off19_eq1 c) _ _) (thrR_of (off19_eq1 c) _ _) rfl rfl (q := q.left)) $$ [HS Ht HO]
  · isplitr; · iexact Hx
    isplitl [HS]; · iexact HS
    iframe Ht HO
  iintro ⟨Hs, HO⟩
  iapply (wpc_ret c)
  iapply Hc
  isplitl [Hs]; · iexact Hs
  isplitl [HS']; · iexact HS'
  iexact HO

/-- Transfer 7; the copies of the slice of landing 3 start. -/
theorem part20 (c : Dev nD) (v2 v11 v40 v43 v289 w : BitVec 32) {q q₁ q₂ : PosShare TreeShare} {P} :
    iprop(Cx m ∗ tS m c (slice c 1) q ∗ tx c 7 ∗ mS m c (slice c 7) q₁ ∗ tS m c (slice c 7) q₂ ∗ desk c ∗ ow c (oweR c [7, 5]))
      ⊢ iprop((∀ r, sx c 7 ∗ tS m c (slice c 1) q.right ∗ deskTwo m c (slice c 7) ∗ ow c (oweR c [5]) -∗ P r)
        -∗ wpc c (k0_part20 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v11 v40 v43 v289 w) P) := by
  rw [k0_part20_eq_skeleton]; unfold k0_part20_skel
  simp only [Prog.lift, Prog.bind_op, Prog.bind_ret, Prog.pure_eq_ret]
  iintro ⟨#Hx, HS, Ht, Hm, HS7, HD, HO⟩ Hc
  icases (tS_half m c _ _) $$ HS with ⟨HS, HS'⟩
  iapply (do_ring m c _ 7 (by decide) [5] (dev10_eq c) (thrR_of (off15_eq1 c) _ _) (thrR_of (off15_eq1 c) _ _) rfl rfl (q := q.left)) $$ [HS Ht HO]
  · isplitr; · iexact Hx
    isplitl [HS]; · iexact HS
    iframe Ht HO
  iintro ⟨Hs, HO⟩
  iapply (do_copy m c (slice c 7) (minR_of (off19_eq1 c) _ _) (thrR_of (off19_eq1 c) _ _) rfl rfl (q := q₁) (q' := q₂)) $$ [Hm HS7 HD]
  · isplitl [Hm]; · iexact Hm
    isplitl [HS7]; · iexact HS7
    iexact HD
  iintro HD
  iapply (wpc_ret c)
  iapply Hc
  isplitl [Hs]; · iexact Hs
  isplitl [HS']; · iexact HS'
  isplitl [HD]; · iexact HD
  iexact HO

/-- The slice of the result of landing 3; the copies of the slice of landing 6 start. -/
theorem part21 (c : Dev nD) (v11 v314 : BitVec 32) {q q' : PosShare TreeShare} {P} :
    iprop(Cx m ∗ deskTwo m c (slice c 7) ∗ outTodo c (slice c 7) ∗ mS m c (slice c 1) q ∗ tS m c (slice c 1) q' ∗ ow c (oweR c [5]))
      ⊢ iprop((∀ r, outDone m c (slice c 7) ∗ deskOne m c (slice c 1) ∗ ow c (oweR c [5]) -∗ P r)
        -∗ wpc c (k0_part21 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11 v314) P) := by
  rw [k0_part21_eq_skeleton]; unfold k0_part21_skel
  simp only [Prog.lift, Prog.bind_op, Prog.bind_ret, Prog.pure_eq_ret]
  iintro ⟨#Hx, HD, Hout, Hm, HS, HO⟩ Hc
  iapply (do_land m c (slice c 7) [5] rfl rfl) $$ [HD HO]
  · isplitr; · iexact Hx
    iframe HD HO
  iintro ⟨HD, HO⟩
  iapply (do_land' m c (slice c 7) [5] rfl rfl) $$ [HD HO]
  · isplitr; · iexact Hx
    iframe HD HO
  iintro ⟨HD, HO⟩
  iapply (do_slice m c (slice c 7) [5] (by decide +kernel) (o := k0_off20) k0_off20_inb (o1 := k0_off21 c) (k0_off21_inb c) (o2 := k0_off22 c) (k0_off22_inb c)
    (fun k u => rfl) row_off3 (own_off3 c) (oth_off3 c)) $$ [HD Hout HO]
  · isplitr; · iexact Hx
    iframe HD Hout HO
  iintro ⟨HD, Hout, HO⟩
  iapply (do_copy m c (slice c 1) (minR_of (off15_eq1 c) _ _) (thrR_of (off15_eq1 c) _ _) rfl rfl (q := q) (q' := q')) $$ [Hm HS HD]
  · isplitl [Hm]; · iexact Hm
    isplitl [HS]; · iexact HS
    iexact HD
  iintro HD
  iapply (do_land m c (slice c 1) [5] rfl rfl) $$ [HD HO]
  · isplitr; · iexact Hx
    iframe HD HO
  iintro ⟨HD, HO⟩
  iapply (wpc_ret c)
  iapply Hc
  isplitl [Hout]; · iexact Hout
  isplitl [HD]; · iexact HD
  iexact HO

/-- The slice of the result of landing 6; landing 4. -/
theorem part22 (c : Dev nD) (v2 v11 v24 v27 v340 : BitVec 32) {P} :
    iprop(Cx m ∗ deskOne m c (slice c 1) ∗ outTodo c (slice c 1) ∗ rx c 4 ∗ ow c (oweR c [5]))
      ⊢ iprop((∀ r, outDone m c (slice c 1) ∗ desk c ∗ rz c 4 ∗ tS m c (slice c 6) fullShare ∗ ow c (oweR c [5]) -∗ P r)
        -∗ wpc c (k0_part22 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v11 v24 v27 v340) P) := by
  rw [k0_part22_eq_skeleton]; unfold k0_part22_skel
  simp only [Prog.lift, Prog.bind_op, Prog.bind_ret, Prog.pure_eq_ret]
  iintro ⟨#Hx, HD, Hout, Hr, HO⟩ Hc
  iapply (do_land' m c (slice c 1) [5] rfl rfl) $$ [HD HO]
  · isplitr; · iexact Hx
    iframe HD HO
  iintro ⟨HD, HO⟩
  iapply (do_slice m c (slice c 1) [5] (by decide +kernel) (o := k0_off23) k0_off23_inb (o1 := k0_off24 c) (k0_off24_inb c) (o2 := k0_off25 c) (k0_off25_inb c)
    (fun k u => rfl) row_off4 (own_off4 c) (oth_off4 c)) $$ [HD Hout HO]
  · isplitr; · iexact Hx
    iframe HD Hout HO
  iintro ⟨HD, Hout, HO⟩
  iapply (do_recv m c 4 [5] (by decide) rfl credit_thr') $$ [Hr HO]
  · isplitr; · iexact Hx
    iframe Hr HO
  iintro ⟨Hz, HS, HO⟩
  iapply (wpc_ret c)
  iapply Hc
  isplitl [Hout]; · iexact Hout
  isplitl [HD]; · iexact HD
  isplitl [Hz]; · iexact Hz
  isplitl [HS]; · iexact HS
  iexact HO

/-- Landing 7. -/
theorem part23 (c : Dev nD) (v2 v11 v24 v40 v43 v381 v382 : BitVec 32) (v383 : BitVec 1) (w : BitVec 32) {P} :
    iprop(Cx m ∗ rx c 7 ∗ ow c (oweR c [5]))
      ⊢ iprop((∀ r, rz c 7 ∗ tS m c (slice c 2) fullShare ∗ ow c (oweR c [5]) -∗ P r)
        -∗ wpc c (k0_part23 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v11 v24 v40 v43 v381 v382 v383 w) P) := by
  rw [k0_part23_eq_skeleton]; unfold k0_part23_skel
  simp only [Prog.lift, Prog.bind_op, Prog.bind_ret, Prog.pure_eq_ret]
  iintro ⟨#Hx, Hr, HO⟩ Hc
  iapply (do_recv m c 7 [5] (by decide) rfl credit_thr') $$ [Hr HO]
  · isplitr; · iexact Hx
    iframe Hr HO
  iintro ⟨Hz, HS, HO⟩
  iapply (wpc_ret c)
  iapply Hc
  isplitl [Hz]; · iexact Hz
  isplitl [HS]; · iexact HS
  iexact HO

/-- Transfer 5; the copies of the slice of landing 4. -/
theorem part24 (c : Dev nD) (v11 v27 v416 v417 : BitVec 32) {q q' : PosShare TreeShare} {P} :
    iprop(Cx m ∗ tS m c (slice c 6) q ∗ tx c 5 ∗ mS m c (slice c 6) q' ∗ desk c ∗ ow c (oweR c [5]))
      ⊢ iprop((∀ r, sx c 5 ∗ deskFull m c (slice c 6) ∗ ow c (oweR c []) -∗ P r)
        -∗ wpc c (k0_part24 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11 v27 v416 v417) P) := by
  rw [k0_part24_eq_skeleton]; unfold k0_part24_skel
  simp only [Prog.lift, Prog.bind_op, Prog.bind_ret, Prog.pure_eq_ret]
  iintro ⟨#Hx, HS, Ht, Hm, HD, HO⟩ Hc
  icases (tS_half m c _ _) $$ HS with ⟨HS, HS'⟩
  iapply (do_ring m c _ 5 (by decide) [] (dev11_eq c) (thrR_of (off19_eq2 c) _ _) (thrR_of (off19_eq2 c) _ _) rfl rfl (q := q.left)) $$ [HS Ht HO]
  · isplitr; · iexact Hx
    isplitl [HS]; · iexact HS
    iframe Ht HO
  iintro ⟨Hs, HO⟩
  iapply (do_copy m c (slice c 6) (minR_of (off19_eq2 c) _ _) (thrR_of (off19_eq2 c) _ _) rfl rfl (q := q') (q' := q.right)) $$ [Hm HS' HD]
  · isplitl [Hm]; · iexact Hm
    isplitl [HS']; · iexact HS'
    iexact HD
  iintro HD
  iapply (do_land m c (slice c 6) [] rfl rfl) $$ [HD HO]
  · isplitr; · iexact Hx
    iframe HD HO
  iintro ⟨HD, HO⟩
  iapply (do_land' m c (slice c 6) [] rfl rfl) $$ [HD HO]
  · isplitr; · iexact Hx
    iframe HD HO
  iintro ⟨HD, HO⟩
  iapply (wpc_ret c)
  iapply Hc
  isplitl [Hs]; · iexact Hs
  isplitl [HD]; · iexact HD
  iexact HO

end Cert.KernelIdeal.Mesh

end
-- ==== Proof.RunKernelIdeal.Parts3.lean ====
/-
# The rest

The slices of the result that arrive last, and the waits for what was sent.
-/
module

public import proofs.«01_k».proof.Proof.RunKernelIdeal.Parts1

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-- The slices of the result of landings 4 and 7. -/
theorem part25 (c : Dev nD) (v11 v99 v437 w : BitVec 32) {q q' : PosShare TreeShare} {P} :
    iprop(Cx m ∗ deskFull m c (slice c 6) ∗ outTodo c (slice c 6) ∗ mS m c (slice c 2) q ∗ tS m c (slice c 2) q' ∗ outTodo c (slice c 2) ∗ ow c (oweR c []))
      ⊢ iprop((∀ r, desk c ∗ outDone m c (slice c 6) ∗ outDone m c (slice c 2) ∗ ow c (oweR c []) -∗ P r)
        -∗ wpc c (k0_part25 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11 v99 v437 w) P) := by
  rw [k0_part25_eq_skeleton]; unfold k0_part25_skel
  simp only [Prog.lift, Prog.bind_op, Prog.bind_ret, Prog.pure_eq_ret]
  iintro ⟨#Hx, HD, Hout, Hm, HS, Hout', HO⟩ Hc
  iapply (do_slice m c (slice c 6) [] (by decide +kernel) (o := k0_off26) k0_off26_inb (o1 := k0_off27 c) (k0_off27_inb c) (o2 := k0_off28 c) (k0_off28_inb c)
    (fun k u => rfl) row_off5 (own_off5 c) (oth_off5 c)) $$ [HD Hout HO]
  · isplitr; · iexact Hx
    iframe HD Hout HO
  iintro ⟨HD, Hout, HO⟩
  iapply (do_copy m c (slice c 2) (minR_of (off15_eq2 c) _ _) (thrR_of (off15_eq2 c) _ _) rfl rfl (q := q) (q' := q')) $$ [Hm HS HD]
  · isplitl [Hm]; · iexact Hm
    isplitl [HS]; · iexact HS
    iexact HD
  iintro HD
  iapply (do_land m c (slice c 2) [] rfl rfl) $$ [HD HO]
  · isplitr; · iexact Hx
    iframe HD HO
  iintro ⟨HD, HO⟩
  iapply (do_land' m c (slice c 2) [] rfl rfl) $$ [HD HO]
  · isplitr; · iexact Hx
    iframe HD HO
  iintro ⟨HD, HO⟩
  iapply (do_slice m c (slice c 2) [] (by decide +kernel) (o := k0_off29) k0_off29_inb (o1 := k0_off30 c) (k0_off30_inb c) (o2 := k0_off31 c) (k0_off31_inb c)
    (fun k u => rfl) row_off6 (own_off6 c) (oth_off6 c)) $$ [HD Hout' HO]
  · isplitr; · iexact Hx
    iframe HD Hout' HO
  iintro ⟨HD, Hout', HO⟩
  iapply (wpc_ret c)
  iapply Hc
  isplitl [HD]; · iexact HD
  isplitl [Hout]; · iexact Hout
  isplitl [Hout']; · iexact Hout'
  iexact HO

/-- Landing 1, and the copies of its slice. -/
theorem part26 (c : Dev nD) (v5 v8 v11 v44 v99 w : BitVec 32) {q : PosShare TreeShare} {P} :
    iprop(Cx m ∗ rx c 1 ∗ mS m c (slice c 3) q ∗ desk c ∗ ow c (oweR c []))
      ⊢ iprop((∀ r, rz c 1 ∗ deskOne m c (slice c 3) ∗ ow c (oweR c []) -∗ P r)
        -∗ wpc c (k0_part26 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v5 v8 v11 v44 v99 w) P) := by
  rw [k0_part26_eq_skeleton]; unfold k0_part26_skel
  simp only [Prog.lift, Prog.bind_op, Prog.bind_ret, Prog.pure_eq_ret]
  iintro ⟨#Hx, Hr, Hm, HD, HO⟩ Hc
  iapply (do_recv m c 1 [] (by decide) rfl credit_thr') $$ [Hr HO]
  · isplitr; · iexact Hx
    iframe Hr HO
  iintro ⟨Hz, HS, HO⟩
  iapply (do_copy m c (slice c 3) (minR_of (off15_eq3 c) _ _) (thrR_of (off15_eq3 c) _ _) rfl rfl (q := q) (q' := fullShare)) $$ [Hm HS HD]
  · isplitl [Hm]; · iexact Hm
    isplitl [HS]; · iexact HS
    iexact HD
  iintro HD
  iapply (do_land m c (slice c 3) [] rfl rfl) $$ [HD HO]
  · isplitr; · iexact Hx
    iframe HD HO
  iintro ⟨HD, HO⟩
  iapply (wpc_ret c)
  iapply Hc
  isplitl [Hz]; · iexact Hz
  isplitl [HD]; · iexact HD
  iexact HO

/-- The slice of the result of landing 1; landing 2. -/
theorem part27 (c : Dev nD) (v5 v8 v11 v44 v110 v501 : BitVec 32) {P} :
    iprop(Cx m ∗ deskOne m c (slice c 3) ∗ outTodo c (slice c 3) ∗ rx c 2 ∗ ow c (oweR c []))
      ⊢ iprop((∀ r, outDone m c (slice c 3) ∗ desk c ∗ rz c 2 ∗ tS m c (slice c 4) fullShare ∗ ow c (oweR c []) -∗ P r)
        -∗ wpc c (k0_part27 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v5 v8 v11 v44 v110 v501) P) := by
  rw [k0_part27_eq_skeleton]; unfold k0_part27_skel
  simp only [Prog.lift, Prog.bind_op, Prog.bind_ret, Prog.pure_eq_ret]
  iintro ⟨#Hx, HD, Hout, Hr, HO⟩ Hc
  iapply (do_land' m c (slice c 3) [] rfl rfl) $$ [HD HO]
  · isplitr; · iexact Hx
    iframe HD HO
  iintro ⟨HD, HO⟩
  iapply (do_slice m c (slice c 3) [] (by decide +kernel) (o := k0_off32) k0_off32_inb (o1 := k0_off33 c) (k0_off33_inb c) (o2 := k0_off34 c) (k0_off34_inb c)
    (fun k u => rfl) row_off7 (own_off7 c) (oth_off7 c)) $$ [HD Hout HO]
  · isplitr; · iexact Hx
    iframe HD Hout HO
  iintro ⟨HD, Hout, HO⟩
  iapply (do_recv m c 2 [] (by decide) rfl credit_thr') $$ [Hr HO]
  · isplitr; · iexact Hx
    iframe Hr HO
  iintro ⟨Hz, HS, HO⟩
  iapply (wpc_ret c)
  iapply Hc
  isplitl [Hout]; · iexact Hout
  isplitl [HD]; · iexact HD
  isplitl [Hz]; · iexact Hz
  isplitl [HS]; · iexact HS
  iexact HO

/-- The slice of the result of landing 2. -/
theorem part28 (c : Dev nD) (v2 v11 v24 v27 v539 : BitVec 32) {q q' : PosShare TreeShare} {P} :
    iprop(Cx m ∗ mS m c (slice c 4) q ∗ tS m c (slice c 4) q' ∗ desk c ∗ outTodo c (slice c 4) ∗ ow c (oweR c []))
      ⊢ iprop((∀ r, desk c ∗ outDone m c (slice c 4) ∗ ow c (oweR c []) -∗ P r)
        -∗ wpc c (k0_part28 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v11 v24 v27 v539) P) := by
  rw [k0_part28_eq_skeleton]; unfold k0_part28_skel
  simp only [Prog.lift, Prog.bind_op, Prog.bind_ret, Prog.pure_eq_ret]
  iintro ⟨#Hx, Hm, HS, HD, Hout, HO⟩ Hc
  iapply (do_copy m c (slice c 4) (minR_of (off15_eq4 c) _ _) (thrR_of (off15_eq4 c) _ _) rfl rfl (q := q) (q' := q')) $$ [Hm HS HD]
  · isplitl [Hm]; · iexact Hm
    isplitl [HS]; · iexact HS
    iexact HD
  iintro HD
  iapply (do_land m c (slice c 4) [] rfl rfl) $$ [HD HO]
  · isplitr; · iexact Hx
    iframe HD HO
  iintro ⟨HD, HO⟩
  iapply (do_land' m c (slice c 4) [] rfl rfl) $$ [HD HO]
  · isplitr; · iexact Hx
    iframe HD HO
  iintro ⟨HD, HO⟩
  iapply (do_slice m c (slice c 4) [] (by decide +kernel) (o := k0_off35) k0_off35_inb (o1 := k0_off36 c) (k0_off36_inb c) (o2 := k0_off37 c) (k0_off37_inb c)
    (fun k u => rfl) row_off8 (own_off8 c) (oth_off8 c)) $$ [HD Hout HO]
  · isplitr; · iexact Hx
    iframe HD Hout HO
  iintro H
  iapply (wpc_ret c)
  iapply Hc $$ H

/-- Landing 5 and its slice of the result. -/
theorem part29 (c : Dev nD) (v11 v571 v572 : BitVec 32) {q : PosShare TreeShare} {P} :
    iprop(Cx m ∗ rx c 5 ∗ mS m c (slice c 5) q ∗ desk c ∗ outTodo c (slice c 5) ∗ ow c (oweR c []))
      ⊢ iprop((∀ r, rz c 5 ∗ desk c ∗ outDone m c (slice c 5) ∗ ow c (oweR c []) -∗ P r)
        -∗ wpc c (k0_part29 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11 v571 v572) P) := by
  rw [k0_part29_eq_skeleton]; unfold k0_part29_skel
  simp only [Prog.lift, Prog.bind_op, Prog.bind_ret, Prog.pure_eq_ret]
  iintro ⟨#Hx, Hr, Hm, HD, Hout, HO⟩ Hc
  iapply (do_recv m c 5 [] (by decide) rfl credit_thr') $$ [Hr HO]
  · isplitr; · iexact Hx
    iframe Hr HO
  iintro ⟨Hz, HS, HO⟩
  iapply (do_copy m c (slice c 5) (minR_of (off19_eq3 c) _ _) (thrR_of (off19_eq3 c) _ _) rfl rfl (q := q) (q' := fullShare)) $$ [Hm HS HD]
  · isplitl [Hm]; · iexact Hm
    isplitl [HS]; · iexact HS
    iexact HD
  iintro HD
  iapply (do_land m c (slice c 5) [] rfl rfl) $$ [HD HO]
  · isplitr; · iexact Hx
    iframe HD HO
  iintro ⟨HD, HO⟩
  iapply (do_land' m c (slice c 5) [] rfl rfl) $$ [HD HO]
  · isplitr; · iexact Hx
    iframe HD HO
  iintro ⟨HD, HO⟩
  iapply (do_slice m c (slice c 5) [] (by decide +kernel) (o := k0_off38) k0_off38_inb (o1 := k0_off39 c) (k0_off39_inb c) (o2 := k0_off40 c) (k0_off40_inb c)
    (fun k u => rfl) row_off9 (own_off9 c) (oth_off9 c)) $$ [HD Hout HO]
  · isplitr; · iexact Hx
    iframe HD Hout HO
  iintro H
  iapply (wpc_ret c)
  iapply Hc
  isplitl [Hz]; · iexact Hz
  iexact H

/-- The waits for the transfers to the partner. -/
theorem part30 (c : Dev nD) (v11 v99 v110 : BitVec 32) {P} :
    iprop(Cx m ∗ sx c 0 ∗ sx c 1 ∗ sx c 2 ∗ ow c (oweR c []))
      ⊢ iprop((∀ r, sz c 0 ∗ sz c 1 ∗ sz c 2 ∗ ow c (oweR c []) -∗ P r)
        -∗ wpc c (k0_part30 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11 v99 v110) P) := by
  rw [k0_part30_eq_skeleton]; unfold k0_part30_skel
  simp only [Prog.lift, Prog.bind_op, Prog.bind_ret, Prog.pure_eq_ret]
  iintro ⟨#Hx, H0, H1, H2, HO⟩ Hc
  iapply (do_sent m c 0 [] rfl credit_min') $$ [H0 HO]
  · isplitr; · iexact Hx
    iframe H0 HO
  iintro ⟨H0, HO⟩
  iapply (do_sent m c 1 [] rfl credit_min') $$ [H1 HO]
  · isplitr; · iexact Hx
    iframe H1 HO
  iintro ⟨H1, HO⟩
  iapply (do_sent m c 2 [] rfl credit_min') $$ [H2 HO]
  · isplitr; · iexact Hx
    iframe H2 HO
  iintro H2
  iapply (wpc_ret c)
  iapply Hc
  isplitl [H0]; · iexact H0
  isplitl [H1]; · iexact H1
  iexact H2

/-- The waits for two transfers to the device after. -/
theorem part31 (c : Dev nD) (v11 v632 : BitVec 32) {P} :
    iprop(Cx m ∗ sx c 3 ∗ sx c 4 ∗ ow c (oweR c []))
      ⊢ iprop((∀ r, sz c 3 ∗ sz c 4 ∗ ow c (oweR c []) -∗ P r) -∗ wpc c (k0_part31 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11 v632) P) := by
  rw [k0_part31_eq_skeleton]; unfold k0_part31_skel
  simp only [Prog.lift, Prog.bind_op, Prog.bind_ret, Prog.pure_eq_ret]
  iintro ⟨#Hx, H0, H1, HO⟩ Hc
  iapply (do_sent m c 3 [] rfl credit_thr') $$ [H0 HO]
  · isplitr; · iexact Hx
    iframe H0 HO
  iintro ⟨H0, HO⟩
  iapply (do_sent m c 4 [] rfl credit_thr') $$ [H1 HO]
  · isplitr; · iexact Hx
    iframe H1 HO
  iintro H1
  iapply (wpc_ret c)
  iapply Hc
  isplitl [H0]; · iexact H0
  iexact H1

/-- The waits for the last transfer to the device after and the first to the device before. -/
theorem part32 (c : Dev nD) (v11 v658 v659 : BitVec 32) (v660 v661 v662 : BitVec 1) {P} :
    iprop(Cx m ∗ sx c 5 ∗ sx c 6 ∗ ow c (oweR c []))
      ⊢ iprop((∀ r, sz c 5 ∗ sz c 6 ∗ ow c (oweR c []) -∗ P r) -∗ wpc c (k0_part32 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11 v658 v659 v660 v661 v662) P) := by
  rw [k0_part32_eq_skeleton]; unfold k0_part32_skel
  simp only [Prog.lift, Prog.bind_op, Prog.bind_ret, Prog.pure_eq_ret]
  iintro ⟨#Hx, H0, H1, HO⟩ Hc
  iapply (do_sent m c 5 [] rfl credit_thr') $$ [H0 HO]
  · isplitr; · iexact Hx
    iframe H0 HO
  iintro ⟨H0, HO⟩
  iapply (do_sent m c 6 [] rfl credit_thr') $$ [H1 HO]
  · isplitr; · iexact Hx
    iframe H1 HO
  iintro H1
  iapply (wpc_ret c)
  iapply Hc
  isplitl [H0]; · iexact H0
  iexact H1

end Cert.KernelIdeal.Mesh

end
-- ==== Proof.RunKernelIdeal.Start.lean ====
/-
# Before the transfers

The three barrier signals and the wait, the cast of `x`, the first block of `W`, the loop of the product, and the last
two waits of it.
-/
module

public import proofs.«01_k».proof.Proof.RunKernelIdeal.Parts1

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-! ## The barrier -/

/-- One signal, with what it hands over. -/
theorem do_signal (c n t : Dev nD) (d : Fin 3) (hn : n = t) (O : CellTallies nD τ sig Unit) {s : Sem sig} (hs : s = barS) {z : ℤ} (hz : z = ((1 : ℕ) : ℤ))
    {kk : PUnit → Prog (TpuEff nD τ sig (Elt F) Λ₀ .tc) α} :
    iprop(Cx m ∗ dutyTok ER (barCell t) 0 d ∗ barPay t d ∗ ow c (O + tallyAt (barCell t) () 1))
      ⊢ iprop((ow c O -∗ wpc c (kk ⟨⟩) Q) -∗ wpc c (.op (.semSignal (n, .tc) s z) kk) Q) := by
  subst hn; subst hs; subst hz
  unfold Cx ow
  iintro ⟨⟨#Hk, -⟩, Ht, Hp, ⟨%W, HO⟩⟩ Hc
  ihave #H1 := (known_bar m n) $$ Hk
  unfold know
  icases H1 with ⟨%κ, #HI, #Hr⟩
  ihave Hp := (show barPay n d ⊢ (Rd m).payload (barCell n) 0 d from Entails.of_eq (payload_bar m n d).symm) $$ Hp
  iapply (Rounds.wp_signal 𝒱₀ ER (Rd m) (c : Thread nD τ) none (dst := (n : Thread nD τ)) (κ := κ) (d := d)
    (by rw [duties_bar]; exact Finset.mem_univ _) (amount_bar m n d) () O rfl (W := W)) $$ [HO Ht Hp]
  · isplitr; · iexact HI
    isplitl [HO]; · iexact HO
    isplitl [Ht]; · iexact Ht
    isplitl [Hp]; · iexact Hp
    iexact Hr
  iintro HO
  iapply Hc
  iexists W; iexact HO

/-- The barrier still to be waited on; passed. -/
def br (c : Dev nD) : sProp 𝕄 := iprop(cred (tallyAt (barCell c) () 3) ∗ atPos ER (barCell c) 0 ∅ 0)
def bz (c : Dev nD) : sProp 𝕄 := semVal (barCell c) 0
/-- The slices of the other devices that `c` may write. -/
def slots (c : Dev nD) : sProp 𝕄 := iprop((slot c 0 ∗ slot c 1 ∗ slot c 2) ∗ (slot c 6 ∗ slot c 7) ∗ (slot c 3 ∗ slot c 4 ∗ slot c 5))

theorem do_meet (c : Dev nD) (l : List (Fin 8)) (hl : ∀ k ∈ l, 1 < lvK k) {s : Sem sig} (hs : s = barS) {z : ℤ} (hz : z = ((3 : ℕ) : ℤ))
    {kk : PUnit → Prog (TpuEff nD τ sig (Elt F) Λ₀ .tc) α} :
    iprop(Cx m ∗ br c ∗ ow c (oweR c l))
      ⊢ iprop((bz c ∗ slots c ∗ ow c (oweR c l) -∗ wpc c (kk ⟨⟩) Q) -∗ wpc c (.op (.semWait s z) kk) Q) := by
  subst hs; subst hz
  unfold Cx ow br bz slots
  iintro ⟨⟨#Hk, #Hlev⟩, ⟨Hcr, Hat⟩, ⟨%W, HO⟩⟩ Hc
  ihave #H1 := (known_bar m c) $$ Hk
  unfold know
  icases H1 with ⟨%κ, #HI, #Hr⟩
  ihave #Hmw := (mayWait_list c (.reg barS) 1 (le_of_eq (lv_bar c ())) l hl) $$ Hlev
  iapply (Rounds.wp_wait_rest_token 𝒱₀ ER (Rd m) (c : Thread nD τ) none (κ := κ)
      (wpE_semWait_eq 𝒱₀ (c : Thread nD τ) none Set.univ) (Set.mem_univ _) () (O := oweR c l) (W := W) (R := 0) (m := 0) (T := ∅)
      (by rw [Nat.zero_add, expect_bar])) $$ [Hcr HO Hat]
  · isplitr; · iexact HI
    isplitl [Hcr]; · iexact Hcr
    isplitl [HO]; · iexact HO
    isplitr; · iexact Hmw
    iexact Hat
  iintro ⟨HO, Hat, -, Hpay⟩
  ihave Hpay := (Entails.of_eq (rest_bar m c)) $$ Hpay
  imod (Rounds.cell_close ER (Rd m) (Set.mem_univ κ) (fun h => h) (R := 0 + 1) (duties_later m (barCell c))) $$ [Hat] with Hz
  · isplitr; · iexact HI
    iexact Hat
  iapply Hc
  isplitl [Hz]; · iexact Hz
  isplitl [Hpay]; · iexact Hpay
  iexists _; iexact HO

/-! ## The cast of `x` -/

abbrev xsM : Memref sig .tc .vmem S1024x2048 .f32 := Memref.whole cc0_stg0_0
def xsP (c : Dev nD) (f : S1024x2048.Idx → F .f32) : sProp 𝕄 := ((c : Thread nD τ).loc cc0_stg0_0) ↦{fullShare} f
abbrev rx0 : Rect S1024x2048 := Rect.unit (s := S1024x2048) ![0, 0] S1024x2048.size inb_S1024x2048_S1024x2048_0_0

theorem ld_xs (c : Dev nD) (f : S1024x2048.Idx → F .f32) {hl : xsM.view.LoadsAt rx0.toLoadRect}
    {kk : (Vec F S1024x2048 .f32) → Prog (TpuEff nD τ sig (Elt F) Λ₀ .tc) α} :
    xsP c f ⊢ iprop((xsP c f -∗ wpc c (kk f) Q) -∗ wpc c (.op (.load xsM rx0.toLoadRect hl) kk) Q) := by
  have e : xsM.view.readAt (Elt F) rx0.toLoadRect f = f :=
    Memref.readAt_unit_zero (Elt F) cc0_stg0_0 (funext fun a => by fin_cases a <;> rfl) _ f
  rw [congrArg kk e.symm]
  exact wp_load 𝒱₀ (c : Thread nD τ) none Set.univ (m := xsM) (Finset.subset_univ _)

theorem use_xb (c : Dev nD) (f w : S1024x2048.Idx → F .bf16) {hl : xbM.view.LoadsAt rx0.toLoadRect}
    {hx : (xbM.access rx0).Stores Finset.univ} {hm : (Finset.univ : Finset rx0.shape.Idx) = Finset.univ ∨ ∀ a, rx0.stride a = 1}
    {kk : PUnit → Prog (TpuEff nD τ sig (Elt F) Λ₀ .tc) α} :
    xbP c f ⊢ iprop((xbP c w -∗ wpc c (kk ⟨⟩) Q) -∗ wpc c (.op (.load xbM rx0.toLoadRect hl) fun _ => .op (.store xbM rx0 w Finset.univ hx hm) kk) Q) := by
  have e : ((xbM.access rx0 : View sig .tc _ _ _).write (Elt F) f w Finset.univ) = w :=
    Memref.write_access_unit_zero_univ (Elt F) cc0_scratch0 (funext fun a => by fin_cases a <;> rfl) _ f w
  unfold xbP
  iintro H Hc
  iapply (wp_load 𝒱₀ (c : Thread nD τ) none Set.univ (m := xbM) (Finset.subset_univ _)) $$ H; iintro H
  iapply (wp_store 𝒱₀ (c : Thread nD τ) none Set.univ (m := xbM) (r := rx0) (Mk := Finset.univ) (Finset.subset_univ _)) $$ H; iintro H
  rw [e]
  iapply Hc; iexact H

/-! ## The on-chip memory of the product -/

/-- The memory and semaphores of the product, idle. -/
def pad (c : Dev nD) : sProp 𝕄 :=
  iprop((∃ f, xbP c f) ∗ wRest c ∗ ((∃ f, lbP c 0 f) ∗ semVal ((c : Thread nD τ), .dma (lq 0)) 0) ∗ ((∃ f, lbP c 1 f) ∗ semVal ((c : Thread nD τ), .dma (lq 1)) 0))

theorem mP_all (c : Dev nD) (f : S1024x16384.Idx → F .bf16) : iprop((mP c (mCol 14) f ∗ mP c (mCol 15) f) ∗ mP c (mDone 16) f) ⊢ mP c Finset.univ f := by
  have e : (mCol 14 ∪ mCol 15) ∪ mDone 16 = Finset.univ := by
    ext i
    have h : (i 1).val < 16384 := (i 1).isLt
    simp only [mCol, mDone, Finset.mem_union, Finset.mem_filter, Finset.mem_univ, true_and, iff_true]
    omega
  have h1 : Disjoint (mCol 14) (mCol 15) := Finset.disjoint_filter.mpr fun i _ h h' => by omega
  have h2 : Disjoint (mCol 14 ∪ mCol 15) (mDone 16) := by
    refine Finset.disjoint_union_left.mpr ⟨?_, ?_⟩ <;> exact Finset.disjoint_filter.mpr fun i _ h h' => by omega
  rw [← e]
  iintro ⟨H, H'⟩
  iapply (mP_glue c h2 f)
  isplitl [H]; · iapply (mP_glue c h1 f) $$ H
  iexact H'

theorem mTodo_zero : mTodo 0 = Finset.univ := Finset.filter_true_of_mem fun _ _ => Nat.zero_le _
theorem wTodo_zero : wTodo 0 = Finset.univ := Finset.filter_true_of_mem fun _ _ => Nat.zero_le _

theorem part11 (c : Dev nD) {P} :
    iprop(∀ v2 v5 v8 v11 v24 v27 v30 v31 v32 w, P ⟨c, v2, v5, v8, v11, v24, v27, v30, v31, v32, w⟩) ⊢ wpc c (k0_part11 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16) P := by
  rw [k0_part11_eq_skeleton]; unfold k0_part11_skel
  simp only [Prog.lift, Prog.bind_op, Prog.bind_ret, Prog.pure_eq_ret, wpc, wp_deviceId]
  iintro Hc
  iapply (wpc_ret c)
  iapply Hc

theorem part12 (c : Dev nD) (v2 v5 v8 v24 v27 v30 v31 : BitVec 32) (v32 : BitVec 1) (w : BitVec 32) {P} :
    iprop(Cx m ∗ dutyTok ER (barCell (par c)) 0 0 ∗ barPay (par c) 0 ∗ dutyTok ER (barCell (nxt c)) 0 1 ∗ barPay (nxt c) 1 ∗ ow c (O₀ c))
      ⊢ iprop((∀ v40 v43 v44 v64 v65, ow c (O₁ c) -∗ P ⟨v40, v43, v44, SemArray.scalar (sig.barrier 0 rfl), v64, v65⟩)
        -∗ wpc c (k0_part12 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v5 v8 v24 v27 v30 v31 v32 w) P) := by
  rw [k0_part12_eq_skeleton]; unfold k0_part12_skel
  simp only [semSignalWord, Prog.lift, Prog.bind_op, Prog.bind_ret, Prog.pure_eq_ret]
  iintro ⟨#Hx, Ht, Hp, Ht', Hp', HO⟩ Hc
  iapply (do_signal m c _ (par c) 0 (dev1_eq c) (O₂ c) rfl (by decide)) $$ [Ht Hp HO]
  · isplitr; · iexact Hx
    isplitl [Ht]; · iexact Ht
    isplitl [Hp]; · iexact Hp
    iexact HO
  iintro HO
  iapply (do_signal m c _ (nxt c) 1 (dev2_eq c) (O₁ c) rfl (by decide)) $$ [Ht' Hp' HO]
  · isplitr; · iexact Hx
    isplitl [Ht']; · iexact Ht'
    isplitl [Hp']; · iexact Hp'
    iexact HO
  iintro HO
  iapply (wpc_ret c)
  iapply Hc $$ HO

theorem part13 (c : Dev nD) (v11 v64 v65 : BitVec 32) {q : PosShare TreeShare} {P} :
    iprop(Cx m ∗ dutyTok ER (barCell (prv c)) 0 2 ∗ barPay (prv c) 2 ∗ br c ∗ xsP c (xin m c) ∗ pad c ∗ wP m c q Finset.univ ∗ (∃ f, mP c Finset.univ f) ∗ ow c (O₁ c))
      ⊢ iprop((∀ r, bz c ∗ slots c ∗ xsP c (xin m c) ∗ pad c ∗ mP c Finset.univ (logits m c) ∗ ow c (oweR c order) -∗ P r)
        -∗ wpc c (k0_part13 (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v11 (SemArray.scalar (sig.barrier 0 rfl)) v64 v65) P) := by
  rw [k0_part13_eq_skeleton]; unfold k0_part13_skel
  simp only [semSignalWord, semWaitWord, Prog.lift, Prog.bind_op, Prog.bind_ret, Prog.pure_eq_ret]
  iintro ⟨#Hx, Ht, Hp, Hb, Hxs, Hpad, HW, Hm, HO⟩ Hc
  iapply (do_signal m c _ (prv c) 2 (dev3_eq c) (oweR c order) rfl (by decide)) $$ [Ht Hp HO]
  · isplitr; · iexact Hx
    isplitl [Ht]; · iexact Ht
    isplitl [Hp]; · iexact Hp
    iexact HO
  iintro HO
  iapply (do_meet m c order (by decide) rfl (by decide)) $$ [Hb HO]
  · isplitr; · iexact Hx
    isplitl [Hb]; · iexact Hb
    iexact HO
  iintro ⟨Hz, Hsl, HO⟩
  unfold pad wRest
  icases Hpad with ⟨⟨%f, Hxb⟩, ⟨Hw0, Hw1, Hv0, Hv1⟩, Hl0, Hl1⟩
  iapply (ld_xs c (xin m c)) $$ Hxs; iintro Hxs
  iapply (use_xb c f (k0_pay42 (xin m c))) $$ Hxb; iintro Hxb
  ihave HW := (show wP m c q Finset.univ ⊢ _ from (Entails.of_eq (congrArg (wP m c q) wTodo_zero.symm)).trans (wP_cut m c q (wCol_sub 0))) $$ HW
  icases HW with ⟨HW0, HW⟩
  ihave HW := (show wP m c q (wTodo 0 \ wCol 0) ⊢ wP m c q (wTodo 1) from Entails.of_eq (congrArg (wP m c q) (wTodo_next 0))) $$ HW
  iapply (fetch_w m c q 0 (by decide) 0 (o := ![0, 0, 0]) rfl inb_S2x2048x1024_S1x2048x1024_0_0_0 (o' := ![0, 0]) rfl inb_S2048x16384_S2048x1024_0_0 (wSem_eq 0 rfl _)) $$ [HW0 Hw0 Hv0]
  · isplitl [HW0]; · iexact HW0
    isplitl [Hw0]; · iexact Hw0
    iexact Hv0
  iintro Hf
  ihave #Hlev := (show Cx m ⊢ levAts Lx lv by unfold Cx; exact sep_elim_right) $$ Hx
  iapply (gemm_loop m c q order c v11 (SemArray.scalar (sig.barrier 0 rfl)) v64 v65) $$ [HO Hxb Hf Hw1 Hv1 HW Hl0 Hl1 Hm]
  · unfold gemmEntry
    rw [mTodo_zero]
    isplitr; · iexact Hlev
    isplitl [HO]; · iexact HO
    isplitl [Hxb]; · iexact Hxb
    isplitl [Hf]; · iexact Hf
    isplitl [Hw1]; · iexact Hw1
    isplitl [Hv1]; · iexact Hv1
    isplitl [HW]; · iexact HW
    isplitl [Hl0]; · iexact Hl0
    isplitl [Hl1]; · iexact Hl1
    iexact Hm
  unfold gemmExit
  iintro ⟨HO, Hxb, Hw, Hf0, Hf1, Hm⟩
  iapply (local_wait c order (lSem_eq 0 rfl inb_S2_S1_0) (kind_lq 0) (dw := mAt ![0, 14336] inb_S1024x16384_S1024x1024_0_14336) (credit_m _ _)) $$ [Hf0 HO]
  · isplitr; · iexact Hlev
    isplitl [Hf0]; · iexact Hf0
    iexact HO
  iintro ⟨⟨Hm0, Hl0⟩, Hv0, HO⟩
  iapply (local_wait c order (lSem_eq 1 rfl inb_S2_S1_1) (kind_lq 1) (dw := mAt ![0, 15360] inb_S1024x16384_S1024x1024_0_15360) (credit_m _ _)) $$ [Hf1 HO]
  · isplitr; · iexact Hlev
    isplitl [Hf1]; · iexact Hf1
    iexact HO
  iintro ⟨⟨Hm1, Hl1⟩, Hv1, HO⟩
  iapply (wpc_ret c)
  iapply Hc
  isplitl [Hz]; · iexact Hz
  isplitl [Hsl]; · iexact Hsl
  isplitl [Hxs]; · iexact Hxs
  isplitl [Hxb Hw Hl0 Hl1 Hv0 Hv1]
  · isplitl [Hxb]; · iexists _; iexact Hxb
    unfold wRest
    isplitl [Hw]; · iexact Hw
    isplitl [Hl0 Hv0]
    · isplitl [Hl0]; · iexact Hl0
      iexact Hv0
    isplitl [Hl1]; · iexact Hl1
    iexact Hv1
  isplitl [Hm Hm0 Hm1]
  · iapply (mP_all c (logits m c))
    isplitl [Hm0 Hm1]
    · isplitl [Hm0]; · iexact Hm0
      iexact Hm1
    iexact Hm
  iexact HO

end Cert.KernelIdeal.Mesh

end
-- ==== Proof.RunKernelIdeal.Body.lean ====
/-
# The whole body on one device

The buffers are cut into the eight slices, the parts of the body are run one after the other, and the eight slices of
the result are put together.
-/
module

public import proofs.«01_k».proof.Proof.RunKernelIdeal.Parts2
public import proofs.«01_k».proof.Proof.RunKernelIdeal.Parts3
public import proofs.«01_k».proof.Proof.RunKernelIdeal.Start

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

/-! ## Eight slices -/

theorem slices_list (c : Dev nD) (Φ : Fin 8 → sProp 𝕄) :
    bigSep Finset.univ Φ = iprop(Φ (slice c 0) ∗ Φ (slice c 1) ∗ Φ (slice c 2) ∗ Φ (slice c 3) ∗ Φ (slice c 4) ∗ Φ (slice c 5) ∗ Φ (slice c 6) ∗ Φ (slice c 7)) := by
  rw [bigSep_univ_eq_bigSepL [slice c 0, slice c 1, slice c 2, slice c 3, slice c 4, slice c 5, slice c 6, slice c 7] (by revert c; decide +kernel) (by revert c; decide +kernel)]
  simp only [bigSepL_cons_cons, bigSepL_singleton]
  rfl
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

theorem rows_all : (Finset.univ : Finset (Fin 8)).biUnion rowSet = Finset.univ := by
  ext i
  have h : (i 0).val < 1024 := (i 0).isLt
  simp only [Finset.mem_biUnion, Finset.mem_univ, true_and, iff_true]
  exact ⟨⟨(i 0).val / 128, by omega⟩, Finset.mem_filter.mpr ⟨Finset.mem_univ _, rfl⟩⟩
theorem rows_apart : ∀ t ∈ (Finset.univ : Finset (Fin 8)), ∀ t' ∈ (Finset.univ : Finset (Fin 8)), t ≠ t' → Disjoint (rowSet t) (rowSet t') :=
  fun t _ t' _ h => Finset.disjoint_filter.mpr fun i _ h1 h2 => h (Fin.ext (h1.symm.trans h2))
theorem outs_all : (Finset.univ : Finset (Fin 8)).biUnion outSlice = Finset.univ := by
  ext i
  have h : (i 0).val < 1024 := (i 0).isLt
  simp only [Finset.mem_biUnion, Finset.mem_univ, true_and, iff_true]
  exact ⟨⟨(i 0).val / 128, by omega⟩, Finset.mem_filter.mpr ⟨Finset.mem_univ _, rfl⟩⟩
theorem outs_apart : ∀ t ∈ (Finset.univ : Finset (Fin 8)), ∀ t' ∈ (Finset.univ : Finset (Fin 8)), t ≠ t' → Disjoint (outSlice t) (outSlice t') :=
  fun t _ t' _ h => Finset.disjoint_filter.mpr fun i _ h1 h2 => h (Fin.ext (h1.symm.trans h2))

theorem cut_pts (ℓ : Loc nD τ sig) (K : Fin 8 → Finset (Idx ℓ)) (q : PosShare TreeShare) (f : Buf (Elt F) ℓ)
    (h : Finset.univ.biUnion K = Finset.univ) (hd : ∀ t ∈ (Finset.univ : Finset (Fin 8)), ∀ t' ∈ (Finset.univ : Finset (Fin 8)), t ≠ t' → Disjoint (K t) (K t')) :
    (ℓ ↦{q} f : sProp 𝕄) = bigSep Finset.univ fun r => ℓ ↦[K r]{q} f :=
  (congrArg (fun S => (ℓ ↦[S]{q} f : sProp 𝕄)) h.symm).trans (pointsTo_biUnion Finset.univ K hd)

theorem mine_cut (c : Dev nD) : mP c Finset.univ (logits m c) ⊢ bigSep Finset.univ fun r => mS m c r fullShare := by
  unfold mP mS
  exact Entails.of_eq (cut_pts ((c : Thread nD τ).loc main_v1_1) rowSet fullShare (logits m c) rows_all rows_apart)

theorem out_rows (c : Dev nD) (f : Buf (Elt F) ((c : Thread nD τ).loc main_v1_0)) :
    outPts c Finset.univ f = bigSep Finset.univ fun r => (outPts c (outSlice r) f : sProp 𝕄) := by
  unfold outPts
  exact cut_pts ((c : Thread nD τ).loc main_v1_0) outSlice fullShare f outs_all outs_apart
theorem out_one (c : Dev nD) (r : Fin 8) (f : Buf (Elt F) ((c : Thread nD τ).loc main_v1_0)) : outPts c (outSlice r) f ⊢ (outTodo c r : sProp 𝕄) := by
  unfold outTodo
  iintro H; iexists f; iexact H
theorem out_some (c : Dev nD) (f : Buf (Elt F) ((c : Thread nD τ).loc main_v1_0)) : outPts c Finset.univ f ⊢ (bigSep Finset.univ fun r => outTodo c r : sProp 𝕄) :=
  (Entails.of_eq (out_rows c f)).trans (bigSep_mono fun r _ => out_one c r f)
theorem out_start (c : Dev nD) : iprop(∃ f, outPts c Finset.univ f) ⊢ (bigSep Finset.univ fun r => outTodo c r : sProp 𝕄) := by
  iintro ⟨%f, H⟩
  iapply (out_some c f) $$ H

/-- The second logits buffer, whole. -/
def thP (c : Dev nD) : sProp 𝕄 := iprop(∃ f : Buf (Elt F) ((c : Thread nD τ).loc main_v1_2), ((c : Thread nD τ).loc main_v1_2) ↦{fullShare} f)
/-- A slice of it at any contents. -/
def someS (c : Dev nD) (r : Fin 8) : sProp 𝕄 := iprop(∃ f, slPts c r f)
theorem th_one (c : Dev nD) (r : Fin 8) (f : Buf (Elt F) ((c : Thread nD τ).loc main_v1_2)) :
    (((c : Thread nD τ).loc main_v1_2) ↦[rowSet r]{fullShare} f : sProp 𝕄) ⊢ someS c r := by
  unfold someS slPts
  iintro H; iexists f; iexact H
theorem th_some (c : Dev nD) (f : Buf (Elt F) ((c : Thread nD τ).loc main_v1_2)) :
    (((c : Thread nD τ).loc main_v1_2) ↦{fullShare} f : sProp 𝕄) ⊢ (bigSep Finset.univ fun r => someS c r : sProp 𝕄) :=
  (Entails.of_eq (cut_pts ((c : Thread nD τ).loc main_v1_2) rowSet fullShare f rows_all rows_apart)).trans (bigSep_mono fun r _ => th_one c r f)
theorem th_cut (c : Dev nD) : thP c ⊢ (bigSep Finset.univ fun r => someS c r : sProp 𝕄) := by
  unfold thP
  iintro ⟨%f, H⟩
  iapply (th_some c f) $$ H

/-- A slice of `c` is the one its writer's transfer is to land in. -/
theorem slot_here (c d : Dev nD) (k : Fin 8) (h : tgt d k = c) {o : ℕ} (ho : recvOff k = o) : someS c (slice c o) ⊢ (slot d k : sProp 𝕄) := by
  subst h; subst ho
  unfold someS slot
  rw [row_tgt]

theorem barPay_par (c : Dev nD) : iprop(slot c 0 ∗ slot c 1 ∗ slot c 2) ⊢ (barPay c 0 : sProp 𝕄) := Entails.refl _
theorem barPay_nxt (c : Dev nD) : iprop(slot c 6 ∗ slot c 7) ⊢ (barPay c 1 : sProp 𝕄) := Entails.refl _
theorem barPay_prv (c : Dev nD) : iprop(slot c 3 ∗ slot c 4 ∗ slot c 5) ⊢ (barPay c 2 : sProp 𝕄) := Entails.refl _

theorem hand_over (c : Dev nD) : thP c ⊢ (iprop(barPay (par c) 0 ∗ barPay (nxt c) 1 ∗ barPay (prv c) 2) : sProp 𝕄) := by
  refine (th_cut c).trans ?_
  rw [slices_list c]
  iintro ⟨H0, H1, H2, H3, H4, H5, H6, H7⟩
  isplitl [H0 H3 H4]
  · iapply (barPay_par (par c))
    isplitl [H0]; · iapply (slot_here c (par c) 0 (par_par c) (o := 0) rfl) $$ H0
    isplitl [H3]; · iapply (slot_here c (par c) 1 (par_par c) (o := 3) rfl) $$ H3
    iapply (slot_here c (par c) 2 (par_par c) (o := 4) rfl) $$ H4
  isplitl [H1 H2]
  · iapply (barPay_nxt (nxt c))
    isplitl [H1]; · iapply (slot_here c (nxt c) 6 (prv_nxt c) (o := 1) rfl) $$ H1
    iapply (slot_here c (nxt c) 7 (prv_nxt c) (o := 2) rfl) $$ H2
  iapply (barPay_prv (prv c))
  isplitl [H7]; · iapply (slot_here c (prv c) 3 (nxt_prv c) (o := 7) rfl) $$ H7
  isplitl [H6]; · iapply (slot_here c (prv c) 4 (nxt_prv c) (o := 6) rfl) $$ H6
  iapply (slot_here c (prv c) 5 (nxt_prv c) (o := 5) rfl) $$ H5

/-! ## The body -/

/-- The tokens a device signals the three barriers with; those it makes transfer `k` with. -/
def hand (c : Dev nD) : sProp 𝕄 :=
  iprop(dutyTok ER (barCell (par c)) 0 0 ∗ dutyTok ER (barCell (nxt c)) 0 1 ∗ dutyTok ER (barCell (prv c)) 0 2)
def tk (c : Dev nD) (k : Fin 8) : sProp 𝕄 :=
  iprop(dutyTok ER (sendCell c k) 0 0 ∗ dutyTok ER (recvCell (tgt c k) k) 0 0 ∗ atPos ER (sendCell c k) 0 ∅ 0)
theorem tx_of (c : Dev nD) (k : Fin 8) : iprop(slot c k ∗ tk c k) ⊢ (tx c k : sProp 𝕄) := by
  unfold tx tk; exact Entails.refl _

/-- What a device has before the body, and after it. -/
def entry (c : Dev nD) (q : PosShare TreeShare) : sProp 𝕄 :=
  iprop(hand c ∗ (bigSep Finset.univ fun k => tk c k) ∗ (bigSep Finset.univ fun k => rx c k) ∗ br c ∗ xsP c (xin m c) ∗ pad c ∗ desk c
    ∗ wP m c q Finset.univ ∗ (∃ f, mP c Finset.univ f) ∗ thP c ∗ (∃ f, outPts c Finset.univ f))
def exit_ (c : Dev nD) : sProp 𝕄 :=
  iprop(bz c ∗ (bigSep Finset.univ fun k => sz c k) ∗ (bigSep Finset.univ fun k => rz c k) ∗ xsP c (xin m c) ∗ pad c ∗ desk c
    ∗ outPts c Finset.univ (result m c))

theorem seq {β γ : Type} (c : Dev nD) (p : Prog (TpuEff nD τ sig (Elt F) Λ₀ .tc) β) (k : β → Prog (TpuEff nD τ sig (Elt F) Λ₀ .tc) γ)
    {Q : γ → sProp (MT nD τ sig Unit (Elt F) ℕ UU ℕ)} : wpc c p (fun a => wpc c (k a) Q) ⊢ wpc c (p >>= k) Q := Entails.of_eq (wp_bind ..).symm

set_option maxHeartbeats 1600000 in
theorem body_run (c : Dev nD) (q : PosShare TreeShare) (Kt : PUnit → sProp (MT nD τ sig Unit (Elt F) ℕ UU ℕ)) :
    iprop(Cx m ∗ entry m c q ∗ ow c (O₀ c)) ⊢ iprop((exit_ m c ∗ ow c (oweR c []) -∗ Kt ⟨⟩) -∗ wpc c (cc0_body (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16) Kt) := by
  rw [cc0_body_eq_skeleton]; unfold cc0_body_skel
  unfold entry hand
  rw [eight (fun k => tk c k), eight (fun k => rx c k)]
  iintro ⟨#Hx, ⟨⟨Hb0, Hb1, Hb2⟩, ⟨K0, K1, K2, K3, K4, K5, K6, K7⟩, ⟨R0, R1, R2, R3, R4, R5, R6, R7⟩, Hbr, Hxs, Hpad, HD, HW, Hm, Hth, Hout⟩, HO⟩ Hk
  ihave Hth := (hand_over c) $$ Hth
  icases Hth with ⟨P0, P1, P2⟩
  ihave Hout := (out_start c) $$ Hout
  ihave Hout := (Entails.of_eq (slices_list c fun r => outTodo c r)) $$ Hout
  icases Hout with ⟨O0, O1, O2, O3, O4, O5, O6, O7⟩
  iapply (seq c _ _)
  iapply (part11 c)
  iintro %v2 %v5 %v8 %v11 %v24 %v27 %v30 %v31 %v32 %w
  try dsimp only
  iapply (seq c _ _)
  iapply (part12 m c _ _ _ _ _ _ _ _ _) $$ [Hb0 P0 Hb1 P1 HO]
  · isplitr; · iexact Hx
    isplitl [Hb0]; · iexact Hb0
    isplitl [P0]; · iexact P0
    isplitl [Hb1]; · iexact Hb1
    isplitl [P1]; · iexact P1
    iexact HO
  iintro %v40 %v43 %v44 %v64 %v65 HO
  try dsimp only
  iapply (seq c _ _)
  iapply (part13 m c _ _ _ (q := q)) $$ [Hb2 P2 Hbr Hxs Hpad HW Hm HO]
  · isplitr; · iexact Hx
    isplitl [Hb2]; · iexact Hb2
    isplitl [P2]; · iexact P2
    isplitl [Hbr]; · iexact Hbr
    isplitl [Hxs]; · iexact Hxs
    isplitl [Hpad]; · iexact Hpad
    isplitl [HW]; · iexact HW
    isplitl [Hm]; · iexact Hm
    iexact HO
  iintro %v89 ⟨Hbz, Hsl, Hxs, Hpad, Hm, HO⟩
  unfold slots
  icases Hsl with ⟨⟨S0, S1, S2⟩, ⟨S6, S7⟩, S3, S4, S5⟩
  ihave K0 := (tx_of c 0) $$ [S0 K0]
  · isplitl [S0]; · iexact S0
    iexact K0
  ihave K1 := (tx_of c 1) $$ [S1 K1]
  · isplitl [S1]; · iexact S1
    iexact K1
  ihave K2 := (tx_of c 2) $$ [S2 K2]
  · isplitl [S2]; · iexact S2
    iexact K2
  ihave K3 := (tx_of c 3) $$ [S3 K3]
  · isplitl [S3]; · iexact S3
    iexact K3
  ihave K4 := (tx_of c 4) $$ [S4 K4]
  · isplitl [S4]; · iexact S4
    iexact K4
  ihave K5 := (tx_of c 5) $$ [S5 K5]
  · isplitl [S5]; · iexact S5
    iexact K5
  ihave K6 := (tx_of c 6) $$ [S6 K6]
  · isplitl [S6]; · iexact S6
    iexact K6
  ihave K7 := (tx_of c 7) $$ [S7 K7]
  · isplitl [S7]; · iexact S7
    iexact K7
  ihave Hm := (mine_cut m c) $$ Hm
  ihave Hm := (Entails.of_eq (slices_list c fun r => mS m c r fullShare)) $$ Hm
  icases Hm with ⟨M0, M1, M2, M3, M4, M5, M6, M7⟩
  ihave M0 := (mS_half m c _ _) $$ M0
  icases M0 with ⟨M0, M0'⟩
  ihave M3 := (mS_half m c _ _) $$ M3
  icases M3 with ⟨M3, M3'⟩
  ihave M4 := (mS_half m c _ _) $$ M4
  icases M4 with ⟨M4, M4'⟩
  try dsimp only
  iapply (seq c _ _)
  iapply (part14 m c _ _ _ _ _) $$ [M0 K0 HO]
  · isplitr; · iexact Hx
    isplitl [M0]; · iexact M0
    isplitl [K0]; · iexact K0
    iexact HO
  iintro %r14 ⟨X0, HO⟩
  obtain ⟨v99, v110, w⟩ := r14
  try dsimp only
  iapply (seq c _ _)
  iapply (part15 m c _ _ _ _ _ _ _) $$ [M3 M4 K1 K2 HO]
  · isplitr; · iexact Hx
    isplitl [M3]; · iexact M3
    isplitl [M4]; · iexact M4
    isplitl [K1]; · iexact K1
    isplitl [K2]; · iexact K2
    iexact HO
  iintro %r15 ⟨X1, X2, HO⟩
  obtain ⟨v156, w⟩ := r15
  try dsimp only
  iapply (seq c _ _)
  iapply (part16 m c _ _ _ _ _ _ _ _ _ _) $$ [R0 K3 HO]
  · isplitr; · iexact Hx
    isplitl [R0]; · iexact R0
    isplitl [K3]; · iexact K3
    iexact HO
  iintro %r16 ⟨Z0, X3, T0, HO⟩
  try dsimp only
  iapply (seq c _ _)
  iapply (part17 m c _) $$ [M0' T0 K6 HD O0 HO]
  · isplitr; · iexact Hx
    isplitl [M0']; · iexact M0'
    isplitl [T0]; · iexact T0
    isplitl [K6]; · iexact K6
    isplitl [HD]; · iexact HD
    isplitl [O0]; · iexact O0
    iexact HO
  iintro %r17 ⟨X6, HD, O0, HO⟩
  try dsimp only
  iapply (seq c _ _)
  iapply (part18 m c _ _ _ _ _ _) $$ [R3 R6 HO]
  · isplitr; · iexact Hx
    isplitl [R3]; · iexact R3
    isplitl [R6]; · iexact R6
    iexact HO
  iintro %v254 ⟨Z3, Z6, T7, T1, HO⟩
  try dsimp only
  iapply (seq c _ _)
  iapply (part19 m c _ _ _ _ _) $$ [T7 K4 HO]
  · isplitr; · iexact Hx
    isplitl [T7]; · iexact T7
    isplitl [K4]; · iexact K4
    iexact HO
  iintro %r19 ⟨X4, T7, HO⟩
  obtain ⟨v289, w⟩ := r19
  try dsimp only
  iapply (seq c _ _)
  iapply (part20 m c _ _ _ _ _ _) $$ [T1 K7 M7 T7 HD HO]
  · isplitr; · iexact Hx
    isplitl [T1]; · iexact T1
    isplitl [K7]; · iexact K7
    isplitl [M7]; · iexact M7
    isplitl [T7]; · iexact T7
    isplitl [HD]; · iexact HD
    iexact HO
  iintro %v314 ⟨X7, T1, HD, HO⟩
  try dsimp only
  iapply (seq c _ _)
  iapply (part21 m c _ _) $$ [HD O7 M1 T1 HO]
  · isplitr; · iexact Hx
    isplitl [HD]; · iexact HD
    isplitl [O7]; · iexact O7
    isplitl [M1]; · iexact M1
    isplitl [T1]; · iexact T1
    iexact HO
  iintro %v340 ⟨O7, HD, HO⟩
  try dsimp only
  iapply (seq c _ _)
  iapply (part22 m c _ _ _ _ _) $$ [HD O1 R4 HO]
  · isplitr; · iexact Hx
    isplitl [HD]; · iexact HD
    isplitl [O1]; · iexact O1
    isplitl [R4]; · iexact R4
    iexact HO
  iintro %r22 ⟨O1, HD, Z4, T6, HO⟩
  obtain ⟨v381, v382, v383, w⟩ := r22
  try dsimp only
  iapply (seq c _ _)
  iapply (part23 m c _ _ _ _ _ _ _ _ _) $$ [R7 HO]
  · isplitr; · iexact Hx
    isplitl [R7]; · iexact R7
    iexact HO
  iintro %r23 ⟨Z7, T2, HO⟩
  obtain ⟨v416, v417⟩ := r23
  try dsimp only
  iapply (seq c _ _)
  iapply (part24 m c _ _ _ _) $$ [T6 K5 M6 HD HO]
  · isplitr; · iexact Hx
    isplitl [T6]; · iexact T6
    isplitl [K5]; · iexact K5
    isplitl [M6]; · iexact M6
    isplitl [HD]; · iexact HD
    iexact HO
  iintro %r24 ⟨X5, HD, HO⟩
  obtain ⟨v437, w⟩ := r24
  try dsimp only
  iapply (seq c _ _)
  iapply (part25 m c _ _ _ _) $$ [HD O6 M2 T2 O2 HO]
  · isplitr; · iexact Hx
    isplitl [HD]; · iexact HD
    isplitl [O6]; · iexact O6
    isplitl [M2]; · iexact M2
    isplitl [T2]; · iexact T2
    isplitl [O2]; · iexact O2
    iexact HO
  iintro %w ⟨HD, O6, O2, HO⟩
  try dsimp only
  iapply (seq c _ _)
  iapply (part26 m c _ _ _ _ _ _) $$ [R1 M3' HD HO]
  · isplitr; · iexact Hx
    isplitl [R1]; · iexact R1
    isplitl [M3']; · iexact M3'
    isplitl [HD]; · iexact HD
    iexact HO
  iintro %v501 ⟨Z1, HD, HO⟩
  try dsimp only
  iapply (seq c _ _)
  iapply (part27 m c _ _ _ _ _ _) $$ [HD O3 R2 HO]
  · isplitr; · iexact Hx
    isplitl [HD]; · iexact HD
    isplitl [O3]; · iexact O3
    isplitl [R2]; · iexact R2
    iexact HO
  iintro %v539 ⟨O3, HD, Z2, T4, HO⟩
  try dsimp only
  iapply (seq c _ _)
  iapply (part28 m c _ _ _ _ _) $$ [M4' T4 HD O4 HO]
  · isplitr; · iexact Hx
    isplitl [M4']; · iexact M4'
    isplitl [T4]; · iexact T4
    isplitl [HD]; · iexact HD
    isplitl [O4]; · iexact O4
    iexact HO
  iintro %r28 ⟨HD, O4, HO⟩
  obtain ⟨v571, v572⟩ := r28
  try dsimp only
  iapply (seq c _ _)
  iapply (part29 m c _ _ _) $$ [R5 M5 HD O5 HO]
  · isplitr; · iexact Hx
    isplitl [R5]; · iexact R5
    isplitl [M5]; · iexact M5
    isplitl [HD]; · iexact HD
    isplitl [O5]; · iexact O5
    iexact HO
  iintro %r29 ⟨Z5, HD, O5, HO⟩
  try dsimp only
  iapply (seq c _ _)
  iapply (part30 m c _ _ _) $$ [X0 X1 X2 HO]
  · isplitr; · iexact Hx
    isplitl [X0]; · iexact X0
    isplitl [X1]; · iexact X1
    isplitl [X2]; · iexact X2
    iexact HO
  iintro %v632 ⟨X0, X1, X2, HO⟩
  try dsimp only
  iapply (seq c _ _)
  iapply (part31 m c _ _) $$ [X3 X4 HO]
  · isplitr; · iexact Hx
    isplitl [X3]; · iexact X3
    isplitl [X4]; · iexact X4
    iexact HO
  iintro %r31 ⟨X3, X4, HO⟩
  obtain ⟨v658, v659, v660, v661, v662⟩ := r31
  try dsimp only
  iapply (seq c _ _)
  iapply (part32 m c _ _ _ _ _ _) $$ [X5 X6 HO]
  · isplitr; · iexact Hx
    isplitl [X5]; · iexact X5
    isplitl [X6]; · iexact X6
    iexact HO
  iintro %r32 ⟨X5, X6, HO⟩
  obtain ⟨v692, v693, v694⟩ := r32
  simp only [Prog.lift, Prog.bind_op, Prog.bind_ret, Prog.pure_eq_ret]
  iapply (do_sent m c 7 [] rfl credit_thr') $$ [X7 HO]
  · isplitr; · iexact Hx
    iframe X7 HO
  iintro ⟨X7, HO⟩
  iapply (wpc_ret c)
  iapply Hk
  isplitr [HO]
  · unfold exit_
    rw [eight (fun k => sz c k), eight (fun k => rz c k), out_rows c (result m c), slices_list c fun r => outPts c (outSlice r) (result m c)]
    isplitl [Hbz]; · iexact Hbz
    isplitl [X0 X1 X2 X3 X4 X5 X6 X7]
    · iframe X0 X1 X2 X3 X4 X5 X6 X7
    isplitl [Z0 Z1 Z2 Z3 Z4 Z5 Z6 Z7]
    · iframe Z0 Z1 Z2 Z3 Z4 Z5 Z6 Z7
    isplitl [Hxs]; · iexact Hxs
    isplitl [Hpad]; · iexact Hpad
    isplitl [HD]; · iexact HD
    unfold outDone
    iframe O0 O1 O2 O3 O4 O5 O6 O7
  iexact HO

end Cert.KernelIdeal.Mesh

end
-- ==== Proof.RunKernelIdeal.Point.lean ====
/-
# The kernel as the launch sees it

What a device holds when the kernel starts and when it ends, in the launch's own terms: the buffers on chip, the
semaphores that are not shared, the arrays. And the launch's obligation for the body, from the run of the body.
-/
module

public import proofs.«01_k».proof.Proof.RunKernelIdeal.Body

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

open Idealize.ShloMosaic.Pipeline (Dat BodyObligation)
/-! ## On-chip memory -/

/-- The semaphores nobody but the device itself uses. -/
def lows (c : Dev nD) : sProp 𝕄 :=
  iprop(sv c 1 ∗ sv c 2 ∗ sv c 3 ∗ sv c 4 ∗ sv c 5 ∗ sv c 6 ∗ sv c 7 ∗ sv c 8)

theorem w_two : wSet 0 ∪ wSet 1 = Finset.univ := by
  refine Finset.eq_univ_iff_forall.mpr fun i => ?_
  have h : (i 0).val < 2 := (i 0).isLt
  rcases (by omega : (i 0).val = 0 ∨ (i 0).val = 1) with h | h
  · exact Finset.mem_union_left _ (Finset.mem_filter.mpr ⟨Finset.mem_univ _, h⟩)
  · exact Finset.mem_union_right _ (Finset.mem_filter.mpr ⟨Finset.mem_univ _, h⟩)
theorem w_apart : Disjoint (wSet 0) (wSet 1) :=
  Finset.disjoint_left.mpr fun i h h' => by
    have a : (i 0).val = 0 := (Finset.mem_filter.mp h).2
    have b : (i 0).val = 1 := (Finset.mem_filter.mp h').2
    omega
theorem l_two : lSet 0 ∪ lSet 1 = Finset.univ := by
  refine Finset.eq_univ_iff_forall.mpr fun i => ?_
  have h : (i 0).val < 2 := (i 0).isLt
  rcases (by omega : (i 0).val = 0 ∨ (i 0).val = 1) with h | h
  · exact Finset.mem_union_left _ (Finset.mem_filter.mpr ⟨Finset.mem_univ _, h⟩)
  · exact Finset.mem_union_right _ (Finset.mem_filter.mpr ⟨Finset.mem_univ _, h⟩)
theorem l_apart : Disjoint (lSet 0) (lSet 1) :=
  Finset.disjoint_left.mpr fun i h h' => by
    have a : (i 0).val = 0 := (Finset.mem_filter.mp h).2
    have b : (i 0).val = 1 := (Finset.mem_filter.mp h').2
    omega

/-- A buffer held whole is held on two sets that make it up, and conversely. -/
theorem halve {ℓ : Loc nD τ sig} {I J : Finset (Idx ℓ)} (hu : I ∪ J = Finset.univ) (hd : Disjoint I J) :
    (iprop(∃ f : Buf (Elt F) ℓ, ℓ ↦{fullShare} f) : sProp 𝕄)
      ⊢ iprop((∃ f : Buf (Elt F) ℓ, ℓ ↦[I]{fullShare} f) ∗ ∃ f : Buf (Elt F) ℓ, ℓ ↦[J]{fullShare} f) := by
  iintro ⟨%f, H⟩
  ihave H := ((Entails.of_eq (congrArg (fun S => (ℓ ↦[S]{fullShare} f : sProp 𝕄)) hu.symm)).trans (pointsTo_union hd).1) $$ H
  icases H with ⟨H1, H2⟩
  isplitl [H1]
  · iexists f; iexact H1
  iexists f; iexact H2
theorem unhalve {ℓ : Loc nD τ sig} {I J : Finset (Idx ℓ)} (hu : I ∪ J = Finset.univ) (hd : Disjoint I J) :
    (iprop((∃ f : Buf (Elt F) ℓ, ℓ ↦[I]{fullShare} f) ∗ ∃ f : Buf (Elt F) ℓ, ℓ ↦[J]{fullShare} f) : sProp 𝕄)
      ⊢ iprop(∃ f : Buf (Elt F) ℓ, ℓ ↦{fullShare} f) := by
  iintro ⟨⟨%f, H1⟩, ⟨%g, H2⟩⟩
  iexists (J.piecewise g f)
  iapply ((pointsTo_join hd).trans (Entails.of_eq (congrArg (fun S => (ℓ ↦[S]{fullShare} (J.piecewise g f) : sProp 𝕄)) hu))) $$ [H1 H2]
  isplitl [H1]; · iexact H1
  iexact H2

def ws2 (c : Dev nD) : sProp 𝕄 := iprop(∃ f : Buf (Elt F) ((c : Thread nD τ).loc cc0_scratch1), ((c : Thread nD τ).loc cc0_scratch1) ↦{fullShare} f)
def lb2 (c : Dev nD) : sProp 𝕄 := iprop(∃ f : Buf (Elt F) ((c : Thread nD τ).loc cc0_scratch2), ((c : Thread nD τ).loc cc0_scratch2) ↦{fullShare} f)

theorem ws_cut (c : Dev nD) : (ws2 c : sProp 𝕄) ⊢ iprop((∃ f, wsP c 0 f) ∗ ∃ f, wsP c 1 f) := by
  unfold ws2 wsP; exact halve w_two w_apart
theorem ws_glue (c : Dev nD) : iprop((∃ f, wsP c 0 f) ∗ ∃ f, wsP c 1 f) ⊢ (ws2 c : sProp 𝕄) := by
  unfold ws2 wsP; exact unhalve (ℓ := (c : Thread nD τ).loc cc0_scratch1) w_two w_apart
theorem lb_cut (c : Dev nD) : (lb2 c : sProp 𝕄) ⊢ iprop((∃ f, lbP c 0 f) ∗ ∃ f, lbP c 1 f) := by
  unfold lb2 lbP; exact halve l_two l_apart
theorem lb_glue (c : Dev nD) : iprop((∃ f, lbP c 0 f) ∗ ∃ f, lbP c 1 f) ⊢ (lb2 c : sProp 𝕄) := by
  unfold lb2 lbP; exact unhalve (ℓ := (c : Thread nD τ).loc cc0_scratch2) l_two l_apart

theorem scopedRest_is (c : Dev nD) :
    (Pipeline.scopedRest (Ix := Unit) (Name := ℕ) (U := UU) (Lvl := ℕ) (Val := Elt F) spec0 c : sProp 𝕄)
      = iprop((∃ f, xbP c f) ∗ ws2 c ∗ lb2 c ∗ (∃ f, mcAt c f) ∗ (∃ f, tcAt c f) ∗ (∃ f, q1At c f) ∗ (∃ f, q2At c f)) := by
  rw [scopedRest0_eq]; rfl

theorem rooms (c : Dev nD) :
    iprop(Pipeline.scopedRest (Ix := Unit) (Name := ℕ) (U := UU) (Lvl := ℕ) (Val := Elt F) spec0 c ∗ lows c) ⊢ (iprop(pad c ∗ desk c) : sProp 𝕄) := by
  rw [scopedRest_is]
  unfold pad wRest desk lows
  iintro ⟨⟨H0, H1, H2, H3, H4, H5, H6⟩, S1, S2, S3, S4, S5, S6, S7, S8⟩
  ihave H1 := (ws_cut c) $$ H1
  icases H1 with ⟨A0, A1⟩
  ihave H2 := (lb_cut c) $$ H2
  icases H2 with ⟨B0, B1⟩
  isplitl [H0 A0 A1 B0 B1 S1 S2 S3 S4]
  · isplitl [H0]; · iexact H0
    isplitl [A0 A1 S1 S2]
    · isplitl [A0]; · iexact A0
      isplitl [A1]; · iexact A1
      isplitl [S1]; · iexact S1
      iexact S2
    isplitl [B0 S3]
    · isplitl [B0]; · iexact B0
      iexact S3
    isplitl [B1]; · iexact B1
    iexact S4
  iframe H3 H4 H5 H6 S5 S6 S7 S8

theorem unrooms (c : Dev nD) :
    (iprop(pad c ∗ desk c) : sProp 𝕄) ⊢ iprop(Pipeline.scopedRest (Ix := Unit) (Name := ℕ) (U := UU) (Lvl := ℕ) (Val := Elt F) spec0 c ∗ lows c) := by
  rw [scopedRest_is]
  unfold pad wRest desk lows
  iintro ⟨⟨H0, ⟨A0, A1, S1, S2⟩, ⟨B0, S3⟩, ⟨B1, S4⟩⟩, H3, H4, H5, H6, S5, S6, S7, S8⟩
  isplitl [H0 A0 A1 B0 B1 H3 H4 H5 H6]
  · isplitl [H0]; · iexact H0
    isplitl [A0 A1]
    · iapply (ws_glue c) $$ [A0 A1]
      isplitl [A0]; · iexact A0
      iexact A1
    isplitl [B0 B1]
    · iapply (lb_glue c) $$ [B0 B1]
      isplitl [B0]; · iexact B0
      iexact B1
    iframe H3 H4 H5 H6
  isplitl [S1]; · iexact S1
  isplitl [S2]; · iexact S2
  isplitl [S3]; · iexact S3
  isplitl [S4]; · iexact S4
  iframe S5 S6 S7 S8

/-! ## The launch's data -/

variable (ρ : Dev nD → PrngReg)

/-- What a device holds at the start beside its on-chip buffers. -/
def start (c : Dev nD) : sProp 𝕄 :=
  iprop(Cx m ∗ hand c ∗ (bigSep Finset.univ fun k => tk c k) ∗ (bigSep Finset.univ fun k => rx c k) ∗ br c ∗ lows c
    ∗ wP m c fullShare.left Finset.univ ∗ (∃ f, mP c Finset.univ f) ∗ thP c ∗ ∃ f, outPts c Finset.univ f)
/-- Before the body. -/
def Φ₀ (c : Dev nD) : sProp 𝕄 := iprop(start m c ∗ Pipeline.scopedRest (Ix := Unit) (Name := ℕ) (U := UU) (Lvl := ℕ) (Val := Elt F) spec0 c)
/-- After it. -/
def Φ₁ (c : Dev nD) : sProp 𝕄 :=
  iprop(bz c ∗ (bigSep Finset.univ fun k => sz c k) ∗ (bigSep Finset.univ fun k => rz c k) ∗ lows c
    ∗ Pipeline.scopedRest (Ix := Unit) (Name := ℕ) (U := UU) (Lvl := ℕ) (Val := Elt F) spec0 c ∗ outPts c Finset.univ (result m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem index_x : ∀ t : Fin cfg0.N, win0_0.index t (0 : Fin 2) = 0 ∧ win0_0.index t (1 : Fin 2) = 0 :=
  (by decide +kernel : ∀ t : Fin grid0.N, _)
/-- The window is the whole array. -/
theorem emb_x (t : Fin cfg0.N) (j : S1024x2048.Idx) : ((cfg0.win 0).blk t).view.emb j = j := by
  obtain ⟨e0, e1⟩ := index_x t
  funext a; apply Fin.ext
  match a with
  | ⟨0, _⟩ => show win0_0.index t (0 : Fin 2) * 1024 + 1 * (j 0).val = (j 0).val; omega
  | ⟨1, _⟩ => show win0_0.index t (1 : Fin 2) * 2048 + 1 * (j 1).val = (j 1).val; omega

/-- The block the kernel finds staged is the device's first operand. -/
theorem fetched_x (c : Dev nD) (d : (cfg0.win (0 : Fin 1)).block.Idx → Elt F (cfg0.win (0 : Fin 1)).elt) :
    (dats m ρ 0 c).before (0 : Fin 1) t0_0 d = xin m c := by
  unfold Dat.before; rw [if_pos (by rfl)]
  exact funext fun j => congrArg (m ((c : Thread nD τ).loc main_arg0)) (emb_x t0_0 j)

theorem body_run' (c : Dev nD) (Kt : PUnit → sProp 𝕄) :
    iprop(Φ₀ m c ∗ (dats m ρ 0 c).owesAt () t0_0.castSucc ∗ xsP c (xin m c))
      ⊢ iprop((Φ₁ m c ∗ (dats m ρ 0 c).owesAt () t0_0.succ ∗ xsP c (xin m c) -∗ Kt ⟨⟩) -∗ wpc c (cc0_body (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16) Kt) := by
  unfold Φ₀ start Dat.owesAt Pipeline.owesWithin
  iintro ⟨⟨⟨#HC, Hh, Htk, Hrx, Hbr, Hlo, HW, HM, HT, HO⟩, Hsc⟩, ⟨%W, %hW, Hw⟩, Hx⟩ Hk
  ihave Hrm := (rooms c) $$ [Hsc Hlo]
  · isplitl [Hsc]; · iexact Hsc
    iexact Hlo
  icases Hrm with ⟨Hpad, Hdesk⟩
  iapply (body_run m c fullShare.left Kt) $$ [Hh Htk Hrx Hbr HW HM HT HO Hpad Hdesk Hw Hx]
  · isplitr; · iexact HC
    isplitr [Hw]
    · unfold entry
      isplitl [Hh]; · iexact Hh
      isplitl [Htk]; · iexact Htk
      isplitl [Hrx]; · iexact Hrx
      isplitl [Hbr]; · iexact Hbr
      isplitl [Hx]; · iexact Hx
      isplitl [Hpad]; · iexact Hpad
      isplitl [Hdesk]; · iexact Hdesk
      isplitl [HW]; · iexact HW
      isplitl [HM]; · iexact HM
      isplitl [HT]; · iexact HT
      iexact HO
    unfold ow; iexists W; iexact Hw
  unfold exit_ ow
  iintro ⟨⟨Hbz, Hsz, Hrz, Hx, Hpad, Hdesk, Hout⟩, ⟨%W', Hw⟩⟩
  iapply Hk
  ihave Hrm := (unrooms c) $$ [Hpad Hdesk]
  · isplitl [Hpad]; · iexact Hpad
    iexact Hdesk
  icases Hrm with ⟨Hsc, Hlo⟩
  unfold Φ₁
  isplitl [Hbz Hsz Hrz Hsc Hlo Hout]
  · isplitl [Hbz]; · iexact Hbz
    isplitl [Hsz]; · iexact Hsz
    isplitl [Hrz]; · iexact Hrz
    isplitl [Hlo]; · iexact Hlo
    isplitl [Hsc]; · iexact Hsc
    iexact Hout
  isplitl [Hw]
  · iexists W'
    isplitr
    · ipureintro; exact fun _ _ => Or.inl trivial
    iexact Hw
  iexact Hx

def bodyPre (c : Dev nD) : sProp 𝕄 :=
  iprop(Φ₀ m c ∗ (dats m ρ 0 c).owesAt () t0_0.castSucc ∗ ∃ d, stg c cc0_stg0_0 ((dats m ρ 0 c).before (0 : Fin 1) t0_0 d))
def bodyPost (c : Dev nD) : sProp 𝕄 :=
  iprop(Φ₁ m c ∗ (dats m ρ 0 c).owesAt () t0_0.succ ∗ stg c cc0_stg0_0 (xin m c))

theorem body_sound (c : Dev nD) : bodyPre m ρ c ⊢ wpc c (cc0_body (F := F) (Memref.whole cc0_stg0_0) (hstage0_0 0) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16) (fun _ => bodyPost m ρ c) := by
  unfold bodyPre
  iintro ⟨H0, Hw, ⟨%d, %f, %hf, Hx⟩⟩
  iapply (body_run' m ρ c (fun _ => bodyPost m ρ c)) $$ [H0 Hw Hx]
  · isplitl [H0]; · iexact H0
    isplitl [Hw]; · iexact Hw
    subst hf
    rw [fetched_x]
    unfold xsP
    iexact Hx
  unfold bodyPost
  iintro ⟨H1, Hw, Hx⟩
  isplitl [H1]; · iexact H1
  isplitl [Hw]; · iexact Hw
  iexists (xin m c)
  isplitr
  · ipureintro; rfl
  unfold xsP
  iexact Hx

/-- The launch's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_sound m ρ c

end Cert.KernelIdeal.Mesh

end
-- ==== Proof.RunKernelIdeal.Mint.lean ====
/-
# Setting the protocol up

At launch every shared counter is zero. One step turns the zero counters of all the devices into the protocol's cells,
deals every device the rights to the payments it makes, and splits the credit of the launch into the payments every
device is going to receive.
-/
module

public import proofs.«01_k».proof.Proof.RunKernelIdeal.Point

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

open Idealize.ShloMosaic.Pipeline (Dat BodyObligation)

/-! ## Counting a device's cells -/

theorem seventeen (Φ : Fin 17 → sProp 𝕄) :
    bigSep Finset.univ Φ ⊢ iprop(Φ 0 ∗ (bigSep Finset.univ fun k : Fin 8 => Φ (sendIx k)) ∗ bigSep Finset.univ fun k : Fin 8 => Φ (recvIx k)) := by
  rw [bigSep_univ_eq_bigSepL [0, 1, 2, 3, 4, 5, 6, 7, 8, 9, 10, 11, 12, 13, 14, 15, 16] (by decide) (by decide) Φ,
    eight (fun k => Φ (sendIx k)), eight (fun k => Φ (recvIx k))]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16)
    ⊢ iprop(Φ 0 ∗ (Φ 1 ∗ Φ 2 ∗ Φ 3 ∗ Φ 4 ∗ Φ 5 ∗ Φ 6 ∗ Φ 7 ∗ Φ 8) ∗ (Φ 9 ∗ Φ 10 ∗ Φ 11 ∗ Φ 12 ∗ Φ 13 ∗ Φ 14 ∗ Φ 15 ∗ Φ 16))
  iintro ⟨H0, H1, H2, H3, H4, H5, H6, H7, H8, H9, H10, H11, H12, H13, H14, H15, H16⟩
  iframe H0
  isplitl [H1 H2 H3 H4 H5 H6 H7 H8]
  · iframe H1 H2 H3 H4 H5 H6 H7 H8
  iframe H9 H10 H11 H12 H13 H14 H15 H16
theorem seventeen' (Φ : Fin 17 → sProp 𝕄) :
    iprop(Φ 0 ∗ (bigSep Finset.univ fun k : Fin 8 => Φ (sendIx k)) ∗ bigSep Finset.univ fun k : Fin 8 => Φ (recvIx k)) ⊢ bigSep Finset.univ Φ := by
  rw [bigSep_univ_eq_bigSepL [0, 1, 2, 3, 4, 5, 6, 7, 8, 9, 10, 11, 12, 13, 14, 15, 16] (by decide) (by decide) Φ,
    eight (fun k => Φ (sendIx k)), eight (fun k => Φ (recvIx k))]
  show iprop(Φ 0 ∗ (Φ 1 ∗ Φ 2 ∗ Φ 3 ∗ Φ 4 ∗ Φ 5 ∗ Φ 6 ∗ Φ 7 ∗ Φ 8) ∗ (Φ 9 ∗ Φ 10 ∗ Φ 11 ∗ Φ 12 ∗ Φ 13 ∗ Φ 14 ∗ Φ 15 ∗ Φ 16))
    ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16)
  iintro ⟨H0, ⟨H1, H2, H3, H4, H5, H6, H7, H8⟩, H9, H10, H11, H12, H13, H14, H15, H16⟩
  iframe H0 H1 H2 H3 H4 H5 H6 H7 H8 H9 H10 H11 H12 H13 H14 H15 H16

theorem kcell_bar (c : Dev nD) : kcell (c, 0) = barCell c := rfl
theorem kcell_send (c : Dev nD) (k : Fin 8) : kcell (c, sendIx k) = sendCell c k := congrArg (Prod.mk _) (csem_send k)
theorem kcell_recv (c : Dev nD) (k : Fin 8) : kcell (c, recvIx k) = recvCell c k := congrArg (Prod.mk _) (csem_recv k)

/-- Something said of every cell of a device is said of its barrier, its send cells and its receive cells. -/
theorem cells_out (c : Dev nD) (Φ : GSem nD τ sig → sProp 𝕄) :
    (bigSep Finset.univ fun j : Fin 17 => Φ (kcell (c, j)))
      ⊢ iprop(Φ (barCell c) ∗ (bigSep Finset.univ fun k : Fin 8 => Φ (sendCell c k)) ∗ bigSep Finset.univ fun k : Fin 8 => Φ (recvCell c k)) :=
  (seventeen fun j => Φ (kcell (c, j))).trans (Entails.of_eq (by simp only [kcell_send, kcell_recv]; rfl))
theorem cells_in (c : Dev nD) (Φ : GSem nD τ sig → sProp 𝕄) :
    iprop(Φ (barCell c) ∗ (bigSep Finset.univ fun k : Fin 8 => Φ (sendCell c k)) ∗ bigSep Finset.univ fun k : Fin 8 => Φ (recvCell c k))
      ⊢ bigSep Finset.univ fun j : Fin 17 => Φ (kcell (c, j)) :=
  (Entails.of_eq (by simp only [kcell_send, kcell_recv]; rfl)).trans (seventeen' fun j => Φ (kcell (c, j)))

theorem csem_injective : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def meshCells : Finset (GSem nD τ sig) := Finset.univ.map ⟨kcell, kcell_injective⟩

/-- The rights to pay, as minted: three for every cell of every device (the rights no payment uses are dropped). -/
abbrev tokOf (p : (Dev nD × Fin 17) × Fin 3) : GSem nD τ sig × ℕ × Fin 3 := (kcell p.1, 0, p.2)
theorem tokOf_injective : Function.Injective tokOf := by
  rintro ⟨p, d⟩ ⟨p', d'⟩ h
  have h1 : p = p' := kcell_injective (congrArg Prod.fst h)
  have h2 : d = d' := congrArg (fun x : GSem nD τ sig × ℕ × Fin 3 => x.2.2) h
  rw [h1, h2]
def meshToks : Finset (GSem nD τ sig × ℕ × Fin 3) := Finset.univ.map ⟨tokOf, tokOf_injective⟩

/-- The rights to the payments of device `c`'s own cells. -/
def toks (c : Dev nD) : sProp 𝕄 :=
  iprop((dutyTok ER (barCell c) 0 0 ∗ dutyTok ER (barCell c) 0 1 ∗ dutyTok ER (barCell c) 0 2)
    ∗ (bigSep Finset.univ fun k : Fin 8 => dutyTok ER (sendCell c k) 0 0) ∗ bigSep Finset.univ fun k : Fin 8 => dutyTok ER (recvCell c k) 0 0)

def three (g : GSem nD τ sig) : sProp 𝕄 := iprop(dutyTok ER g 0 0 ∗ dutyTok ER g 0 1 ∗ dutyTok ER g 0 2)
theorem three_first (g : GSem nD τ sig) : (three g : sProp 𝕄) ⊢ dutyTok ER g 0 0 := by
  unfold three; iintro ⟨H, -, -⟩; iexact H

theorem all_first (g : Fin 8 → GSem nD τ sig) :
    (bigSep Finset.univ fun k => three (g k) : sProp 𝕄) ⊢ bigSep Finset.univ fun k => dutyTok ER (g k) 0 0 :=
  bigSep_mono fun k _ => three_first (g k)
theorem three_of (g : GSem nD τ sig) : (bigSep Finset.univ fun d : Fin 3 => dutyTok ER g 0 d : sProp 𝕄) ⊢ three g :=
  Entails.of_eq (bigSep_univ_eq_bigSepL [0, 1, 2] (by decide) (by decide) fun d : Fin 3 => (dutyTok ER g 0 d : sProp 𝕄))

theorem toks_of (c : Dev nD) : (bigSep Finset.univ fun j : Fin 17 => (three (kcell (c, j)) : sProp 𝕄)) ⊢ toks c := by
  refine (cells_out c three).trans ?_
  unfold toks
  iintro ⟨HB, HS, HR⟩
  ihave HS := (all_first fun k => sendCell c k) $$ HS
  ihave HR := (all_first fun k => recvCell c k) $$ HR
  isplitl [HB]
  · unfold three; iexact HB
  isplitl [HS]; · iexact HS
  iexact HR

/-- What the launch deals device `c`. -/
def G (c : Dev nD) : sProp 𝕄 :=
  iprop((bigSep Finset.univ fun j : Fin 17 => roundState ER (Rd m) (kcell (c, j)) 0)
    ∗ (bigSep Finset.univ fun j : Fin 17 => atPos ER (kcell (c, j)) 0 ∅ 0) ∗ (bigSep Finset.univ fun j : Fin 17 => reached ER (kcell (c, j)) 0) ∗ toks c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun j : Fin 17 => Φ (kcell (c, j)) := by
    unfold meshCells; rw [bigSep_map, bigSep_univ_prod]; rfl
  have hT : bigSep meshToks (fun x => (dutyTok ER x.1 x.2.1 x.2.2 : sProp 𝕄)) ⊢ bigSep Finset.univ fun c : Dev nD => toks c := by
    unfold meshToks; rw [bigSep_map, bigSep_univ_prod, bigSep_univ_prod]
    refine bigSep_mono fun c _ => ?_
    exact (bigSep_mono fun j _ => three_of (kcell (c, j))).trans (toks_of c)
  iintro HX
  imod (Rounds.fund ER (Rd m) meshCells meshToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr']; · iexact Hr'
  iexact Htok'

/-! ## The semaphores of a device -/

def osem : Fin 24 → SemLoc sig := fun i => .dma ⟨i.val + 1, by have := i.isLt; show i.val + 1 < 25; omega⟩
theorem ownSemFacts : Pipeline.OwnSemFacts cfg0.spec osem := by decide

abbrev own0 (c : Dev nD) : sProp 𝕄 := Pipeline.ownSems0 (Ix := Unit) (Name := ℕ) (U := UU) (Lvl := ℕ) (Val := Elt F) (τ := τ) osem c

theorem own_list (c : Dev nD) : (own0 c : sProp 𝕄)
    = iprop(sv c 1 ∗ sv c 2 ∗ sv c 3 ∗ sv c 4 ∗ sv c 5 ∗ sv c 6 ∗ sv c 7 ∗ sv c 8 ∗ sz c 0 ∗ sz c 1 ∗ sz c 2 ∗ rz c 0 ∗ rz c 1 ∗ rz c 2
      ∗ sz c 3 ∗ sz c 4 ∗ sz c 5 ∗ rz c 3 ∗ rz c 4 ∗ rz c 5 ∗ sz c 6 ∗ sz c 7 ∗ rz c 6 ∗ rz c 7) := by
  unfold own0
  rw [Pipeline.ownSems0_eq_of_list c osem [0, 1, 2, 3, 4, 5, 6, 7, 8, 9, 10, 11, 12, 13, 14, 15, 16, 17, 18, 19, 20, 21, 22, 23] (by decide) (by decide)]
  rfl

theorem own_out (c : Dev nD) : (own0 c : sProp 𝕄) ⊢ iprop(lows c ∗ (bigSep Finset.univ fun k => sz c k) ∗ bigSep Finset.univ fun k => rz c k) := by
  rw [own_list, eight (fun k => sz c k), eight (fun k => rz c k)]
  unfold lows
  iintro ⟨A1, A2, A3, A4, A5, A6, A7, A8, S0, S1, S2, R0, R1, R2, S3, S4, S5, R3, R4, R5, S6, S7, R6, R7⟩
  isplitl [A1 A2 A3 A4 A5 A6 A7 A8]
  · iframe A1 A2 A3 A4 A5 A6 A7 A8
  isplitl [S0 S1 S2 S3 S4 S5 S6 S7]
  · iframe S0 S1 S2 S3 S4 S5 S6 S7
  iframe R0 R1 R2 R3 R4 R5 R6 R7
theorem own_in (c : Dev nD) : iprop(lows c ∗ (bigSep Finset.univ fun k => sz c k) ∗ bigSep Finset.univ fun k => rz c k) ⊢ (own0 c : sProp 𝕄) := by
  rw [own_list, eight (fun k => sz c k), eight (fun k => rz c k)]
  unfold lows
  iintro ⟨⟨A1, A2, A3, A4, A5, A6, A7, A8⟩, ⟨S0, S1, S2, S3, S4, S5, S6, S7⟩, R0, R1, R2, R3, R4, R5, R6, R7⟩
  iframe A1 A2 A3 A4 A5 A6 A7 A8 S0 S1 S2 R0 R1 R2 S3 S4 S5 R3 R4 R5 S6 S7 R6 R7

theorem unscoped_is (c : Dev nD) : (unscopedSems0 c : sProp 𝕄) = bz c := by
  unfold unscopedSems0; rw [bigSep_eq_bigSepL_of_eq [SemLoc.reg barS] (by decide) (by decide)]; rfl

/-! ## The cells made -/

theorem know_of (g : GSem nD τ sig) : iprop((∃ κ : ℕ, cellInv ER (Rd m) κ g) ∗ reached ER g 0) ⊢ know m g := by
  unfold know
  iintro ⟨⟨%κ, H⟩, Hr⟩
  iexists κ
  iframe H Hr

theorem core_alloc (c : Dev nD) :
    iprop(own0 c ∗ unscopedSems0 c ∗ G m c)
      ⊢ |={Set.univ}=> iprop(((bigSep Finset.univ fun j : Fin 17 => know m (kcell (c, j)))
          ∗ (bigSep Finset.univ fun j : Fin 17 => atPos ER (kcell (c, j)) 0 ∅ 0) ∗ lows c) ∗ toks c) := by
  have hv : iprop(bz c ∗ (bigSep Finset.univ fun k => sz c k) ∗ bigSep Finset.univ fun k => rz c k)
      ⊢ (bigSep Finset.univ fun j : Fin 17 => semVal (kcell (c, j)) 0 : sProp 𝕄) := cells_in c fun g => semVal g 0
  rw [unscoped_is]
  unfold G
  iintro ⟨Hos, Hus, Hst, Hat, Hr, Htok⟩
  ihave Ho := (own_out c) $$ Hos
  icases Ho with ⟨Hlo, Hsz, Hrz⟩
  ihave Hv := hv $$ [Hus Hsz Hrz]
  · iframe Hus Hsz Hrz
  imod (show iprop((bigSep Finset.univ fun j : Fin 17 => semVal (kcell (c, j)) 0) ∗ bigSep Finset.univ fun j : Fin 17 => roundState ER (Rd m) (kcell (c, j)) 0)
      ⊢ (|={Set.univ}=> bigSep Finset.univ fun j : Fin 17 => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · iframe Hv Hst
  imodintro
  isplitr [Htok]
  · isplitl [Hinv Hr]
    · iapply ((Entails.of_eq (bigSep_sep' Finset.univ (fun j : Fin 17 => iprop(∃ κ : ℕ, cellInv ER (Rd m) κ (kcell (c, j)))) (fun j : Fin 17 => reached ER (kcell (c, j)) 0)).symm).trans
        (bigSep_mono fun j _ => know_of m (kcell (c, j)))) $$ [Hinv Hr]
      iframe Hinv Hr
    iframe Hat Hlo
  iexact Htok

/-- The rights to the payments device `c` makes. -/
def payToks (c : Dev nD) : sProp 𝕄 :=
  iprop(hand c ∗ (bigSep Finset.univ fun k : Fin 8 => dutyTok ER (sendCell c k) 0 0) ∗ bigSep Finset.univ fun k : Fin 8 => dutyTok ER (recvCell (tgt c k) k) 0 0)

/-- Every device and transfer, moved to where the transfer lands. -/
def landE : Dev nD × Fin 8 ≃ Dev nD × Fin 8 where
  toFun p := (tgtE p.2 p.1, p.2)
  invFun p := ((tgtE p.2).symm p.1, p.2)
  left_inv p := by simp
  right_inv p := by simp

theorem toks_around : (bigSep Finset.univ fun c : Dev nD => (toks c : sProp 𝕄)) ⊢ bigSep Finset.univ fun c : Dev nD => payToks c := by
  unfold toks payToks hand
  simp only [bigSep_sep']
  rw [bigSep_univ_equiv parE (fun c : Dev nD => (dutyTok ER (barCell c) 0 0 : sProp 𝕄)),
    bigSep_univ_equiv nxtE (fun c : Dev nD => (dutyTok ER (barCell c) 0 1 : sProp 𝕄)),
    bigSep_univ_equiv nxtE.symm (fun c : Dev nD => (dutyTok ER (barCell c) 0 2 : sProp 𝕄)),
    ← bigSep_univ_prod (fun p : Dev nD × Fin 8 => (dutyTok ER (recvCell p.1 p.2) 0 0 : sProp 𝕄)),
    bigSep_univ_equiv landE (fun p : Dev nD × Fin 8 => (dutyTok ER (recvCell p.1 p.2) 0 0 : sProp 𝕄)), bigSep_univ_prod]
  exact Entails.of_eq rfl

/-- What the step at launch makes for device `c`. -/
def G' (c : Dev nD) : sProp 𝕄 :=
  iprop(known m ∗ ((bigSep Finset.univ fun j : Fin 17 => atPos ER (kcell (c, j)) 0 ∅ 0) ∗ lows c) ∗ payToks c)

theorem deal {S : Finset (Dev nD)} {R : sProp 𝕄} [BI.Persistent R] (Φ : Dev nD → sProp 𝕄) :
    iprop(R ∗ bigSep S Φ) ⊢ bigSep S fun c => iprop(R ∗ Φ c) :=
  (sep_mono_left (BI.bigSep_of_persistent S R)).trans (Entails.of_eq (bigSep_sep' S (fun _ => R) Φ).symm)

theorem regroup :
    (bigSep Finset.univ fun c : Dev nD => iprop(((bigSep Finset.univ fun j : Fin 17 => know m (kcell (c, j)))
          ∗ (bigSep Finset.univ fun j : Fin 17 => atPos ER (kcell (c, j)) 0 ∅ 0) ∗ lows c) ∗ toks c) : sProp 𝕄)
      ⊢ bigSep Finset.univ (G' m) := by
  have hk : (bigSep Finset.univ fun c : Dev nD => bigSep Finset.univ fun j : Fin 17 => know m (kcell (c, j))) = known m :=
    (bigSep_univ_prod (fun p : Dev nD × Fin 17 => know m (kcell p))).symm
  rw [bigSep_sep', bigSep_sep', hk]
  iintro ⟨⟨#HK, Hat⟩, Htok⟩
  ihave Htk := (toks_around (F := F)) $$ Htok
  iapply (deal (R := known m) fun c => iprop(((bigSep Finset.univ fun j : Fin 17 => atPos ER (kcell (c, j)) 0 ∅ 0) ∗ lows c) ∗ payToks c)) $$ [Hat Htk]
  isplitr; · iexact HK
  rw [bigSep_sep' Finset.univ (fun c : Dev nD => iprop((bigSep Finset.univ fun j : Fin 17 => atPos ER (kcell (c, j)) 0 ∅ 0) ∗ lows c)) (fun c : Dev nD => payToks c)]
  iframe Hat Htk

/-- The step at launch: the counters of all the devices at once. -/
theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit of the launch -/

theorem bar_inj {a b : Dev nD} (h : barCell a = barCell b) : a = b := Fin.ext (congrArg (fun g : GSem nD τ sig => g.1.1.val) h)
theorem recvSem_injective : Function.Injective recvSem := by decide
theorem recv_inj {a b : Dev nD} {k l : Fin 8} (h : recvCell a k = recvCell b l) : a = b ∧ k = l :=
  ⟨Fin.ext (congrArg (fun g : GSem nD τ sig => g.1.1.val) h), recvSem_injective (SemLoc.dma.inj (congrArg Prod.snd h))⟩
theorem bar_ne_recv {a b : Dev nD} {k : Fin 8} : barCell a ≠ recvCell b k := fun h => by cases congrArg Prod.snd h

theorem oweR_bar (d c : Dev nD) (l : List (Fin 8)) : oweR d l (barCell c) () = 0 := by
  induction l with
  | nil => rfl
  | cons k l ih => unfold oweR rcv; rw [Pi.add_apply, Finsupp.add_apply, ih, tallyAt_ne_cell bar_ne_recv]; rfl

theorem owed_bar (d c : Dev nD) :
    O₀ d (barCell c) () = ((if d = nxt c then 1 else 0) + (if d = prv c then 1 else 0)) + if d = par c then 1 else 0 := by
  unfold O₀ O₂ O₁
  rw [Pi.add_apply, Finsupp.add_apply, Pi.add_apply, Finsupp.add_apply, Pi.add_apply, Finsupp.add_apply, oweR_bar, Nat.zero_add,
    tallyAt_apply, tallyAt_apply, tallyAt_apply]
  have e1 : (barCell c = barCell (prv d) ∧ (() : Unit) = ()) ↔ d = nxt c :=
    ⟨fun h => by rw [bar_inj h.1, nxt_prv], fun h => ⟨by rw [h, prv_nxt], rfl⟩⟩
  have e2 : (barCell c = barCell (nxt d) ∧ (() : Unit) = ()) ↔ d = prv c :=
    ⟨fun h => by rw [bar_inj h.1, prv_nxt], fun h => ⟨by rw [h, nxt_prv], rfl⟩⟩
  have e3 : (barCell c = barCell (par d) ∧ (() : Unit) = ()) ↔ d = par c :=
    ⟨fun h => by rw [bar_inj h.1, par_par], fun h => ⟨by rw [h, par_par], rfl⟩⟩
  rw [if_congr e1 rfl rfl, if_congr e2 rfl rfl, if_congr e3 rfl rfl]

theorem oweR_recv (d c : Dev nD) (k : Fin 8) (l : List (Fin 8)) :
    oweR d l (recvCell c k) () = l.count k * if d = (tgtE k).symm c then N else 0 := by
  induction l with
  | nil => rw [List.count_nil, Nat.zero_mul]; rfl
  | cons j l ih =>
    unfold oweR rcv
    rw [Pi.add_apply, Finsupp.add_apply, ih, tallyAt_apply, List.count_cons, Nat.add_mul]
    congr 1
    by_cases hj : j = k
    · subst hj
      have e : (recvCell c j = recvCell (tgt d j) j ∧ (() : Unit) = ()) ↔ d = (tgtE j).symm c :=
        ⟨fun h => by rw [(recv_inj h.1).1]; unfold tgt; rw [Equiv.symm_apply_apply],
          fun h => ⟨by rw [h]; unfold tgt; rw [Equiv.apply_symm_apply], rfl⟩⟩
      rw [if_congr e rfl rfl, beq_self_eq_true, if_pos rfl, Nat.one_mul]
    · rw [if_neg fun h => hj (recv_inj h.1).2.symm, if_neg (by simpa using hj), Nat.zero_mul]

theorem count_order (k : Fin 8) : order.count k = 1 := by revert k; decide

theorem owed_recv (d c : Dev nD) (k : Fin 8) : O₀ d (recvCell c k) () = if d = (tgtE k).symm c then N else 0 := by
  unfold O₀ O₂ O₁
  rw [Pi.add_apply, Finsupp.add_apply, Pi.add_apply, Finsupp.add_apply, Pi.add_apply, Finsupp.add_apply,
    tallyAt_ne_cell (fun h => bar_ne_recv h.symm), tallyAt_ne_cell (fun h => bar_ne_recv h.symm), tallyAt_ne_cell (fun h => bar_ne_recv h.symm),
    oweR_recv, count_order, Nat.one_mul]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nxt c) fun _ => 1, Finset.sum_ite_eq' Finset.univ (prv c) fun _ => 1, Finset.sum_ite_eq' Finset.univ (par c) fun _ => 1,
    if_pos (Finset.mem_univ _), if_pos (Finset.mem_univ _), if_pos (Finset.mem_univ _)]

theorem launch_recv (c : Dev nD) (k : Fin 8) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ ((tgtE k).symm c) fun _ => N, if_pos (Finset.mem_univ _)]

theorem creds (c : Dev nD) :
    (Pipeline.launchCred O₀ c : sProp 𝕄)
      ⊢ iprop(cred (tallyAt (barCell c) () 3) ∗ bigSep Finset.univ fun k : Fin 8 => cred (tallyAt (recvCell c k) () N)) := by
  unfold Pipeline.launchCred
  refine (bigSep_subset (Finset.subset_univ (Finset.univ.map ⟨csem, csem_injective⟩))).trans ?_
  rw [bigSep_map]
  refine (cells_out c fun g => cred (tallyOn g (launchCredit (Pipeline.owing O₀) 0 g))).trans ?_
  rw [launch_bar, show (fun k : Fin 8 => (cred (tallyOn (recvCell c k) (launchCredit (Pipeline.owing O₀) 0 (recvCell c k))) : sProp 𝕄))
    = fun k => cred (tallyAt (recvCell c k) () N) from funext fun k => by rw [launch_recv]]
  iintro ⟨H1, -, H2⟩
  iframe H1 H2

end Cert.KernelIdeal.Mesh

end
-- ==== Proof.RunKernelIdeal.Run.lean ====
/-
# The run of the sixteen devices

From any memory with every counter at zero, the program ends with every device's result array holding the computed
block, the arguments unchanged, and every counter at zero.
-/
module

public import proofs.«01_k».proof.Proof.RunKernelIdeal.Mint

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)}

open Idealize.ShloMosaic.Pipeline (Dat BodyObligation)

variable (ρ : Dev nD → PrngReg)

def u₀ : UU :=
  (initOf (Pipeline.cells cfgs cellOf_inj) (Pipeline.launchToks cfgs cellOf_inj), (initOf meshCells meshToks, 1))

theorem share_eq (c : Dev nD) (w : Fin cfg0.W) : (dats m ρ 0 c).share w = fullShare := by unfold Dat.share; split <;> rfl

theorem mesh_part : (BI.own (embR (initOf meshCells meshToks, (1 : Counters))) : sProp 𝕄) ⊢ BI.own (ER (initOf meshCells meshToks)) := by
  iintro H
  ihave H := (own_pair_emb embR _ _) $$ H
  icases H with ⟨H, -⟩
  iexact H

theorem fund_all :
    (ownU u₀ : sProp 𝕄) ⊢ |={Set.univ}=> iprop(BI.own (EP (initOf (Pipeline.cells cfgs cellOf_inj) (Pipeline.launchToks cfgs cellOf_inj)))
      ∗ bigSep Finset.univ (G m)) := by
  unfold u₀
  iintro Hu
  ihave H := (ownU_pair _ _) $$ Hu
  icases H with ⟨HP, HX⟩
  ihave HX := (mesh_part (F := F)) $$ HX
  imod (fund_mesh m) $$ HX with HG
  imodintro
  isplitl [HP] <;> iassumption

/-- What the device keeps of its second operand while the kernel runs. -/
def keep (c : Dev nD) : sProp 𝕄 := wP m c fullShare.right Finset.univ

theorem rest_is (c : Dev nD) :
    (Pipeline.unscopedRestP Pipeline.Prefetch.none cfg0.spec c (fun b => m ((c : Thread nD τ).loc b)) : sProp 𝕄)
      ⊢ iprop(wP m c fullShare.left Finset.univ ∗ wP m c fullShare.right Finset.univ ∗ (∃ f, outPts c Finset.univ f) ∗ (∃ f, mP c Finset.univ f) ∗ thP c) := by
  rw [Pipeline.unscopedRestP_none, unscopedRest0_eq]
  unfold thP wP outPts mP
  iintro ⟨HW, HO, HM, HT⟩
  ihave HW := (pointsTo_share (PosShare.mem_left_op_right fullShare)).1 $$ HW
  icases HW with ⟨HL, HR⟩
  isplitl [HL]; · iexact HL
  isplitl [HR]; · iexact HR
  isplitl [HO]; · iexists _; iexact HO
  isplitl [HM]; · iexists _; iexact HM
  iexists _; iexact HT

theorem tk_all (c : Dev nD) :
    iprop((bigSep Finset.univ fun k : Fin 8 => dutyTok ER (sendCell c k) 0 0) ∗ (bigSep Finset.univ fun k : Fin 8 => dutyTok ER (recvCell (tgt c k) k) 0 0)
      ∗ bigSep Finset.univ fun k : Fin 8 => atPos ER (sendCell c k) 0 ∅ 0) ⊢ (bigSep Finset.univ fun k => tk c k : sProp 𝕄) := by
  unfold tk
  rw [bigSep_sep', bigSep_sep']
theorem rx_all (c : Dev nD) :
    iprop((bigSep Finset.univ fun k : Fin 8 => cred (tallyAt (recvCell c k) () N)) ∗ bigSep Finset.univ fun k : Fin 8 => atPos ER (recvCell c k) 0 ∅ 0)
      ⊢ (bigSep Finset.univ fun k => rx c k : sProp 𝕄) := by
  unfold rx
  rw [bigSep_sep']

theorem start_intro (c : Dev nD) :
    iprop(Pipeline.unscopedRestP Pipeline.Prefetch.none cfg0.spec c (fun b => m ((c : Thread nD τ).loc b)) ∗ levAts Lx lv
        ∗ Pipeline.launchCred O₀ c ∗ prngReg c (ρ c) ∗ G' m c)
      ⊢ |={Set.univ}=> iprop(start m c ∗ keep m c) := by
  unfold G' payToks
  iintro ⟨Hre, Hlev, Hcr, -, Hkn, ⟨Hat, Hlo⟩, Hhand, HtS, HtR⟩
  ihave Hre := (rest_is m c) $$ Hre
  icases Hre with ⟨HL, HR, HO, HM, HT⟩
  ihave Hcr := (creds (F := F) c) $$ Hcr
  icases Hcr with ⟨HcB, HcR⟩
  ihave Hat := (cells_out c fun g => atPos ER g 0 ∅ 0) $$ Hat
  icases Hat with ⟨HaB, HaS, HaR⟩
  imodintro
  unfold start keep Cx br
  isplitr [HR]
  · isplitl [Hkn Hlev]
    · isplitl [Hkn]; · iexact Hkn
      iexact Hlev
    isplitl [Hhand]; · iexact Hhand
    isplitl [HtS HtR HaS]
    · iapply (tk_all (F := F) c)
      isplitl [HtS]; · iexact HtS
      isplitl [HtR]; · iexact HtR
      iexact HaS
    isplitl [HcR HaR]
    · iapply (rx_all (F := F) c)
      isplitl [HcR]; · iexact HcR
      iexact HaR
    isplitl [HcB HaB]
    · isplitl [HcB]; · iexact HcB
      iexact HaB
    isplitl [Hlo]; · iexact Hlo
    isplitl [HL]; · iexact HL
    isplitl [HM]; · iexact HM
    isplitl [HT]; · iexact HT
    iexact HO
  iexact HR

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

/-- What comes out of the region: the barrier's counter at zero, and the result. -/
def yield (c : Dev nD) : sProp 𝕄 := iprop(unscopedSems0 c ∗ outPts c Finset.univ (result m c))

theorem phi1_exit (c : Dev nD) :
    (dats m ρ 0 c).Φ (Fin.last cfg0.N) ⊢ iprop(yield m c ∗ Pipeline.ownSems0 osem c ∗ Pipeline.scopedRest cfg0.spec c) := by
  rw [show (dats m ρ 0 c).Φ (Fin.last cfg0.N) = Φ₁ m c from rfl]
  unfold Φ₁ yield
  rw [unscoped_is]
  iintro ⟨Hbz, Hsz, Hrz, Hlo, Hsc, Hout⟩
  isplitl [Hbz Hout]
  · isplitl [Hbz]; · iexact Hbz
    iexact Hout
  isplitl [Hsz Hrz Hlo]
  · iapply (own_in c)
    isplitl [Hlo]; · iexact Hlo
    isplitl [Hsz]; · iexact Hsz
    iexact Hrz
  iexact Hsc

theorem waits (c : Dev nD) : (levAts Lx lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the memory says on device `c` at the end, beside its first operand. -/
def QY (c : Dev nD) (s : MemSt nD τ sig (Elt F)) : Prop :=
  (∀ sm : SemLoc sig, sm.isScoped .tc = false → s.sem ((c.tc : Thread nD τ), sm) = 0)
    ∧ s.mem ((c : Thread nD τ).loc main_v1_0) = result m c ∧ s.mem ((c : Thread nD τ).loc main_arg1) = m ((c : Thread nD τ).loc main_arg1)

theorem at_end (c : Dev nD) (s' : Phys nD τ sig (Elt F)) :
    (iprop(yield m c ∗ keep m c ∗ SI s') : sProp 𝕄) ⊢ |={Set.univ}=> iprop(⌜QY m c s'.mem⌝ ∗ SI s') := by
  unfold yield keep outPts wP
  iintro ⟨⟨Hu, HO⟩, HW, HSI⟩
  icombine HSI HO gives %hO
  icombine HSI HW gives %hW
  ihave %hu := (tcUnscoped_read c s') $$ [Hu HSI]
  · isplitl [Hu] <;> iassumption
  imodintro
  isplitr
  · ipureintro
    exact ⟨hu, Buf.eq_of_forall_mem_univ hO, Buf.eq_of_forall_mem_univ hW⟩
  iexact HSI

/-- The whole run. -/
theorem run : θ_run defs (onTc (τ := τ) (main (F := F))) (s₀ m ρ) (fun r =>
    (∀ c : Dev nD, r.2.mem ((c : Thread nD τ).loc main_v1_0) = result m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0)
    (hshare := share_eq m ρ)
    (hdistinct := winFacts0.arr_inj)
    (O₀ := O₀) (howed₀ := fun _ => rfl) (howedN := fun _ => rfl)
    (L := Lx) (lv := lv) (hL := Lx_of_ne) (hwaits := waits m ρ)
    (G := G m) (G' := G' m) (u₀ := u₀)
    (hu₀ := fund_all m)
    (hglob := glob m)
    (hA := fun _ _ => rfl) (hpf := fun _ k => k.elim0)
    (X := start m) (Y := yield m) (Z := keep m)
    (hX := start_intro m ρ) (hin := phi0_intro m ρ) (hout := phi1_exit m ρ)
    (QY := QY m)
    (hY := at_end m)
    (hQ := fun _ h hs => ⟨fun c => ⟨(h c).2.2.2.1, ((h c).1 0).trans ((dats m ρ 0 c).arrAt_in 0 rfl _), (h c).2.2.2.2⟩, sem_eq_zero hs fun c => (h c).2.2.1⟩)

end Cert.KernelIdeal.Mesh

end
-- ==== Proof.Value.Payload.lean ====
/-
  What the kernel's two computing steps give over the extended reals, entry by entry: a block of
  products of rows of the left matrix with columns of a weight block, and the share that an
  exponential has of the two half-rows' sum.
-/
module

public import proofs.«01_k».proof.Proof.RunKernelIdeal.Sched
public import Idealize.ShloMosaic.Lib.Pointwise

@[expose] public section

set_option maxRecDepth 16384

noncomputable section

namespace Cert.KernelIdeal.Mesh

open Cert.KernelIdeal Cert.KernelIdeal.Gen
open Idealize.ShloMosaic Idealize.ShloMosaic.TcCoe

/-- An entry of a block of logits: a row of the left matrix times a column of the weight block. -/
theorem product_apply (x : Vec Ideal S1024x2048 .f32) (w : Vec Ideal S1x2048x1024 .f32) (r s : Fin 1024) :
    (k0_pay1 (k0_pay42 x) w : FVec Ideal S1x1024x1024 .bf16) (ix3 (n0 := 1) (n1 := 1024) (n2 := 1024) 0 r s)
      = ∑ k : Fin 2048, x (ix2 (n0 := 1024) (n1 := 2048) r k) * w (ix3 (n0 := 1) (n1 := 2048) (n2 := 1024) 0 k s) := by
  pointwise [k0_pay1, k0_pay42]

/-- An entry of the first share: its exponential over the sum of both half-rows' exponentials. -/
theorem share_apply (a b : Vec Ideal S32x16384 .bf16) (r : Fin 32) (s : Fin 16384) :
    (k0_pay5 a b : FVec Ideal S32x16384 .f32) (ix2 (n0 := 32) (n1 := 16384) r s)
      = Ideal.div (Ideal.exp (a (ix2 (n0 := 32) (n1 := 16384) r s)))
          ((∑ k : Fin 16384, Ideal.exp (a (ix2 (n0 := 32) (n1 := 16384) r k)))
            + ∑ k : Fin 16384, Ideal.exp (b (ix2 (n0 := 32) (n1 := 16384) r k))) := by
  pointwise [k0_pay5, k0_pay4, k0_pay3, k0_pay2]

/-- An entry of the second share, of the other half-row, over the same sum. -/
theorem share_other_apply (a b : Vec Ideal S32x16384 .bf16) (r : Fin 32) (s : Fin 16384) :
    (k0_pay6 a b : FVec Ideal S32x16384 .f32) (ix2 (n0 := 32) (n1 := 16384) r s)
      = Ideal.div (Ideal.exp (b (ix2 (n0 := 32) (n1 := 16384) r s)))
          ((∑ k : Fin 16384, Ideal.exp (a (ix2 (n0 := 32) (n1 := 16384) r k)))
            + ∑ k : Fin 16384, Ideal.exp (b (ix2 (n0 := 32) (n1 := 16384) r k))) := by
  pointwise [k0_pay6, k0_pay4, k0_pay3, k0_pay2]

end Cert.KernelIdeal.Mesh

end
-- ==== Proof.Value.Quotient.lean ====
/-
  The mathematics of the softmax quotient, on extended reals: dividing the exponentials of shifted
  real numbers by their sum gives what dividing the unshifted ones gives, the greatest of finitely
  many reals is a real, and a sum of products of reals is a real.
-/
module

public import Idealize.ShloMosaic.PureOps
public import Idealize.ShloMosaic.PureOps.Ideal.Laws

@[expose] public section

namespace Cert.Quotient

open Idealize.ShloMosaic

/-- A finite sum of reals, read among the extended reals. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real over a nonzero real. -/
theorem div_real (x y : ℝ) (hy : y ≠ 0) : Ideal.div (x : EReal) (y : EReal) = ((x / y : ℝ) : EReal) := by
  rw [Ideal.div_coe hy, ← EReal.coe_mul, mul_one_div]

/-- A sum of exponentials of reals is positive where there is one. -/
theorem sum_exp_pos {ι : Type} [Fintype ι] (l : ι → ℝ) (i : ι) : 0 < ∑ w, Real.exp (l w) :=
  Finset.sum_pos (fun _ _ => Real.exp_pos _) ⟨i, Finset.mem_univ i⟩

/-- Shifting every exponent by one real leaves each exponential's share of their sum as it was. -/
theorem shifted {ι : Type} [Fintype ι] (l : ι → ℝ) (M : ℝ) (i : ι) :
    Ideal.div (Ideal.exp ((l i : EReal) - (M : EReal))) (0 + ∑ w, Ideal.exp ((l w : EReal) - (M : EReal)))
      = Ideal.div (Ideal.exp (l i : EReal)) (∑ w, Ideal.exp (l w : EReal)) := by
  have hs : ∀ w, Ideal.exp ((l w : EReal) - (M : EReal)) = ((Real.exp (l w - M) : ℝ) : EReal) := fun w => by
    rw [← EReal.coe_sub, Ideal.exp_coe]
  simp only [hs, Ideal.exp_coe, zero_add]
  rw [sum_real, sum_real, div_real _ _ (sum_exp_pos (fun w => l w - M) i).ne', div_real _ _ (sum_exp_pos l i).ne']
  have hM : Real.exp M ≠ 0 := (Real.exp_pos M).ne'
  simp only [Real.exp_sub, ← Finset.sum_div]
  rw [div_div_div_cancel_right₀ hM]

/-- The greatest of finitely many reals, at least one, is a real. -/
theorem max_real {ι : Type} (s : Finset ι) (l : ι → ℝ) (hs : s.Nonempty) :
    ∃ M : ℝ, s.fold max (⊥ : EReal) (fun w => (l w : EReal)) = (M : EReal) := by
  classical
  induction hs using Finset.Nonempty.cons_induction with
  | singleton a => exact ⟨l a, by simp⟩
  | cons a s ha _ ih =>
    obtain ⟨M, hM⟩ := ih
    refine ⟨max (l a) M, ?_⟩
    rw [Finset.fold_cons, hM]
    exact (EReal.coe_strictMono.monotone.map_max).symm

/-- A sum of products of reals is a real. -/
theorem dot_real {ι : Type} [Fintype ι] (x y : ι → EReal) (hx : ∀ k, ∃ a : ℝ, x k = a) (hy : ∀ k, ∃ b : ℝ, y k = b) :
    ∃ d : ℝ, (∑ k, x k * y k) = (d : EReal) := by
  choose a ha using hx
  choose b hb using hy
  exact ⟨∑ k, a k * b k, by simp only [ha, hb, ← EReal.coe_mul]; exact sum_real _ _⟩

/-- An extended real whose absolute value is below infinity is a real. -/
theorem real_of_abs_lt (x : EReal) (h : max x (-x) < ⊤) : ∃ a : ℝ, x = a := by
  induction x with
  | bot => simp at h
  | top => simp at h
  | coe a => exact ⟨a, rfl⟩

end Cert.Quotient
-- ==== Proof.Value.Whole.lean ====
/-
  The product of the left matrix with the whole weight, the two halves of its columns, and the share
  that one entry's exponential has of its row's: what both programs compute.
-/
module

public import proofs.«01_k».proof.Proof.Value.Quotient
public import Idealize.ShloMosaic.Lib.Pointwise

@[expose] public section

noncomputable section

namespace Cert.Whole

open Idealize.ShloMosaic

/-- The entry of the product at row `r` and column `v`. -/
def product (X : (⟨2, ![1024, 2048]⟩ : Shape).Idx → EReal) (W : (⟨2, ![2048, 32768]⟩ : Shape).Idx → EReal)
    (r : Fin 1024) (v : Fin 32768) : EReal :=
  ∑ k : Fin 2048, X (ix2 (n0 := 1024) (n1 := 2048) r k) * W (ix2 (n0 := 2048) (n1 := 32768) k v)

/-- Column `s` of half `h`. -/
def half (h : Fin 2) (s : Fin 16384) : Fin 32768 := ⟨16384 * h.val + s.val, by omega⟩

/-- Each column lies in the half its number divided by the half's width names, at the remainder. -/
theorem half_div_mod (v : Fin 32768) (h : Fin 2) (e : v.val / 16384 = h.val) :
    half h ⟨v.val % 16384, Nat.mod_lt _ (by decide)⟩ = v :=
  Fin.ext (by show 16384 * h.val + v.val % 16384 = v.val; omega)

/-- The other half. -/
def flip (h : Fin 2) : Fin 2 := ⟨1 - h.val, by omega⟩

/-- A sum over twice as many terms, as two sums. -/
theorem sum_two (n N : ℕ) (hN : n + n = N) (f : Fin N → EReal) (g₀ g₁ : Fin n → Fin N) (h₀ : ∀ s, (g₀ s).val = s.val)
    (h₁ : ∀ s, (g₁ s).val = n + s.val) : (∑ v, f v) = (∑ s, f (g₀ s)) + ∑ s, f (g₁ s) := by
  subst hN
  rw [Fin.sum_univ_add]
  exact congrArg₂ (· + ·) (Finset.sum_congr rfl fun s _ => congrArg f (Fin.ext (h₀ s).symm))
    (Finset.sum_congr rfl fun s _ => congrArg f (Fin.ext (h₁ s).symm))

/-- A sum over all columns is the sum over either half plus the sum over the other. -/
theorem sum_halves (f : Fin 32768 → EReal) (h : Fin 2) :
    (∑ s, f (half h s)) + (∑ s, f (half (flip h) s)) = ∑ v, f v := by
  have hv : ∀ (a : Fin 2) (s : Fin 16384), (half a s).val = 16384 * a.val + s.val := fun _ _ => rfl
  have e := sum_two 16384 32768 (by norm_num) f (half 0) (half 1) (fun s => by rw [hv]; simp) (fun s => by rw [hv]; simp)
  rcases (by omega : h = 0 ∨ h = 1) with rfl | rfl
  · exact e.symm
  · rw [add_comm]; exact e.symm

/-- The share of the exponential of entry `v` among those of its whole row. -/
def share (l : Fin 32768 → EReal) (v : Fin 32768) : EReal := Ideal.div (Ideal.exp (l v)) (∑ w, Ideal.exp (l w))

end Cert.Whole

end
-- ==== Proof.Value.Shares.lean ====
/-
  What the run leaves in the result of each device, over the extended reals: the two logits buffers
  are the two halves of the product with the whole weight, so every entry of the result is the share
  its exponential has of the whole row's.
-/
module

public import proofs.«01_k».proof.Proof.Value.Payload
public import proofs.«01_k».proof.Proof.Value.Whole

@[expose] public section

set_option maxRecDepth 16384

noncomputable section

namespace Cert.KernelIdeal.Mesh

open Cert.KernelIdeal Cert.KernelIdeal.Gen Cert.Whole
open Idealize.ShloMosaic Idealize.ShloMosaic.TcCoe

/-- The launch contents of every device's arguments are these whole arrays': all of `X`, and of `W` the half of the
    columns that belongs to the device's ring. -/
structure Holds (m : (ℓ : Loc nD τ sig) → Buf (Elt Ideal) ℓ) (X : S1024x2048.Idx → EReal)
    (W : (⟨2, ![2048, 32768]⟩ : Shape).Idx → EReal) : Prop where
  left : ∀ c, xin m c = X
  right : ∀ c (k : Fin 2048) (s : Fin 16384), wbuf m c (ix2 (n0 := 2048) (n1 := 16384) k s) = W (ix2 k (half (side c) s))

variable {m : (ℓ : Loc nD τ sig) → Buf (Elt Ideal) ℓ} {X : S1024x2048.Idx → EReal}
variable {W : (⟨2, ![2048, 32768]⟩ : Shape).Idx → EReal}

/-- The first logits buffer of a device is the product in the columns of the own ring's half. -/
theorem logits_apply (h : Holds m X W) (c : Dev nD) (r : Fin 1024) (s : Fin 16384) :
    logits m c (ix2 (n0 := 1024) (n1 := 16384) r s) = product X W r (half (side c) s) := by
  unfold logits
  refine (product_apply _ _ _ _).trans (Finset.sum_congr rfl fun k _ => ?_)
  rw [h.left c]
  refine congrArg₂ (· * ·) rfl ((congrArg (wbuf m c) ?_).trans (h.right c k s))
  refine congrArg (ix2 (n0 := 2048) (n1 := 16384) k) (Fin.ext ?_)
  show (1024 * (s.val / 1024) + s.val % 1024) % 16384 = s.val
  omega

/-- The second one is the product in the columns of the other half. -/
theorem other_apply (h : Holds m X W) (c : Dev nD) (r : Fin 1024) (s : Fin 16384) :
    other m c (ix2 (n0 := 1024) (n1 := 16384) r s) = product X W r (half (flip (side c)) s) := by
  unfold other
  refine (logits_apply h _ r s).trans (congrArg (fun a => product X W r (half a s)) ?_)
  rw [side_src]
  exact Fin.ext (side_par c)

/-- Rows of a buffer taken 32 at a time: row `r` is in its group at the remainder. -/
theorem rows32_apply (f : S1024x16384.Idx → EReal) (r : Fin 1024) (s : Fin 16384) :
    rows32 (F := Ideal) f (r.val / 32) (ix2 (n0 := 32) (n1 := 16384) ⟨r.val % 32, Nat.mod_lt _ (by decide)⟩ s)
      = f (ix2 (n0 := 1024) (n1 := 16384) r s) := by
  refine congrArg f (congrArg (fun a => ix2 (n0 := 1024) (n1 := 16384) a s) (Fin.ext ?_))
  show (32 * (r.val / 32) + r.val % 32) % 1024 = r.val
  omega

/-- Every device's result is the share of each exponential in its whole row. -/
theorem result_apply (h : Holds m X W) (c : Dev nD) (r : Fin 1024) (v : Fin 32768) :
    result m c (ix2 (n0 := 1024) (n1 := 32768) r v) = share (product X W r) v := by
  have hs : (∑ k : Fin 16384, Ideal.exp (product X W r (half (side c) k)))
      + (∑ k : Fin 16384, Ideal.exp (product X W r (half (flip (side c)) k))) = ∑ w, Ideal.exp (product X W r w) :=
    sum_halves (fun w => Ideal.exp (product X W r w)) (side c)
  unfold result
  show (if v.val / 16384 = (side c).val then k0_pay5 (rows32 (logits m c) (r.val / 32)) (rows32 (other m c) (r.val / 32))
      else k0_pay6 (rows32 (logits m c) (r.val / 32)) (rows32 (other m c) (r.val / 32)) : FVec Ideal S32x16384 .f32)
      (ix2 (n0 := 32) (n1 := 16384) ⟨r.val % 32, Nat.mod_lt _ (by decide)⟩ ⟨v.val % 16384, Nat.mod_lt _ (by decide)⟩) = _
  split
  · next e =>
    refine (share_apply _ _ _ _).trans ?_
    simp only [rows32_apply, logits_apply h, other_apply h, hs]
    rw [half_div_mod v _ e]; rfl
  · next e =>
    have e' : v.val / 16384 = (flip (side c)).val := by
      show v.val / 16384 = 1 - (side c).val
      omega
    refine (share_other_apply _ _ _ _).trans ?_
    simp only [rows32_apply, logits_apply h, other_apply h, hs]
    rw [half_div_mod v _ e']; rfl

end Cert.KernelIdeal.Mesh

end
-- ==== Proof.Value.Reference.lean ====
/-
  What the reference leaves in its result, over the extended reals, where the product of its two
  arguments is real: each entry is the share its exponential has of its row's, since taking the row's
  greatest entry off every exponent first changes no share.
-/
module

public import proofs.«01_k».proof.Proof.Value.Whole
public import proofs.«01_k».proof.Proof.Gen.ReferenceIdeal.Run

@[expose] public section

set_option maxRecDepth 16384

noncomputable section

namespace Cert.ReferenceIdeal.Softmax

open Cert.ReferenceIdeal Cert.ReferenceIdeal.Gen Cert.Whole
open Idealize.ShloMosaic

/-- The reference's product. -/
def dot (X : FVec Ideal S1024x2048 .f32) (W : FVec Ideal S2048x32768 .f32) : FVec Ideal S1024x32768 .f32 :=
  Host.dotGeneral dot_S1024x2048_S2048x32768_S1024x32768_1_0_0_1_n_n none X W

/-- The rest of the reference, from the product on. -/
def soft (L : FVec Ideal S1024x32768 .f32) : FVec Ideal S1024x32768 .f32 :=
  have e : FVec Ideal S1024x32768 .f32 := Host.exp (subf L (broadcastInDim S1024x32768 ![0, 1] bcast_S1024x1_S1024x32768_0_1
    (broadcastInDim S1024x1 ![0] bcast_S1024_S1024x1_0
      (Host.reduce FloatOps.maximumf L (constant S_ .f32 0xFF800000#32) reducesTo_S1024x32768_S1024_d1 h_S_))))
  Host.divf e (broadcastInDim S1024x32768 ![0, 1] bcast_S1024x1_S1024x32768_0_1 (broadcastInDim S1024x1 ![0] bcast_S1024_S1024x1_0
    (Host.reduceAdd e (constant S_ .f32 0x00000000#32) reducesTo_S1024x32768_S1024_d1 h_S_)))

theorem dot_apply (X : FVec Ideal S1024x2048 .f32) (W : FVec Ideal S2048x32768 .f32) (r : Fin 1024) (v : Fin 32768) :
    dot X W (ix2 (n0 := 1024) (n1 := 32768) r v) = product X W r v := by
  pointwise [dot, product]

/-- The pattern the maximum starts from is the least extended real. -/
theorem start_bot : Ideal.ofBits .f32 0xFF800000#32 = ⊥ := by
  simp [Ideal.ofBits, Ideal.ieee]

theorem soft_apply (L : FVec Ideal S1024x32768 .f32) (r : Fin 1024) (v : Fin 32768) :
    ∃ M : EReal, M = Finset.univ.fold max ⊥ (fun w : Fin 32768 => L (ix2 (n0 := 1024) (n1 := 32768) r w)) ∧
    soft L (ix2 (n0 := 1024) (n1 := 32768) r v)
      = Ideal.div (Ideal.exp (L (ix2 (n0 := 1024) (n1 := 32768) r v) - M))
          (0 + ∑ w : Fin 32768, Ideal.exp (L (ix2 (n0 := 1024) (n1 := 32768) r w) - M)) := by
  refine ⟨_, rfl, ?_⟩
  pointwise [soft, start_bot]

end Cert.ReferenceIdeal.Softmax

end
-- ==== Proof.Value.Equation.lean ====
/-
  The value claim's mathematics put together: finite arguments are real, the devices' blocks are the
  halves of the reference's weight, and so every device's result is the reference's.
-/
module

public import proofs.«01_k».proof.Pre_finite_KernelIdeal
public import proofs.«01_k».proof.Proof.Value.Shares
public import proofs.«01_k».proof.Proof.Value.Reference
public import Idealize.ShloMosaic.Lib.Layout

@[expose] public section

set_option maxRecDepth 16384

noncomputable section

namespace Cert.Equation

open Cert.Whole Cert.Quotient
open Idealize.ShloMosaic Idealize.ShloMosaic.TcCoe

/-! ## The precondition -/

instance facts : Cert.Pre_finite_KernelIdeal.Facts where
  bcast_S_S1024x2048 := by decide
  bcast_S_S2048x16384 := by decide

/-- The pattern the precondition compares with is the greatest extended real. -/
theorem bound_top : Ideal.ofBits .f32 0x7F800000#32 = ⊤ := by
  simp [Ideal.ofBits, Ideal.ieee]

/-- What the comparison says of one entry. -/
theorem real_of_test (x : EReal) (h : FloatOps.cmpf (F := Ideal) (φ := .f32) .olt (FloatOps.absf (F := Ideal) (φ := .f32) x)
    (Ideal.ofBits .f32 0x7F800000#32) = 1#1) : ∃ a : ℝ, x = a := by
  refine real_of_abs_lt x ?_
  rw [bound_top] at h
  by_contra hn
  have : FloatOps.cmpf (F := Ideal) (φ := .f32) .olt (FloatOps.absf (F := Ideal) (φ := .f32) x) (⊤ : EReal) = 0#1 := by
    simp [Ideal.cmpf_def, Ideal.absf_def, Ideal.cmp, hn]
  rw [this] at h
  exact absurd h (by decide)

theorem left_real (x : FVec Ideal ⟨2, ![1024, 2048]⟩ .f32) (w : FVec Ideal ⟨2, ![2048, 16384]⟩ .f32)
    (h : (Cert.Pre_finite_KernelIdeal.fn x w).1 = fun _ => 1#1) (i) : ∃ a : ℝ, x i = a :=
  real_of_test _ (congrFun h i)

theorem right_real (x : FVec Ideal ⟨2, ![1024, 2048]⟩ .f32) (w : FVec Ideal ⟨2, ![2048, 16384]⟩ .f32)
    (h : (Cert.Pre_finite_KernelIdeal.fn x w).2 = fun _ => 1#1) (i) : ∃ a : ℝ, w i = a :=
  real_of_test _ (congrFun h i)

/-! ## The devices' blocks -/

/-- A device's block of the weight is the half of the columns that belongs to its ring. -/
theorem block_apply (c : Fin 16) (W : (⟨2, ![2048, 32768]⟩ : Shape).Idx → EReal) (k : Fin 2048) (s : Fin 16384) :
    (Layout.blockN ⟨2, ![2048, 16384]⟩ ⟨2, ![2048, 32768]⟩ (Layout.meshBlock [2, 2, 4] ![[], [0]] c) W)
        (ix2 (n0 := 2048) (n1 := 16384) k s) = W (ix2 (n0 := 2048) (n1 := 32768) k (half (Cert.KernelIdeal.Mesh.side c) s)) := by
  rw [Layout.blockN_apply]
  refine congrArg W (funext fun b => Fin.ext ?_)
  rw [Layout.TilesN.idx_val]
  have hc : c.val / 8 % 2 = c.val / 8 := Nat.mod_eq_of_lt (by omega)
  fin_cases b
  · show 0 * 2048 + k.val = k.val
    omega
  · show (c.val / 8 % 2 * 1 + 0) * 16384 + s.val = 16384 * (c.val / 8) + s.val
    omega

/-- Each column of the whole weight is in some device's block. -/
theorem column (v : Fin 32768) : ∃ (c : Fin 16) (s : Fin 16384), half (Cert.KernelIdeal.Mesh.side c) s = v := by
  refine ⟨⟨8 * (v.val / 16384), by omega⟩, ⟨v.val % 16384, Nat.mod_lt _ (by decide)⟩, half_div_mod v _ ?_⟩
  show v.val / 16384 = 8 * (v.val / 16384) / 8
  omega

/-! ## The equation -/

open Cert.KernelIdeal.Mesh Cert.ReferenceIdeal.Softmax in
/-- Of real arguments, every device's result is the reference's. -/
theorem result_eq {m : (ℓ : Loc Cert.KernelIdeal.nD Cert.KernelIdeal.τ Cert.KernelIdeal.sig) → Buf (Elt Ideal) ℓ}
    {X : FVec Ideal ⟨2, ![1024, 2048]⟩ .f32} {W : FVec Ideal ⟨2, ![2048, 32768]⟩ .f32} (h : Holds m X W)
    (hX : ∀ i, ∃ a : ℝ, X i = a) (hW : ∀ i, ∃ a : ℝ, W i = a) (c : Dev Cert.KernelIdeal.nD) :
    (result m c : FVec Ideal ⟨2, ![1024, 32768]⟩ .f32) = soft (dot X W) := by
  suffices hrv : ∀ (r : Fin 1024) (v : Fin 32768), result m c (ix2 (n0 := 1024) (n1 := 32768) r v)
      = soft (dot X W) (ix2 (n0 := 1024) (n1 := 32768) r v) from
    funext fun i => (congrArg (result m c) (eq_ix2 i)).trans ((hrv (i 0) (i 1)).trans (congrArg (soft (dot X W)) (eq_ix2 i).symm))
  intro r v
  refine (result_apply h c r v).trans ?_
  have hd : ∀ w, ∃ d : ℝ, product X W r w = d := fun w => dot_real _ _ (fun _ => hX _) (fun _ => hW _)
  choose d hd using hd
  obtain ⟨M, hM, e⟩ := soft_apply (dot X W) r v
  refine Eq.trans ?_ e.symm
  simp only [dot_apply, hd] at hM ⊢
  obtain ⟨M', hM'⟩ := max_real Finset.univ d ⟨v, Finset.mem_univ v⟩
  rw [hM'] at hM
  rw [hM, shifted d M' v]
  simp only [share, hd]

end Cert.Equation

end
-- ==== Proof.lean ====
/-
  The certificate's claims, assembled: the mesh kernel's run with every content and every counter gives
  its frames, the reference's operation list gives the reference's, and the equation between the two
  results gives the value claim.
-/
module

public import proofs.«01_k».proof.Defs
public import proofs.«01_k».proof.Proof.RunKernel.Run
public import proofs.«01_k».proof.Proof.RunKernelIdeal.Run
public import proofs.«01_k».proof.Proof.Value.Equation
public import Idealize.ShloMosaic.Lib.Quiescent

@[expose] public section

set_option maxRecDepth 16384

noncomputable section

namespace Cert.Proof

open Idealize.ShloMosaic Idealize.ShloMosaic.TcCoe Idealize.SL.Sem

instance factsR : Cert.Pre_finite_ReferenceIdeal.Facts where
  bcast_S_S1024x2048 := by decide
  bcast_S_S2048x32768 := by decide

/-- The kernel's frame, at words. -/
theorem frameP : Cert.quiescent_Kernel := fun m g _ =>
  (θ_run _ _ _).mono (fun _ h => ⟨fun c => (h.1 c).2, h.2⟩) (Cert.Kernel.Mesh.run m g)

/-- The idealized kernel's frame, -/
theorem framePI : Cert.quiescent_KernelIdeal := fun m g _ =>
  (θ_run _ _ _).mono (fun _ h => ⟨fun c => (h.1 c).2, h.2⟩) (Cert.KernelIdeal.Mesh.run m g)

/-- also from finite arguments. -/
theorem framePI_finite : Cert.quiescent_KernelIdeal_pre_finite_KernelIdeal := fun m g _ =>
  (θ_run _ _ _).mono (fun _ h => ⟨fun c => (h.1 c).2, h.2⟩) (Cert.KernelIdeal.Mesh.run m g)

/-- The reference's frame, whatever its arguments. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems rfl _⟩) (Cert.ReferenceIdeal.Value.run m g)

theorem frameRI : Cert.quiescent_ReferenceIdeal := fun m g _ => reference_frame m g
theorem frameRI_finite : Cert.quiescent_ReferenceIdeal_pre_finite_ReferenceIdeal := fun m g _ => reference_frame m g

/-- The value claim: every device's result is the reference's. -/
theorem value : Cert.algebraic_KernelIdeal_ReferenceIdeal_pre_finite_KernelIdeal := by
  intro m g m' g' hpre harg
  have hh : Cert.KernelIdeal.Mesh.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (harg c).1, fun c k s => (congrFun (harg c).2 _).trans (Cert.Equation.block_apply c _ k s)⟩
  refine ⟨_, ?_, (θ_run _ _ _).mono (fun _ h => h 0) (Cert.ReferenceIdeal.Value.run m' g')⟩
  refine (θ_run _ _ _).mono (fun _ h c => ⟨(h.1 c).1.trans ?_, (h.1 c).2⟩) (Cert.KernelIdeal.Mesh.run m g)
  refine Cert.Equation.result_eq hh (fun i => ?_) (fun i => ?_) c
  · obtain ⟨a, ha⟩ := Cert.Equation.left_real _ _ (hpre 0).1 i
    exact ⟨a, (congrFun (hh.left 0) i).symm.trans ha⟩
  · obtain ⟨d, s, e⟩ := Cert.Equation.column (i 1)
    obtain ⟨a, ha⟩ := Cert.Equation.right_real _ _ (hpre d).2 (ix2 (n0 := 2048) (n1 := 16384) (i 0) s)
    refine ⟨a, Eq.trans ?_ ha⟩
    refine Eq.trans ?_ (hh.right d (i 0) s).symm
    rw [e]
    exact congrArg _ (eq_ix2 i)

end Cert.Proof

theorem Cert.Proof.claim : Cert.Claim :=
  ⟨Cert.Kernel.Gen.facts, Cert.KernelIdeal.Gen.facts, Cert.ReferenceIdeal.Gen.facts, Cert.Equation.facts, Cert.Proof.factsR,
    Cert.Proof.frameP, Cert.Proof.framePI, Cert.Proof.framePI_finite, Cert.Proof.frameRI, Cert.Proof.frameRI_finite, trivial,
    Cert.Proof.value⟩

end
